-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelInprojBwd (m : (ℓ : Loc Cert.KernelInprojBwd.nD Cert.KernelInprojBwd.τ Cert.KernelInprojBwd.sig) → Buf (Elt Bits) ℓ) : Prop :=
  True

def Pre_KernelInprojBwdIdeal (m : (ℓ : Loc Cert.KernelInprojBwdIdeal.nD Cert.KernelInprojBwdIdeal.τ Cert.KernelInprojBwdIdeal.sig) → Buf (Elt Ideal) ℓ) : Prop :=
  True

def Pre_ReferenceInprojBwdIdeal (m : (ℓ : Loc Cert.ReferenceInprojBwdIdeal.nD Cert.ReferenceInprojBwdIdeal.τ Cert.ReferenceInprojBwdIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelFfnBwd (m : (ℓ : Loc Cert.KernelFfnBwd.nD Cert.KernelFfnBwd.τ Cert.KernelFfnBwd.sig) → Buf (Elt Bits) ℓ) : Prop :=
  True

def Pre_KernelFfnBwdIdeal (m : (ℓ : Loc Cert.KernelFfnBwdIdeal.nD Cert.KernelFfnBwdIdeal.τ Cert.KernelFfnBwdIdeal.sig) → Buf (Elt Ideal) ℓ) : Prop :=
  True

def Pre_KernelFfnBwdIdeal_finite [hPre_finite : Cert.Pre_finite.Facts] (m : (ℓ : Loc Cert.KernelFfnBwdIdeal.nD Cert.KernelFfnBwdIdeal.τ Cert.KernelFfnBwdIdeal.sig) → Buf (Elt Ideal) ℓ) : Prop :=
  ∀ c : Dev Cert.KernelFfnBwdIdeal.nD,
    (Cert.Pre_finite.fn (F := Ideal) (m ((c.tc : Thread Cert.KernelFfnBwdIdeal.nD Cert.KernelFfnBwdIdeal.τ).loc Cert.KernelFfnBwdIdeal.main_arg0)) (m ((c.tc : Thread Cert.KernelFfnBwdIdeal.nD Cert.KernelFfnBwdIdeal.τ).loc Cert.KernelFfnBwdIdeal.main_arg1)) (m ((c.tc : Thread Cert.KernelFfnBwdIdeal.nD Cert.KernelFfnBwdIdeal.τ).loc Cert.KernelFfnBwdIdeal.main_arg2)) (m ((c.tc : Thread Cert.KernelFfnBwdIdeal.nD Cert.KernelFfnBwdIdeal.τ).loc Cert.KernelFfnBwdIdeal.main_arg3)) (m ((c.tc : Thread Cert.KernelFfnBwdIdeal.nD Cert.KernelFfnBwdIdeal.τ).loc Cert.KernelFfnBwdIdeal.main_arg4)) (m ((c.tc : Thread Cert.KernelFfnBwdIdeal.nD Cert.KernelFfnBwdIdeal.τ).loc Cert.KernelFfnBwdIdeal.main_arg5)) (m ((c.tc : Thread Cert.KernelFfnBwdIdeal.nD Cert.KernelFfnBwdIdeal.τ).loc Cert.KernelFfnBwdIdeal.main_arg6))) = (fun _ => 1#1)

def Pre_ReferenceFfnBwdIdeal (m : (ℓ : Loc Cert.ReferenceFfnBwdIdeal.nD Cert.ReferenceFfnBwdIdeal.τ Cert.ReferenceFfnBwdIdeal.sig) → Buf (Elt Ideal) ℓ) : Prop :=
  True

def Pre_ReferenceFfnBwdIdeal_finite [hPre_finite : Cert.Pre_finite.Facts] (m : (ℓ : Loc Cert.ReferenceFfnBwdIdeal.nD Cert.ReferenceFfnBwdIdeal.τ Cert.ReferenceFfnBwdIdeal.sig) → Buf (Elt Ideal) ℓ) : Prop :=
  ∀ c : Dev Cert.ReferenceFfnBwdIdeal.nD,
    (Cert.Pre_finite.fn (F := Ideal) (m ((c.tc : Thread Cert.ReferenceFfnBwdIdeal.nD Cert.ReferenceFfnBwdIdeal.τ).loc Cert.ReferenceFfnBwdIdeal.main_arg0)) (m ((c.tc : Thread Cert.ReferenceFfnBwdIdeal.nD Cert.ReferenceFfnBwdIdeal.τ).loc Cert.ReferenceFfnBwdIdeal.main_arg1)) (m ((c.tc : Thread Cert.ReferenceFfnBwdIdeal.nD Cert.ReferenceFfnBwdIdeal.τ).loc Cert.ReferenceFfnBwdIdeal.main_arg2)) (m ((c.tc : Thread Cert.ReferenceFfnBwdIdeal.nD Cert.ReferenceFfnBwdIdeal.τ).loc Cert.ReferenceFfnBwdIdeal.main_arg3)) (m ((c.tc : Thread Cert.ReferenceFfnBwdIdeal.nD Cert.ReferenceFfnBwdIdeal.τ).loc Cert.ReferenceFfnBwdIdeal.main_arg4)) (m ((c.tc : Thread Cert.ReferenceFfnBwdIdeal.nD Cert.ReferenceFfnBwdIdeal.τ).loc Cert.ReferenceFfnBwdIdeal.main_arg5)) (m ((c.tc : Thread Cert.ReferenceFfnBwdIdeal.nD Cert.ReferenceFfnBwdIdeal.τ).loc Cert.ReferenceFfnBwdIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2))
      ∧ r.2.sem = fun _ => 0)

def quiescent_KernelInprojBwd [hKernelInprojBwd : Cert.KernelInprojBwd.Facts] : Prop :=
  ∀ (m : (ℓ : Loc Cert.KernelInprojBwd.nD Cert.KernelInprojBwd.τ Cert.KernelInprojBwd.sig) → Buf (Elt Bits) ℓ) (g : Dev Cert.KernelInprojBwd.nD → PrngReg), Pre_KernelInprojBwd m →
    θ_run (Cert.KernelInprojBwd.defs (F := Bits)) (onTc (τ := Cert.KernelInprojBwd.τ) (Cert.KernelInprojBwd.main (F := Bits))) ⟨m, fun _ => 0, g⟩ (fun r => (∀ c : Dev Cert.KernelInprojBwd.nD,
      r.2.mem ((c.tc : Thread Cert.KernelInprojBwd.nD Cert.KernelInprojBwd.τ).loc Cert.KernelInprojBwd.main_arg0) = m ((c.tc : Thread Cert.KernelInprojBwd.nD Cert.KernelInprojBwd.τ).loc Cert.KernelInprojBwd.main_arg0)
      ∧ r.2.mem ((c.tc : Thread Cert.KernelInprojBwd.nD Cert.KernelInprojBwd.τ).loc Cert.KernelInprojBwd.main_arg1) = m ((c.tc : Thread Cert.KernelInprojBwd.nD Cert.KernelInprojBwd.τ).loc Cert.KernelInprojBwd.main_arg1)
      ∧ r.2.mem ((c.tc : Thread Cert.KernelInprojBwd.nD Cert.KernelInprojBwd.τ).loc Cert.KernelInprojBwd.main_arg2) = m ((c.tc : Thread Cert.KernelInprojBwd.nD Cert.KernelInprojBwd.τ).loc Cert.KernelInprojBwd.main_arg2)
      ∧ r.2.mem ((c.tc : Thread Cert.KernelInprojBwd.nD Cert.KernelInprojBwd.τ).loc Cert.KernelInprojBwd.main_arg3) = m ((c.tc : Thread Cert.KernelInprojBwd.nD Cert.KernelInprojBwd.τ).loc Cert.KernelInprojBwd.main_arg3)
      ∧ r.2.mem ((c.tc : Thread Cert.KernelInprojBwd.nD Cert.KernelInprojBwd.τ).loc Cert.KernelInprojBwd.main_arg4) = m ((c.tc : Thread Cert.KernelInprojBwd.nD Cert.KernelInprojBwd.τ).loc Cert.KernelInprojBwd.main_arg4)
      ∧ r.2.mem ((c.tc : Thread Cert.KernelInprojBwd.nD Cert.KernelInprojBwd.τ).loc Cert.KernelInprojBwd.main_arg5) = m ((c.tc : Thread Cert.KernelInprojBwd.nD Cert.KernelInprojBwd.τ).loc Cert.KernelInprojBwd.main_arg5)
      ∧ r.2.mem ((c.tc : Thread Cert.KernelInprojBwd.nD Cert.KernelInprojBwd.τ).loc Cert.KernelInprojBwd.main_arg6) = m ((c.tc : Thread Cert.KernelInprojBwd.nD Cert.KernelInprojBwd.τ).loc Cert.KernelInprojBwd.main_arg6)
      ∧ r.2.mem ((c.tc : Thread Cert.KernelInprojBwd.nD Cert.KernelInprojBwd.τ).loc Cert.KernelInprojBwd.main_arg7) = m ((c.tc : Thread Cert.KernelInprojBwd.nD Cert.KernelInprojBwd.τ).loc Cert.KernelInprojBwd.main_arg7)
      ∧ r.2.mem ((c.tc : Thread Cert.KernelInprojBwd.nD Cert.KernelInprojBwd.τ).loc Cert.KernelInprojBwd.main_arg8) = m ((c.tc : Thread Cert.KernelInprojBwd.nD Cert.KernelInprojBwd.τ).loc Cert.KernelInprojBwd.main_arg8)
      ∧ r.2.mem ((c.tc : Thread Cert.KernelInprojBwd.nD Cert.KernelInprojBwd.τ).loc Cert.KernelInprojBwd.main_arg9) = m ((c.tc : Thread Cert.KernelInprojBwd.nD Cert.KernelInprojBwd.τ).loc Cert.KernelInprojBwd.main_arg9)
      ∧ r.2.mem ((c.tc : Thread Cert.KernelInprojBwd.nD Cert.KernelInprojBwd.τ).loc Cert.KernelInprojBwd.main_arg10) = m ((c.tc : Thread Cert.KernelInprojBwd.nD Cert.KernelInprojBwd.τ).loc Cert.KernelInprojBwd.main_arg10)
      ∧ r.2.mem ((c.tc : Thread Cert.KernelInprojBwd.nD Cert.KernelInprojBwd.τ).loc Cert.KernelInprojBwd.main_arg11) = m ((c.tc : Thread Cert.KernelInprojBwd.nD Cert.KernelInprojBwd.τ).loc Cert.KernelInprojBwd.main_arg11))
      ∧ r.2.sem = fun _ => 0)

def quiescent_KernelInprojBwdIdeal [hKernelInprojBwdIdeal : Cert.KernelInprojBwdIdeal.Facts] : Prop :=
  ∀ (m : (ℓ : Loc Cert.KernelInprojBwdIdeal.nD Cert.KernelInprojBwdIdeal.τ Cert.KernelInprojBwdIdeal.sig) → Buf (Elt Ideal) ℓ) (g : Dev Cert.KernelInprojBwdIdeal.nD → PrngReg), Pre_KernelInprojBwdIdeal m →
    θ_run (Cert.KernelInprojBwdIdeal.defs (F := Ideal)) (onTc (τ := Cert.KernelInprojBwdIdeal.τ) (Cert.KernelInprojBwdIdeal.main (F := Ideal))) ⟨m, fun _ => 0, g⟩ (fun r => (∀ c : Dev Cert.KernelInprojBwdIdeal.nD,
      r.2.mem ((c.tc : Thread Cert.KernelInprojBwdIdeal.nD Cert.KernelInprojBwdIdeal.τ).loc Cert.KernelInprojBwdIdeal.main_arg0) = m ((c.tc : Thread Cert.KernelInprojBwdIdeal.nD Cert.KernelInprojBwdIdeal.τ).loc Cert.KernelInprojBwdIdeal.main_arg0)
      ∧ r.2.mem ((c.tc : Thread Cert.KernelInprojBwdIdeal.nD Cert.KernelInprojBwdIdeal.τ).loc Cert.KernelInprojBwdIdeal.main_arg1) = m ((c.tc : Thread Cert.KernelInprojBwdIdeal.nD Cert.KernelInprojBwdIdeal.τ).loc Cert.KernelInprojBwdIdeal.main_arg1)
      ∧ r.2.mem ((c.tc : Thread Cert.KernelInprojBwdIdeal.nD Cert.KernelInprojBwdIdeal.τ).loc Cert.KernelInprojBwdIdeal.main_arg2) = m ((c.tc : Thread Cert.KernelInprojBwdIdeal.nD Cert.KernelInprojBwdIdeal.τ).loc Cert.KernelInprojBwdIdeal.main_arg2)
      ∧ r.2.mem ((c.tc : Thread Cert.KernelInprojBwdIdeal.nD Cert.KernelInprojBwdIdeal.τ).loc Cert.KernelInprojBwdIdeal.main_arg3) = m ((c.tc : Thread Cert.KernelInprojBwdIdeal.nD Cert.KernelInprojBwdIdeal.τ).loc Cert.KernelInprojBwdIdeal.main_arg3)
      ∧ r.2.mem ((c.tc : Thread Cert.KernelInprojBwdIdeal.nD Cert.KernelInprojBwdIdeal.τ).loc Cert.KernelInprojBwdIdeal.main_arg4) = m ((c.tc : Thread Cert.KernelInprojBwdIdeal.nD Cert.KernelInprojBwdIdeal.τ).loc Cert.KernelInprojBwdIdeal.main_arg4)
      ∧ r.2.mem ((c.tc : Thread Cert.KernelInprojBwdIdeal.nD Cert.KernelInprojBwdIdeal.τ).loc Cert.KernelInprojBwdIdeal.main_arg5) = m ((c.tc : Thread Cert.KernelInprojBwdIdeal.nD Cert.KernelInprojBwdIdeal.τ).loc Cert.KernelInprojBwdIdeal.main_arg5)
      ∧ r.2.mem ((c.tc : Thread Cert.KernelInprojBwdIdeal.nD Cert.KernelInprojBwdIdeal.τ).loc Cert.KernelInprojBwdIdeal.main_arg6) = m ((c.tc : Thread Cert.KernelInprojBwdIdeal.nD Cert.KernelInprojBwdIdeal.τ).loc Cert.KernelInprojBwdIdeal.main_arg6)
      ∧ r.2.mem ((c.tc : Thread Cert.KernelInprojBwdIdeal.nD Cert.KernelInprojBwdIdeal.τ).loc Cert.KernelInprojBwdIdeal.main_arg7) = m ((c.tc : Thread Cert.KernelInprojBwdIdeal.nD Cert.KernelInprojBwdIdeal.τ).loc Cert.KernelInprojBwdIdeal.main_arg7)
      ∧ r.2.mem ((c.tc : Thread Cert.KernelInprojBwdIdeal.nD Cert.KernelInprojBwdIdeal.τ).loc Cert.KernelInprojBwdIdeal.main_arg8) = m ((c.tc : Thread Cert.KernelInprojBwdIdeal.nD Cert.KernelInprojBwdIdeal.τ).loc Cert.KernelInprojBwdIdeal.main_arg8)
      ∧ r.2.mem ((c.tc : Thread Cert.KernelInprojBwdIdeal.nD Cert.KernelInprojBwdIdeal.τ).loc Cert.KernelInprojBwdIdeal.main_arg9) = m ((c.tc : Thread Cert.KernelInprojBwdIdeal.nD Cert.KernelInprojBwdIdeal.τ).loc Cert.KernelInprojBwdIdeal.main_arg9)
      ∧ r.2.mem ((c.tc : Thread Cert.KernelInprojBwdIdeal.nD Cert.KernelInprojBwdIdeal.τ).loc Cert.KernelInprojBwdIdeal.main_arg10) = m ((c.tc : Thread Cert.KernelInprojBwdIdeal.nD Cert.KernelInprojBwdIdeal.τ).loc Cert.KernelInprojBwdIdeal.main_arg10)
      ∧ r.2.mem ((c.tc : Thread Cert.KernelInprojBwdIdeal.nD Cert.KernelInprojBwdIdeal.τ).loc Cert.KernelInprojBwdIdeal.main_arg11) = m ((c.tc : Thread Cert.KernelInprojBwdIdeal.nD Cert.KernelInprojBwdIdeal.τ).loc Cert.KernelInprojBwdIdeal.main_arg11))
      ∧ r.2.sem = fun _ => 0)

def quiescent_ReferenceInprojBwdIdeal [hReferenceInprojBwdIdeal : Cert.ReferenceInprojBwdIdeal.Facts] : Prop :=
  ∀ (m : (ℓ : Loc Cert.ReferenceInprojBwdIdeal.nD Cert.ReferenceInprojBwdIdeal.τ Cert.ReferenceInprojBwdIdeal.sig) → Buf (Elt Ideal) ℓ) (g : Dev Cert.ReferenceInprojBwdIdeal.nD → PrngReg), Pre_ReferenceInprojBwdIdeal m →
    θ_run (Cert.ReferenceInprojBwdIdeal.defs (F := Ideal)) (onTc (τ := Cert.ReferenceInprojBwdIdeal.τ) (Cert.ReferenceInprojBwdIdeal.main (F := Ideal))) ⟨m, fun _ => 0, g⟩ (fun r => (∀ c : Dev Cert.ReferenceInprojBwdIdeal.nD,
      r.2.mem ((c.tc : Thread Cert.ReferenceInprojBwdIdeal.nD Cert.ReferenceInprojBwdIdeal.τ).loc Cert.ReferenceInprojBwdIdeal.main_arg0) = m ((c.tc : Thread Cert.ReferenceInprojBwdIdeal.nD Cert.ReferenceInprojBwdIdeal.τ).loc Cert.ReferenceInprojBwdIdeal.main_arg0)
      ∧ r.2.mem ((c.tc : Thread Cert.ReferenceInprojBwdIdeal.nD Cert.ReferenceInprojBwdIdeal.τ).loc Cert.ReferenceInprojBwdIdeal.main_arg1) = m ((c.tc : Thread Cert.ReferenceInprojBwdIdeal.nD Cert.ReferenceInprojBwdIdeal.τ).loc Cert.ReferenceInprojBwdIdeal.main_arg1)
      ∧ r.2.mem ((c.tc : Thread Cert.ReferenceInprojBwdIdeal.nD Cert.ReferenceInprojBwdIdeal.τ).loc Cert.ReferenceInprojBwdIdeal.main_arg2) = m ((c.tc : Thread Cert.ReferenceInprojBwdIdeal.nD Cert.ReferenceInprojBwdIdeal.τ).loc Cert.ReferenceInprojBwdIdeal.main_arg2)
      ∧ r.2.mem ((c.tc : Thread Cert.ReferenceInprojBwdIdeal.nD Cert.ReferenceInprojBwdIdeal.τ).loc Cert.ReferenceInprojBwdIdeal.main_arg3) = m ((c.tc : Thread Cert.ReferenceInprojBwdIdeal.nD Cert.ReferenceInprojBwdIdeal.τ).loc Cert.ReferenceInprojBwdIdeal.main_arg3)
      ∧ r.2.mem ((c.tc : Thread Cert.ReferenceInprojBwdIdeal.nD Cert.ReferenceInprojBwdIdeal.τ).loc Cert.ReferenceInprojBwdIdeal.main_arg4) = m ((c.tc : Thread Cert.ReferenceInprojBwdIdeal.nD Cert.ReferenceInprojBwdIdeal.τ).loc Cert.ReferenceInprojBwdIdeal.main_arg4)
      ∧ r.2.mem ((c.tc : Thread Cert.ReferenceInprojBwdIdeal.nD Cert.ReferenceInprojBwdIdeal.τ).loc Cert.ReferenceInprojBwdIdeal.main_arg5) = m ((c.tc : Thread Cert.ReferenceInprojBwdIdeal.nD Cert.ReferenceInprojBwdIdeal.τ).loc Cert.ReferenceInprojBwdIdeal.main_arg5)
      ∧ r.2.mem ((c.tc : Thread Cert.ReferenceInprojBwdIdeal.nD Cert.ReferenceInprojBwdIdeal.τ).loc Cert.ReferenceInprojBwdIdeal.main_arg6) = m ((c.tc : Thread Cert.ReferenceInprojBwdIdeal.nD Cert.ReferenceInprojBwdIdeal.τ).loc Cert.ReferenceInprojBwdIdeal.main_arg6)
      ∧ r.2.mem ((c.tc : Thread Cert.ReferenceInprojBwdIdeal.nD Cert.ReferenceInprojBwdIdeal.τ).loc Cert.ReferenceInprojBwdIdeal.main_arg7) = m ((c.tc : Thread Cert.ReferenceInprojBwdIdeal.nD Cert.ReferenceInprojBwdIdeal.τ).loc Cert.ReferenceInprojBwdIdeal.main_arg7)
      ∧ r.2.mem ((c.tc : Thread Cert.ReferenceInprojBwdIdeal.nD Cert.ReferenceInprojBwdIdeal.τ).loc Cert.ReferenceInprojBwdIdeal.main_arg8) = m ((c.tc : Thread Cert.ReferenceInprojBwdIdeal.nD Cert.ReferenceInprojBwdIdeal.τ).loc Cert.ReferenceInprojBwdIdeal.main_arg8)
      ∧ r.2.mem ((c.tc : Thread Cert.ReferenceInprojBwdIdeal.nD Cert.ReferenceInprojBwdIdeal.τ).loc Cert.ReferenceInprojBwdIdeal.main_arg9) = m ((c.tc : Thread Cert.ReferenceInprojBwdIdeal.nD Cert.ReferenceInprojBwdIdeal.τ).loc Cert.ReferenceInprojBwdIdeal.main_arg9)
      ∧ r.2.mem ((c.tc : Thread Cert.ReferenceInprojBwdIdeal.nD Cert.ReferenceInprojBwdIdeal.τ).loc Cert.ReferenceInprojBwdIdeal.main_arg10) = m ((c.tc : Thread Cert.ReferenceInprojBwdIdeal.nD Cert.ReferenceInprojBwdIdeal.τ).loc Cert.ReferenceInprojBwdIdeal.main_arg10)
      ∧ r.2.mem ((c.tc : Thread Cert.ReferenceInprojBwdIdeal.nD Cert.ReferenceInprojBwdIdeal.τ).loc Cert.ReferenceInprojBwdIdeal.main_arg11) = m ((c.tc : Thread Cert.ReferenceInprojBwdIdeal.nD Cert.ReferenceInprojBwdIdeal.τ).loc Cert.ReferenceInprojBwdIdeal.main_arg11))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelFfnBwd [hKernelFfnBwd : Cert.KernelFfnBwd.Facts] : Prop :=
  ∀ (m : (ℓ : Loc Cert.KernelFfnBwd.nD Cert.KernelFfnBwd.τ Cert.KernelFfnBwd.sig) → Buf (Elt Bits) ℓ) (g : Dev Cert.KernelFfnBwd.nD → PrngReg), Pre_KernelFfnBwd m →
    θ_run (Cert.KernelFfnBwd.defs (F := Bits)) (onTc (τ := Cert.KernelFfnBwd.τ) (Cert.KernelFfnBwd.main (F := Bits))) ⟨m, fun _ => 0, g⟩ (fun r => (∀ c : Dev Cert.KernelFfnBwd.nD,
      r.2.mem ((c.tc : Thread Cert.KernelFfnBwd.nD Cert.KernelFfnBwd.τ).loc Cert.KernelFfnBwd.main_arg0) = m ((c.tc : Thread Cert.KernelFfnBwd.nD Cert.KernelFfnBwd.τ).loc Cert.KernelFfnBwd.main_arg0)
      ∧ r.2.mem ((c.tc : Thread Cert.KernelFfnBwd.nD Cert.KernelFfnBwd.τ).loc Cert.KernelFfnBwd.main_arg1) = m ((c.tc : Thread Cert.KernelFfnBwd.nD Cert.KernelFfnBwd.τ).loc Cert.KernelFfnBwd.main_arg1)
      ∧ r.2.mem ((c.tc : Thread Cert.KernelFfnBwd.nD Cert.KernelFfnBwd.τ).loc Cert.KernelFfnBwd.main_arg2) = m ((c.tc : Thread Cert.KernelFfnBwd.nD Cert.KernelFfnBwd.τ).loc Cert.KernelFfnBwd.main_arg2)
      ∧ r.2.mem ((c.tc : Thread Cert.KernelFfnBwd.nD Cert.KernelFfnBwd.τ).loc Cert.KernelFfnBwd.main_arg3) = m ((c.tc : Thread Cert.KernelFfnBwd.nD Cert.KernelFfnBwd.τ).loc Cert.KernelFfnBwd.main_arg3)
      ∧ r.2.mem ((c.tc : Thread Cert.KernelFfnBwd.nD Cert.KernelFfnBwd.τ).loc Cert.KernelFfnBwd.main_arg4) = m ((c.tc : Thread Cert.KernelFfnBwd.nD Cert.KernelFfnBwd.τ).loc Cert.KernelFfnBwd.main_arg4)
      ∧ r.2.mem ((c.tc : Thread Cert.KernelFfnBwd.nD Cert.KernelFfnBwd.τ).loc Cert.KernelFfnBwd.main_arg5) = m ((c.tc : Thread Cert.KernelFfnBwd.nD Cert.KernelFfnBwd.τ).loc Cert.KernelFfnBwd.main_arg5)
      ∧ r.2.mem ((c.tc : Thread Cert.KernelFfnBwd.nD Cert.KernelFfnBwd.τ).loc Cert.KernelFfnBwd.main_arg6) = m ((c.tc : Thread Cert.KernelFfnBwd.nD Cert.KernelFfnBwd.τ).loc Cert.KernelFfnBwd.main_arg6))
      ∧ r.2.sem = fun _ => 0)

def quiescent_KernelFfnBwdIdeal [hKernelFfnBwdIdeal : Cert.KernelFfnBwdIdeal.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5)
      ∧ r.2.mem ((c.tc : Thread Cert.KernelFfnBwdIdeal.nD Cert.KernelFfnBwdIdeal.τ).loc Cert.KernelFfnBwdIdeal.main_arg6) = m ((c.tc : Thread Cert.KernelFfnBwdIdeal.nD Cert.KernelFfnBwdIdeal.τ).loc Cert.KernelFfnBwdIdeal.main_arg6))
      ∧ r.2.sem = fun _ => 0)

def quiescent_KernelFfnBwdIdeal_pre_finite [hKernelFfnBwdIdeal : Cert.KernelFfnBwdIdeal.Facts] [hPre_finite : Cert.Pre_finite.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal_finite m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5)
      ∧ r.2.mem ((c.tc : Thread Cert.KernelFfnBwdIdeal.nD Cert.KernelFfnBwdIdeal.τ).loc Cert.KernelFfnBwdIdeal.main_arg6) = m ((c.tc : Thread Cert.KernelFfnBwdIdeal.nD Cert.KernelFfnBwdIdeal.τ).loc Cert.KernelFfnBwdIdeal.main_arg6))
      ∧ r.2.sem = fun _ => 0)

def quiescent_ReferenceFfnBwdIdeal [hReferenceFfnBwdIdeal : Cert.ReferenceFfnBwdIdeal.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5)
      ∧ r.2.mem ((c.tc : Thread Cert.ReferenceFfnBwdIdeal.nD Cert.ReferenceFfnBwdIdeal.τ).loc Cert.ReferenceFfnBwdIdeal.main_arg6) = m ((c.tc : Thread Cert.ReferenceFfnBwdIdeal.nD Cert.ReferenceFfnBwdIdeal.τ).loc Cert.ReferenceFfnBwdIdeal.main_arg6))
      ∧ r.2.sem = fun _ => 0)

def quiescent_ReferenceFfnBwdIdeal_pre_finite [hReferenceFfnBwdIdeal : Cert.ReferenceFfnBwdIdeal.Facts] [hPre_finite : Cert.Pre_finite.Facts] : Prop :=
  ∀ (m : (ℓ : Loc Cert.ReferenceFfnBwdIdeal.nD Cert.ReferenceFfnBwdIdeal.τ Cert.ReferenceFfnBwdIdeal.sig) → Buf (Elt Ideal) ℓ) (g : Dev Cert.ReferenceFfnBwdIdeal.nD → PrngReg), Pre_ReferenceFfnBwdIdeal_finite m →
    θ_run (Cert.ReferenceFfnBwdIdeal.defs (F := Ideal)) (onTc (τ := Cert.ReferenceFfnBwdIdeal.τ) (Cert.ReferenceFfnBwdIdeal.main (F := Ideal))) ⟨m, fun _ => 0, g⟩ (fun r => (∀ c : Dev Cert.ReferenceFfnBwdIdeal.nD,
      r.2.mem ((c.tc : Thread Cert.ReferenceFfnBwdIdeal.nD Cert.ReferenceFfnBwdIdeal.τ).loc Cert.ReferenceFfnBwdIdeal.main_arg0) = m ((c.tc : Thread Cert.ReferenceFfnBwdIdeal.nD Cert.ReferenceFfnBwdIdeal.τ).loc Cert.ReferenceFfnBwdIdeal.main_arg0)
      ∧ r.2.mem ((c.tc : Thread Cert.ReferenceFfnBwdIdeal.nD Cert.ReferenceFfnBwdIdeal.τ).loc Cert.ReferenceFfnBwdIdeal.main_arg1) = m ((c.tc : Thread Cert.ReferenceFfnBwdIdeal.nD Cert.ReferenceFfnBwdIdeal.τ).loc Cert.ReferenceFfnBwdIdeal.main_arg1)
      ∧ r.2.mem ((c.tc : Thread Cert.ReferenceFfnBwdIdeal.nD Cert.ReferenceFfnBwdIdeal.τ).loc Cert.ReferenceFfnBwdIdeal.main_arg2) = m ((c.tc : Thread Cert.ReferenceFfnBwdIdeal.nD Cert.ReferenceFfnBwdIdeal.τ).loc Cert.ReferenceFfnBwdIdeal.main_arg2)
      ∧ r.2.mem ((c.tc : Thread Cert.ReferenceFfnBwdIdeal.nD Cert.ReferenceFfnBwdIdeal.τ).loc Cert.ReferenceFfnBwdIdeal.main_arg3) = m ((c.tc : Thread Cert.ReferenceFfnBwdIdeal.nD Cert.ReferenceFfnBwdIdeal.τ).loc Cert.ReferenceFfnBwdIdeal.main_arg3)
      ∧ r.2.mem ((c.tc : Thread Cert.ReferenceFfnBwdIdeal.nD Cert.ReferenceFfnBwdIdeal.τ).loc Cert.ReferenceFfnBwdIdeal.main_arg4) = m ((c.tc : Thread Cert.ReferenceFfnBwdIdeal.nD Cert.ReferenceFfnBwdIdeal.τ).loc Cert.ReferenceFfnBwdIdeal.main_arg4)
      ∧ r.2.mem ((c.tc : Thread Cert.ReferenceFfnBwdIdeal.nD Cert.ReferenceFfnBwdIdeal.τ).loc Cert.ReferenceFfnBwdIdeal.main_arg5) = m ((c.tc : Thread Cert.ReferenceFfnBwdIdeal.nD Cert.ReferenceFfnBwdIdeal.τ).loc Cert.ReferenceFfnBwdIdeal.main_arg5)
      ∧ r.2.mem ((c.tc : Thread Cert.ReferenceFfnBwdIdeal.nD Cert.ReferenceFfnBwdIdeal.τ).loc Cert.ReferenceFfnBwdIdeal.main_arg6) = m ((c.tc : Thread Cert.ReferenceFfnBwdIdeal.nD Cert.ReferenceFfnBwdIdeal.τ).loc Cert.ReferenceFfnBwdIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v128_0)) (v1 : (c : Dev Cert.KernelIdeal.nD) → Buf (Elt Ideal) ((c.tc : Thread Cert.KernelIdeal.nD Cert.KernelIdeal.τ).loc Cert.KernelIdeal.main_v128_1)) (v2 : (c : Dev Cert.KernelIdeal.nD) → Buf (Elt Ideal) ((c.tc : Thread Cert.KernelIdeal.nD Cert.KernelIdeal.τ).loc Cert.KernelIdeal.main_v128_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128_0) = v0 c
          ∧ r.2.mem ((c.tc : Thread Cert.KernelIdeal.nD Cert.KernelIdeal.τ).loc Cert.KernelIdeal.main_v128_1) = v1 c
          ∧ r.2.mem ((c.tc : Thread Cert.KernelIdeal.nD Cert.KernelIdeal.τ).loc Cert.KernelIdeal.main_v128_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v255) = v1 c
          ∧ r.2.mem ((c.tc : Thread Cert.ReferenceIdeal.nD Cert.ReferenceIdeal.τ).loc Cert.ReferenceIdeal.main_v256) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v16)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v16) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v19) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelFfnIn_KernelFfnInIdeal : Prop :=
  True

def algebraic_KernelFfnInIdeal_ReferenceFfnInIdeal [hKernelFfnInIdeal : Cert.KernelFfnInIdeal.Facts] [hReferenceFfnInIdeal : Cert.ReferenceFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)) →
    ∃ (v0 : (c : Dev Cert.KernelFfnInIdeal.nD) → Buf (Elt Ideal) ((c.tc : Thread Cert.KernelFfnInIdeal.nD Cert.KernelFfnInIdeal.τ).loc Cert.KernelFfnInIdeal.main_v16)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v16) = v0 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v19) = v0 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)) →
    ∃ (v0 : (c : Dev Cert.KernelFfnOutIdeal.nD) → Buf (Elt Ideal) ((c.tc : Thread Cert.KernelFfnOutIdeal.nD Cert.KernelFfnOutIdeal.τ).loc Cert.KernelFfnOutIdeal.main_v5)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v5) = v0 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v7) = v0 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2))

def preserves_KernelInprojBwd_KernelInprojBwdIdeal : Prop :=
  True

def algebraic_KernelInprojBwdIdeal_ReferenceInprojBwdIdeal [hKernelInprojBwdIdeal : Cert.KernelInprojBwdIdeal.Facts] [hReferenceInprojBwdIdeal : Cert.ReferenceInprojBwdIdeal.Facts] : Prop :=
  ∀ (m : (ℓ : Loc Cert.KernelInprojBwdIdeal.nD Cert.KernelInprojBwdIdeal.τ Cert.KernelInprojBwdIdeal.sig) → Buf (Elt Ideal) ℓ) (g : Dev Cert.KernelInprojBwdIdeal.nD → PrngReg)
    (m' : (ℓ : Loc Cert.ReferenceInprojBwdIdeal.nD Cert.ReferenceInprojBwdIdeal.τ Cert.ReferenceInprojBwdIdeal.sig) → Buf (Elt Ideal) ℓ) (g' : Dev Cert.ReferenceInprojBwdIdeal.nD → PrngReg), Pre_KernelInprojBwdIdeal m →
    (∀ c : Dev Cert.KernelInprojBwdIdeal.nD,
      m' ((c.tc : Thread Cert.ReferenceInprojBwdIdeal.nD Cert.ReferenceInprojBwdIdeal.τ).loc Cert.ReferenceInprojBwdIdeal.main_arg0) = m ((c.tc : Thread Cert.KernelInprojBwdIdeal.nD Cert.KernelInprojBwdIdeal.τ).loc Cert.KernelInprojBwdIdeal.main_arg0)
      ∧ m' ((c.tc : Thread Cert.ReferenceInprojBwdIdeal.nD Cert.ReferenceInprojBwdIdeal.τ).loc Cert.ReferenceInprojBwdIdeal.main_arg1) = m ((c.tc : Thread Cert.KernelInprojBwdIdeal.nD Cert.KernelInprojBwdIdeal.τ).loc Cert.KernelInprojBwdIdeal.main_arg1)
      ∧ m' ((c.tc : Thread Cert.ReferenceInprojBwdIdeal.nD Cert.ReferenceInprojBwdIdeal.τ).loc Cert.ReferenceInprojBwdIdeal.main_arg2) = m ((c.tc : Thread Cert.KernelInprojBwdIdeal.nD Cert.KernelInprojBwdIdeal.τ).loc Cert.KernelInprojBwdIdeal.main_arg2)
      ∧ m' ((c.tc : Thread Cert.ReferenceInprojBwdIdeal.nD Cert.ReferenceInprojBwdIdeal.τ).loc Cert.ReferenceInprojBwdIdeal.main_arg3) = m ((c.tc : Thread Cert.KernelInprojBwdIdeal.nD Cert.KernelInprojBwdIdeal.τ).loc Cert.KernelInprojBwdIdeal.main_arg3)
      ∧ m' ((c.tc : Thread Cert.ReferenceInprojBwdIdeal.nD Cert.ReferenceInprojBwdIdeal.τ).loc Cert.ReferenceInprojBwdIdeal.main_arg4) = m ((c.tc : Thread Cert.KernelInprojBwdIdeal.nD Cert.KernelInprojBwdIdeal.τ).loc Cert.KernelInprojBwdIdeal.main_arg4)
      ∧ m' ((c.tc : Thread Cert.ReferenceInprojBwdIdeal.nD Cert.ReferenceInprojBwdIdeal.τ).loc Cert.ReferenceInprojBwdIdeal.main_arg5) = m ((c.tc : Thread Cert.KernelInprojBwdIdeal.nD Cert.KernelInprojBwdIdeal.τ).loc Cert.KernelInprojBwdIdeal.main_arg5)
      ∧ m' ((c.tc : Thread Cert.ReferenceInprojBwdIdeal.nD Cert.ReferenceInprojBwdIdeal.τ).loc Cert.ReferenceInprojBwdIdeal.main_arg6) = m ((c.tc : Thread Cert.KernelInprojBwdIdeal.nD Cert.KernelInprojBwdIdeal.τ).loc Cert.KernelInprojBwdIdeal.main_arg6)
      ∧ m' ((c.tc : Thread Cert.ReferenceInprojBwdIdeal.nD Cert.ReferenceInprojBwdIdeal.τ).loc Cert.ReferenceInprojBwdIdeal.main_arg7) = m ((c.tc : Thread Cert.KernelInprojBwdIdeal.nD Cert.KernelInprojBwdIdeal.τ).loc Cert.KernelInprojBwdIdeal.main_arg7)
      ∧ m' ((c.tc : Thread Cert.ReferenceInprojBwdIdeal.nD Cert.ReferenceInprojBwdIdeal.τ).loc Cert.ReferenceInprojBwdIdeal.main_arg8) = m ((c.tc : Thread Cert.KernelInprojBwdIdeal.nD Cert.KernelInprojBwdIdeal.τ).loc Cert.KernelInprojBwdIdeal.main_arg8)
      ∧ m' ((c.tc : Thread Cert.ReferenceInprojBwdIdeal.nD Cert.ReferenceInprojBwdIdeal.τ).loc Cert.ReferenceInprojBwdIdeal.main_arg9) = m ((c.tc : Thread Cert.KernelInprojBwdIdeal.nD Cert.KernelInprojBwdIdeal.τ).loc Cert.KernelInprojBwdIdeal.main_arg9)
      ∧ m' ((c.tc : Thread Cert.ReferenceInprojBwdIdeal.nD Cert.ReferenceInprojBwdIdeal.τ).loc Cert.ReferenceInprojBwdIdeal.main_arg10) = m ((c.tc : Thread Cert.KernelInprojBwdIdeal.nD Cert.KernelInprojBwdIdeal.τ).loc Cert.KernelInprojBwdIdeal.main_arg10)
      ∧ m' ((c.tc : Thread Cert.ReferenceInprojBwdIdeal.nD Cert.ReferenceInprojBwdIdeal.τ).loc Cert.ReferenceInprojBwdIdeal.main_arg11) = m ((c.tc : Thread Cert.KernelInprojBwdIdeal.nD Cert.KernelInprojBwdIdeal.τ).loc Cert.KernelInprojBwdIdeal.main_arg11)) →
    ∃ (v0 : (c : Dev Cert.KernelInprojBwdIdeal.nD) → Buf (Elt Ideal) ((c.tc : Thread Cert.KernelInprojBwdIdeal.nD Cert.KernelInprojBwdIdeal.τ).loc Cert.KernelInprojBwdIdeal.main_v10_0)) (v1 : (c : Dev Cert.KernelInprojBwdIdeal.nD) → Buf (Elt Ideal) ((c.tc : Thread Cert.KernelInprojBwdIdeal.nD Cert.KernelInprojBwdIdeal.τ).loc Cert.KernelInprojBwdIdeal.main_v10_1)) (v2 : (c : Dev Cert.KernelInprojBwdIdeal.nD) → Buf (Elt Ideal) ((c.tc : Thread Cert.KernelInprojBwdIdeal.nD Cert.KernelInprojBwdIdeal.τ).loc Cert.KernelInprojBwdIdeal.main_v10_2)),
      θ_run (Cert.KernelInprojBwdIdeal.defs (F := Ideal)) (onTc (τ := Cert.KernelInprojBwdIdeal.τ) (Cert.KernelInprojBwdIdeal.main (F := Ideal))) ⟨m, fun _ => 0, g⟩ (fun r => ∀ c : Dev Cert.KernelInprojBwdIdeal.nD,
          r.2.mem ((c.tc : Thread Cert.KernelInprojBwdIdeal.nD Cert.KernelInprojBwdIdeal.τ).loc Cert.KernelInprojBwdIdeal.main_v10_0) = v0 c
          ∧ r.2.mem ((c.tc : Thread Cert.KernelInprojBwdIdeal.nD Cert.KernelInprojBwdIdeal.τ).loc Cert.KernelInprojBwdIdeal.main_v10_1) = v1 c
          ∧ r.2.mem ((c.tc : Thread Cert.KernelInprojBwdIdeal.nD Cert.KernelInprojBwdIdeal.τ).loc Cert.KernelInprojBwdIdeal.main_v10_2) = v2 c
          ∧ r.2.mem ((c.tc : Thread Cert.KernelInprojBwdIdeal.nD Cert.KernelInprojBwdIdeal.τ).loc Cert.KernelInprojBwdIdeal.main_arg0) = m ((c.tc : Thread Cert.KernelInprojBwdIdeal.nD Cert.KernelInprojBwdIdeal.τ).loc Cert.KernelInprojBwdIdeal.main_arg0)
          ∧ r.2.mem ((c.tc : Thread Cert.KernelInprojBwdIdeal.nD Cert.KernelInprojBwdIdeal.τ).loc Cert.KernelInprojBwdIdeal.main_arg1) = m ((c.tc : Thread Cert.KernelInprojBwdIdeal.nD Cert.KernelInprojBwdIdeal.τ).loc Cert.KernelInprojBwdIdeal.main_arg1)
          ∧ r.2.mem ((c.tc : Thread Cert.KernelInprojBwdIdeal.nD Cert.KernelInprojBwdIdeal.τ).loc Cert.KernelInprojBwdIdeal.main_arg2) = m ((c.tc : Thread Cert.KernelInprojBwdIdeal.nD Cert.KernelInprojBwdIdeal.τ).loc Cert.KernelInprojBwdIdeal.main_arg2)
          ∧ r.2.mem ((c.tc : Thread Cert.KernelInprojBwdIdeal.nD Cert.KernelInprojBwdIdeal.τ).loc Cert.KernelInprojBwdIdeal.main_arg3) = m ((c.tc : Thread Cert.KernelInprojBwdIdeal.nD Cert.KernelInprojBwdIdeal.τ).loc Cert.KernelInprojBwdIdeal.main_arg3)
          ∧ r.2.mem ((c.tc : Thread Cert.KernelInprojBwdIdeal.nD Cert.KernelInprojBwdIdeal.τ).loc Cert.KernelInprojBwdIdeal.main_arg4) = m ((c.tc : Thread Cert.KernelInprojBwdIdeal.nD Cert.KernelInprojBwdIdeal.τ).loc Cert.KernelInprojBwdIdeal.main_arg4)
          ∧ r.2.mem ((c.tc : Thread Cert.KernelInprojBwdIdeal.nD Cert.KernelInprojBwdIdeal.τ).loc Cert.KernelInprojBwdIdeal.main_arg5) = m ((c.tc : Thread Cert.KernelInprojBwdIdeal.nD Cert.KernelInprojBwdIdeal.τ).loc Cert.KernelInprojBwdIdeal.main_arg5)
          ∧ r.2.mem ((c.tc : Thread Cert.KernelInprojBwdIdeal.nD Cert.KernelInprojBwdIdeal.τ).loc Cert.KernelInprojBwdIdeal.main_arg6) = m ((c.tc : Thread Cert.KernelInprojBwdIdeal.nD Cert.KernelInprojBwdIdeal.τ).loc Cert.KernelInprojBwdIdeal.main_arg6)
          ∧ r.2.mem ((c.tc : Thread Cert.KernelInprojBwdIdeal.nD Cert.KernelInprojBwdIdeal.τ).loc Cert.KernelInprojBwdIdeal.main_arg7) = m ((c.tc : Thread Cert.KernelInprojBwdIdeal.nD Cert.KernelInprojBwdIdeal.τ).loc Cert.KernelInprojBwdIdeal.main_arg7)
          ∧ r.2.mem ((c.tc : Thread Cert.KernelInprojBwdIdeal.nD Cert.KernelInprojBwdIdeal.τ).loc Cert.KernelInprojBwdIdeal.main_arg8) = m ((c.tc : Thread Cert.KernelInprojBwdIdeal.nD Cert.KernelInprojBwdIdeal.τ).loc Cert.KernelInprojBwdIdeal.main_arg8)
          ∧ r.2.mem ((c.tc : Thread Cert.KernelInprojBwdIdeal.nD Cert.KernelInprojBwdIdeal.τ).loc Cert.KernelInprojBwdIdeal.main_arg9) = m ((c.tc : Thread Cert.KernelInprojBwdIdeal.nD Cert.KernelInprojBwdIdeal.τ).loc Cert.KernelInprojBwdIdeal.main_arg9)
          ∧ r.2.mem ((c.tc : Thread Cert.KernelInprojBwdIdeal.nD Cert.KernelInprojBwdIdeal.τ).loc Cert.KernelInprojBwdIdeal.main_arg10) = m ((c.tc : Thread Cert.KernelInprojBwdIdeal.nD Cert.KernelInprojBwdIdeal.τ).loc Cert.KernelInprojBwdIdeal.main_arg10)
          ∧ r.2.mem ((c.tc : Thread Cert.KernelInprojBwdIdeal.nD Cert.KernelInprojBwdIdeal.τ).loc Cert.KernelInprojBwdIdeal.main_arg11) = m ((c.tc : Thread Cert.KernelInprojBwdIdeal.nD Cert.KernelInprojBwdIdeal.τ).loc Cert.KernelInprojBwdIdeal.main_arg11))
      ∧ θ_run (Cert.ReferenceInprojBwdIdeal.defs (F := Ideal)) (onTc (τ := Cert.ReferenceInprojBwdIdeal.τ) (Cert.ReferenceInprojBwdIdeal.main (F := Ideal))) ⟨m', fun _ => 0, g'⟩ (fun r => ∀ c : Dev Cert.ReferenceInprojBwdIdeal.nD,
          r.2.mem ((c.tc : Thread Cert.ReferenceInprojBwdIdeal.nD Cert.ReferenceInprojBwdIdeal.τ).loc Cert.ReferenceInprojBwdIdeal.main_v51) = v0 c
          ∧ r.2.mem ((c.tc : Thread Cert.ReferenceInprojBwdIdeal.nD Cert.ReferenceInprojBwdIdeal.τ).loc Cert.ReferenceInprojBwdIdeal.main_v50) = v1 c
          ∧ r.2.mem ((c.tc : Thread Cert.ReferenceInprojBwdIdeal.nD Cert.ReferenceInprojBwdIdeal.τ).loc Cert.ReferenceInprojBwdIdeal.main_v52) = v2 c
          ∧ r.2.mem ((c.tc : Thread Cert.ReferenceInprojBwdIdeal.nD Cert.ReferenceInprojBwdIdeal.τ).loc Cert.ReferenceInprojBwdIdeal.main_arg0) = m' ((c.tc : Thread Cert.ReferenceInprojBwdIdeal.nD Cert.ReferenceInprojBwdIdeal.τ).loc Cert.ReferenceInprojBwdIdeal.main_arg0)
          ∧ r.2.mem ((c.tc : Thread Cert.ReferenceInprojBwdIdeal.nD Cert.ReferenceInprojBwdIdeal.τ).loc Cert.ReferenceInprojBwdIdeal.main_arg1) = m' ((c.tc : Thread Cert.ReferenceInprojBwdIdeal.nD Cert.ReferenceInprojBwdIdeal.τ).loc Cert.ReferenceInprojBwdIdeal.main_arg1)
          ∧ r.2.mem ((c.tc : Thread Cert.ReferenceInprojBwdIdeal.nD Cert.ReferenceInprojBwdIdeal.τ).loc Cert.ReferenceInprojBwdIdeal.main_arg2) = m' ((c.tc : Thread Cert.ReferenceInprojBwdIdeal.nD Cert.ReferenceInprojBwdIdeal.τ).loc Cert.ReferenceInprojBwdIdeal.main_arg2)
          ∧ r.2.mem ((c.tc : Thread Cert.ReferenceInprojBwdIdeal.nD Cert.ReferenceInprojBwdIdeal.τ).loc Cert.ReferenceInprojBwdIdeal.main_arg3) = m' ((c.tc : Thread Cert.ReferenceInprojBwdIdeal.nD Cert.ReferenceInprojBwdIdeal.τ).loc Cert.ReferenceInprojBwdIdeal.main_arg3)
          ∧ r.2.mem ((c.tc : Thread Cert.ReferenceInprojBwdIdeal.nD Cert.ReferenceInprojBwdIdeal.τ).loc Cert.ReferenceInprojBwdIdeal.main_arg4) = m' ((c.tc : Thread Cert.ReferenceInprojBwdIdeal.nD Cert.ReferenceInprojBwdIdeal.τ).loc Cert.ReferenceInprojBwdIdeal.main_arg4)
          ∧ r.2.mem ((c.tc : Thread Cert.ReferenceInprojBwdIdeal.nD Cert.ReferenceInprojBwdIdeal.τ).loc Cert.ReferenceInprojBwdIdeal.main_arg5) = m' ((c.tc : Thread Cert.ReferenceInprojBwdIdeal.nD Cert.ReferenceInprojBwdIdeal.τ).loc Cert.ReferenceInprojBwdIdeal.main_arg5)
          ∧ r.2.mem ((c.tc : Thread Cert.ReferenceInprojBwdIdeal.nD Cert.ReferenceInprojBwdIdeal.τ).loc Cert.ReferenceInprojBwdIdeal.main_arg6) = m' ((c.tc : Thread Cert.ReferenceInprojBwdIdeal.nD Cert.ReferenceInprojBwdIdeal.τ).loc Cert.ReferenceInprojBwdIdeal.main_arg6)
          ∧ r.2.mem ((c.tc : Thread Cert.ReferenceInprojBwdIdeal.nD Cert.ReferenceInprojBwdIdeal.τ).loc Cert.ReferenceInprojBwdIdeal.main_arg7) = m' ((c.tc : Thread Cert.ReferenceInprojBwdIdeal.nD Cert.ReferenceInprojBwdIdeal.τ).loc Cert.ReferenceInprojBwdIdeal.main_arg7)
          ∧ r.2.mem ((c.tc : Thread Cert.ReferenceInprojBwdIdeal.nD Cert.ReferenceInprojBwdIdeal.τ).loc Cert.ReferenceInprojBwdIdeal.main_arg8) = m' ((c.tc : Thread Cert.ReferenceInprojBwdIdeal.nD Cert.ReferenceInprojBwdIdeal.τ).loc Cert.ReferenceInprojBwdIdeal.main_arg8)
          ∧ r.2.mem ((c.tc : Thread Cert.ReferenceInprojBwdIdeal.nD Cert.ReferenceInprojBwdIdeal.τ).loc Cert.ReferenceInprojBwdIdeal.main_arg9) = m' ((c.tc : Thread Cert.ReferenceInprojBwdIdeal.nD Cert.ReferenceInprojBwdIdeal.τ).loc Cert.ReferenceInprojBwdIdeal.main_arg9)
          ∧ r.2.mem ((c.tc : Thread Cert.ReferenceInprojBwdIdeal.nD Cert.ReferenceInprojBwdIdeal.τ).loc Cert.ReferenceInprojBwdIdeal.main_arg10) = m' ((c.tc : Thread Cert.ReferenceInprojBwdIdeal.nD Cert.ReferenceInprojBwdIdeal.τ).loc Cert.ReferenceInprojBwdIdeal.main_arg10)
          ∧ r.2.mem ((c.tc : Thread Cert.ReferenceInprojBwdIdeal.nD Cert.ReferenceInprojBwdIdeal.τ).loc Cert.ReferenceInprojBwdIdeal.main_arg11) = m' ((c.tc : Thread Cert.ReferenceInprojBwdIdeal.nD Cert.ReferenceInprojBwdIdeal.τ).loc Cert.ReferenceInprojBwdIdeal.main_arg11))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v4_0)) (v1 : (c : Dev Cert.KernelFfnIdeal.nD) → Buf (Elt Ideal) ((c.tc : Thread Cert.KernelFfnIdeal.nD Cert.KernelFfnIdeal.τ).loc Cert.KernelFfnIdeal.main_v4_1)) (v2 : (c : Dev Cert.KernelFfnIdeal.nD) → Buf (Elt Ideal) ((c.tc : Thread Cert.KernelFfnIdeal.nD Cert.KernelFfnIdeal.τ).loc Cert.KernelFfnIdeal.main_v4_2)) (v3 : (c : Dev Cert.KernelFfnIdeal.nD) → Buf (Elt Ideal) ((c.tc : Thread Cert.KernelFfnIdeal.nD Cert.KernelFfnIdeal.τ).loc Cert.KernelFfnIdeal.main_v4_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4_0) = v0 c
          ∧ r.2.mem ((c.tc : Thread Cert.KernelFfnIdeal.nD Cert.KernelFfnIdeal.τ).loc Cert.KernelFfnIdeal.main_v4_1) = v1 c
          ∧ r.2.mem ((c.tc : Thread Cert.KernelFfnIdeal.nD Cert.KernelFfnIdeal.τ).loc Cert.KernelFfnIdeal.main_v4_2) = v2 c
          ∧ r.2.mem ((c.tc : Thread Cert.KernelFfnIdeal.nD Cert.KernelFfnIdeal.τ).loc Cert.KernelFfnIdeal.main_v4_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v21) = v0 c
          ∧ r.2.mem ((c.tc : Thread Cert.ReferenceFfnIdeal.nD Cert.ReferenceFfnIdeal.τ).loc Cert.ReferenceFfnIdeal.main_v22) = v1 c
          ∧ r.2.mem ((c.tc : Thread Cert.ReferenceFfnIdeal.nD Cert.ReferenceFfnIdeal.τ).loc Cert.ReferenceFfnIdeal.main_v23) = v2 c
          ∧ r.2.mem ((c.tc : Thread Cert.ReferenceFfnIdeal.nD Cert.ReferenceFfnIdeal.τ).loc Cert.ReferenceFfnIdeal.main_v25) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelFfnBwd_KernelFfnBwdIdeal : Prop :=
  True

def algebraic_KernelFfnBwdIdeal_ReferenceFfnBwdIdeal_pre_finite [hKernelFfnBwdIdeal : Cert.KernelFfnBwdIdeal.Facts] [hReferenceFfnBwdIdeal : Cert.ReferenceFfnBwdIdeal.Facts] [hPre_finite : Cert.Pre_finite.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg)
    (m' : (ℓ : Loc Cert.ReferenceFfnBwdIdeal.nD Cert.ReferenceFfnBwdIdeal.τ Cert.ReferenceFfnBwdIdeal.sig) → Buf (Elt Ideal) ℓ) (g' : Dev Cert.ReferenceFfnBwdIdeal.nD → PrngReg), Pre_KernelFfnBwdIdeal_finite m →
    (∀ c : Dev Cert.KernelFfnBwdIdeal.nD,
      m' ((c.tc : Thread Cert.ReferenceFfnBwdIdeal.nD Cert.ReferenceFfnBwdIdeal.τ).loc Cert.ReferenceFfnBwdIdeal.main_arg0) = m ((c.tc : Thread Cert.KernelFfnBwdIdeal.nD Cert.KernelFfnBwdIdeal.τ).loc Cert.KernelFfnBwdIdeal.main_arg0)
      ∧ m' ((c.tc : Thread Cert.ReferenceFfnBwdIdeal.nD Cert.ReferenceFfnBwdIdeal.τ).loc Cert.ReferenceFfnBwdIdeal.main_arg1) = m ((c.tc : Thread Cert.KernelFfnBwdIdeal.nD Cert.KernelFfnBwdIdeal.τ).loc Cert.KernelFfnBwdIdeal.main_arg1)
      ∧ m' ((c.tc : Thread Cert.ReferenceFfnBwdIdeal.nD Cert.ReferenceFfnBwdIdeal.τ).loc Cert.ReferenceFfnBwdIdeal.main_arg2) = m ((c.tc : Thread Cert.KernelFfnBwdIdeal.nD Cert.KernelFfnBwdIdeal.τ).loc Cert.KernelFfnBwdIdeal.main_arg2)
      ∧ m' ((c.tc : Thread Cert.ReferenceFfnBwdIdeal.nD Cert.ReferenceFfnBwdIdeal.τ).loc Cert.ReferenceFfnBwdIdeal.main_arg3) = m ((c.tc : Thread Cert.KernelFfnBwdIdeal.nD Cert.KernelFfnBwdIdeal.τ).loc Cert.KernelFfnBwdIdeal.main_arg3)
      ∧ m' ((c.tc : Thread Cert.ReferenceFfnBwdIdeal.nD Cert.ReferenceFfnBwdIdeal.τ).loc Cert.ReferenceFfnBwdIdeal.main_arg4) = m ((c.tc : Thread Cert.KernelFfnBwdIdeal.nD Cert.KernelFfnBwdIdeal.τ).loc Cert.KernelFfnBwdIdeal.main_arg4)
      ∧ m' ((c.tc : Thread Cert.ReferenceFfnBwdIdeal.nD Cert.ReferenceFfnBwdIdeal.τ).loc Cert.ReferenceFfnBwdIdeal.main_arg5) = m ((c.tc : Thread Cert.KernelFfnBwdIdeal.nD Cert.KernelFfnBwdIdeal.τ).loc Cert.KernelFfnBwdIdeal.main_arg5)
      ∧ m' ((c.tc : Thread Cert.ReferenceFfnBwdIdeal.nD Cert.ReferenceFfnBwdIdeal.τ).loc Cert.ReferenceFfnBwdIdeal.main_arg6) = m ((c.tc : Thread Cert.KernelFfnBwdIdeal.nD Cert.KernelFfnBwdIdeal.τ).loc Cert.KernelFfnBwdIdeal.main_arg6)) →
    ∃ (v0 : (c : Dev Cert.KernelFfnBwdIdeal.nD) → Buf (Elt Ideal) ((c.tc : Thread Cert.KernelFfnBwdIdeal.nD Cert.KernelFfnBwdIdeal.τ).loc Cert.KernelFfnBwdIdeal.main_v22_0)) (v1 : (c : Dev Cert.KernelFfnBwdIdeal.nD) → Buf (Elt Ideal) ((c.tc : Thread Cert.KernelFfnBwdIdeal.nD Cert.KernelFfnBwdIdeal.τ).loc Cert.KernelFfnBwdIdeal.main_v22_1)) (v2 : (c : Dev Cert.KernelFfnBwdIdeal.nD) → Buf (Elt Ideal) ((c.tc : Thread Cert.KernelFfnBwdIdeal.nD Cert.KernelFfnBwdIdeal.τ).loc Cert.KernelFfnBwdIdeal.main_v22_2)) (v3 : (c : Dev Cert.KernelFfnBwdIdeal.nD) → Buf (Elt Ideal) ((c.tc : Thread Cert.KernelFfnBwdIdeal.nD Cert.KernelFfnBwdIdeal.τ).loc Cert.KernelFfnBwdIdeal.main_v22_3)) (v4 : (c : Dev Cert.KernelFfnBwdIdeal.nD) → Buf (Elt Ideal) ((c.tc : Thread Cert.KernelFfnBwdIdeal.nD Cert.KernelFfnBwdIdeal.τ).loc Cert.KernelFfnBwdIdeal.main_v22_4)) (v5 : (c : Dev Cert.KernelFfnBwdIdeal.nD) → Buf (Elt Ideal) ((c.tc : Thread Cert.KernelFfnBwdIdeal.nD Cert.KernelFfnBwdIdeal.τ).loc Cert.KernelFfnBwdIdeal.main_v22_5)),
      θ_run (Cert.KernelFfnBwdIdeal.defs (F := Ideal)) (onTc (τ := Cert.KernelFfnBwdIdeal.τ) (Cert.KernelFfnBwdIdeal.main (F := Ideal))) ⟨m, fun _ => 0, g⟩ (fun r => ∀ c : Dev Cert.KernelFfnBwdIdeal.nD,
          r.2.mem ((c.tc : Thread Cert.KernelFfnBwdIdeal.nD Cert.KernelFfnBwdIdeal.τ).loc Cert.KernelFfnBwdIdeal.main_v22_0) = v0 c
          ∧ r.2.mem ((c.tc : Thread Cert.KernelFfnBwdIdeal.nD Cert.KernelFfnBwdIdeal.τ).loc Cert.KernelFfnBwdIdeal.main_v22_1) = v1 c
          ∧ r.2.mem ((c.tc : Thread Cert.KernelFfnBwdIdeal.nD Cert.KernelFfnBwdIdeal.τ).loc Cert.KernelFfnBwdIdeal.main_v22_2) = v2 c
          ∧ r.2.mem ((c.tc : Thread Cert.KernelFfnBwdIdeal.nD Cert.KernelFfnBwdIdeal.τ).loc Cert.KernelFfnBwdIdeal.main_v22_3) = v3 c
          ∧ r.2.mem ((c.tc : Thread Cert.KernelFfnBwdIdeal.nD Cert.KernelFfnBwdIdeal.τ).loc Cert.KernelFfnBwdIdeal.main_v22_4) = v4 c
          ∧ r.2.mem ((c.tc : Thread Cert.KernelFfnBwdIdeal.nD Cert.KernelFfnBwdIdeal.τ).loc Cert.KernelFfnBwdIdeal.main_v22_5) = v5 c
          ∧ r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
          ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
          ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
          ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
          ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
          ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5)
          ∧ r.2.mem ((c.tc : Thread Cert.KernelFfnBwdIdeal.nD Cert.KernelFfnBwdIdeal.τ).loc Cert.KernelFfnBwdIdeal.main_arg6) = m ((c.tc : Thread Cert.KernelFfnBwdIdeal.nD Cert.KernelFfnBwdIdeal.τ).loc Cert.KernelFfnBwdIdeal.main_arg6))
      ∧ θ_run (Cert.ReferenceFfnBwdIdeal.defs (F := Ideal)) (onTc (τ := Cert.ReferenceFfnBwdIdeal.τ) (Cert.ReferenceFfnBwdIdeal.main (F := Ideal))) ⟨m', fun _ => 0, g'⟩ (fun r => ∀ c : Dev Cert.ReferenceFfnBwdIdeal.nD,
          r.2.mem ((c.tc : Thread Cert.ReferenceFfnBwdIdeal.nD Cert.ReferenceFfnBwdIdeal.τ).loc Cert.ReferenceFfnBwdIdeal.main_v106) = v0 c
          ∧ r.2.mem ((c.tc : Thread Cert.ReferenceFfnBwdIdeal.nD Cert.ReferenceFfnBwdIdeal.τ).loc Cert.ReferenceFfnBwdIdeal.main_v104) = v1 c
          ∧ r.2.mem ((c.tc : Thread Cert.ReferenceFfnBwdIdeal.nD Cert.ReferenceFfnBwdIdeal.τ).loc Cert.ReferenceFfnBwdIdeal.main_v107) = v2 c
          ∧ r.2.mem ((c.tc : Thread Cert.ReferenceFfnBwdIdeal.nD Cert.ReferenceFfnBwdIdeal.τ).loc Cert.ReferenceFfnBwdIdeal.main_v108) = v3 c
          ∧ r.2.mem ((c.tc : Thread Cert.ReferenceFfnBwdIdeal.nD Cert.ReferenceFfnBwdIdeal.τ).loc Cert.ReferenceFfnBwdIdeal.main_v109) = v4 c
          ∧ r.2.mem ((c.tc : Thread Cert.ReferenceFfnBwdIdeal.nD Cert.ReferenceFfnBwdIdeal.τ).loc Cert.ReferenceFfnBwdIdeal.main_v110) = v5 c
          ∧ r.2.mem ((c.tc : Thread Cert.ReferenceFfnBwdIdeal.nD Cert.ReferenceFfnBwdIdeal.τ).loc Cert.ReferenceFfnBwdIdeal.main_arg0) = m' ((c.tc : Thread Cert.ReferenceFfnBwdIdeal.nD Cert.ReferenceFfnBwdIdeal.τ).loc Cert.ReferenceFfnBwdIdeal.main_arg0)
          ∧ r.2.mem ((c.tc : Thread Cert.ReferenceFfnBwdIdeal.nD Cert.ReferenceFfnBwdIdeal.τ).loc Cert.ReferenceFfnBwdIdeal.main_arg1) = m' ((c.tc : Thread Cert.ReferenceFfnBwdIdeal.nD Cert.ReferenceFfnBwdIdeal.τ).loc Cert.ReferenceFfnBwdIdeal.main_arg1)
          ∧ r.2.mem ((c.tc : Thread Cert.ReferenceFfnBwdIdeal.nD Cert.ReferenceFfnBwdIdeal.τ).loc Cert.ReferenceFfnBwdIdeal.main_arg2) = m' ((c.tc : Thread Cert.ReferenceFfnBwdIdeal.nD Cert.ReferenceFfnBwdIdeal.τ).loc Cert.ReferenceFfnBwdIdeal.main_arg2)
          ∧ r.2.mem ((c.tc : Thread Cert.ReferenceFfnBwdIdeal.nD Cert.ReferenceFfnBwdIdeal.τ).loc Cert.ReferenceFfnBwdIdeal.main_arg3) = m' ((c.tc : Thread Cert.ReferenceFfnBwdIdeal.nD Cert.ReferenceFfnBwdIdeal.τ).loc Cert.ReferenceFfnBwdIdeal.main_arg3)
          ∧ r.2.mem ((c.tc : Thread Cert.ReferenceFfnBwdIdeal.nD Cert.ReferenceFfnBwdIdeal.τ).loc Cert.ReferenceFfnBwdIdeal.main_arg4) = m' ((c.tc : Thread Cert.ReferenceFfnBwdIdeal.nD Cert.ReferenceFfnBwdIdeal.τ).loc Cert.ReferenceFfnBwdIdeal.main_arg4)
          ∧ r.2.mem ((c.tc : Thread Cert.ReferenceFfnBwdIdeal.nD Cert.ReferenceFfnBwdIdeal.τ).loc Cert.ReferenceFfnBwdIdeal.main_arg5) = m' ((c.tc : Thread Cert.ReferenceFfnBwdIdeal.nD Cert.ReferenceFfnBwdIdeal.τ).loc Cert.ReferenceFfnBwdIdeal.main_arg5)
          ∧ r.2.mem ((c.tc : Thread Cert.ReferenceFfnBwdIdeal.nD Cert.ReferenceFfnBwdIdeal.τ).loc Cert.ReferenceFfnBwdIdeal.main_arg6) = m' ((c.tc : Thread Cert.ReferenceFfnBwdIdeal.nD Cert.ReferenceFfnBwdIdeal.τ).loc Cert.ReferenceFfnBwdIdeal.main_arg6))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelFfnIn : Cert.KernelFfnIn.Facts) (hKernelFfnInIdeal : Cert.KernelFfnInIdeal.Facts) (hReferenceFfnInIdeal : Cert.ReferenceFfnInIdeal.Facts) (hKernelFfnOut : Cert.KernelFfnOut.Facts) (hKernelFfnOutIdeal : Cert.KernelFfnOutIdeal.Facts) (hReferenceFfnOutIdeal : Cert.ReferenceFfnOutIdeal.Facts) (hKernelInprojBwd : Cert.KernelInprojBwd.Facts) (hKernelInprojBwdIdeal : Cert.KernelInprojBwdIdeal.Facts) (hReferenceInprojBwdIdeal : Cert.ReferenceInprojBwdIdeal.Facts) (hKernelFfn : Cert.KernelFfn.Facts) (hKernelFfnIdeal : Cert.KernelFfnIdeal.Facts) (hReferenceFfnIdeal : Cert.ReferenceFfnIdeal.Facts) (hKernelFfnBwd : Cert.KernelFfnBwd.Facts) (hKernelFfnBwdIdeal : Cert.KernelFfnBwdIdeal.Facts) (hReferenceFfnBwdIdeal : Cert.ReferenceFfnBwdIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelFfnIn (hKernelFfnIn := hKernelFfnIn)
    ∧ quiescent_KernelFfnInIdeal (hKernelFfnInIdeal := hKernelFfnInIdeal)
    ∧ quiescent_ReferenceFfnInIdeal (hReferenceFfnInIdeal := hReferenceFfnInIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelInprojBwd (hKernelInprojBwd := hKernelInprojBwd)
    ∧ quiescent_KernelInprojBwdIdeal (hKernelInprojBwdIdeal := hKernelInprojBwdIdeal)
    ∧ quiescent_ReferenceInprojBwdIdeal (hReferenceInprojBwdIdeal := hReferenceInprojBwdIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelFfnBwd (hKernelFfnBwd := hKernelFfnBwd)
    ∧ quiescent_KernelFfnBwdIdeal (hKernelFfnBwdIdeal := hKernelFfnBwdIdeal)
    ∧ quiescent_KernelFfnBwdIdeal_pre_finite (hKernelFfnBwdIdeal := hKernelFfnBwdIdeal) (hPre_finite := hPre_finite)
    ∧ quiescent_ReferenceFfnBwdIdeal (hReferenceFfnBwdIdeal := hReferenceFfnBwdIdeal)
    ∧ quiescent_ReferenceFfnBwdIdeal_pre_finite (hReferenceFfnBwdIdeal := hReferenceFfnBwdIdeal) (hPre_finite := hPre_finite)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelFfnIn_KernelFfnInIdeal
    ∧ algebraic_KernelFfnInIdeal_ReferenceFfnInIdeal (hKernelFfnInIdeal := hKernelFfnInIdeal) (hReferenceFfnInIdeal := hReferenceFfnInIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelInprojBwd_KernelInprojBwdIdeal
    ∧ algebraic_KernelInprojBwdIdeal_ReferenceInprojBwdIdeal (hKernelInprojBwdIdeal := hKernelInprojBwdIdeal) (hReferenceInprojBwdIdeal := hReferenceInprojBwdIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelFfnBwd_KernelFfnBwdIdeal
    ∧ algebraic_KernelFfnBwdIdeal_ReferenceFfnBwdIdeal_pre_finite (hKernelFfnBwdIdeal := hKernelFfnBwdIdeal) (hReferenceFfnBwdIdeal := hReferenceFfnBwdIdeal) (hPre_finite := hPre_finite)
-- ==== Pre_finite.lean ====
abbrev S8192x1024 : Shape := ⟨2, ![8192, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S16642x1024 : Shape := ⟨2, ![16642, 1024]⟩
abbrev S_ : Shape := ⟨0, ![]⟩

class Facts : Prop where
  bcast_S1024_S1x1024_1 : S1024.BroadcastsInDim S1x1024 (![1] : Fin 1 → Fin S1x1024.rank)
  slices_S2x1024_S1x1024_1_0 : S2x1024.Slices ![1, 0] S1x1024
  transposes_S1024x5632_S5632x1024_1_0 : S1024x5632.Transposes [1, 0] S5632x1024
  concatenates_S1x1024_S1x1024_S8192x1024_S5632x1024_S2816x1024_S16642x1024_d0 : Shape.Concatenates [S1x1024, S1x1024, S8192x1024, S5632x1024, S2816x1024] S16642x1024 0
  bcast_S_S16642x1024 : S_.BroadcastsInDim S16642x1024 (![] : Fin 0 → Fin S16642x1024.rank)

variable [Facts]

def fn {F : FTy → Type} [FloatOps F] (main_arg0 : FVec F S8192x1024 .f32) (main_arg1 : FVec F S1024 .f32) (main_arg2 : FVec F S8192x1024 .f32) (main_arg3 : FVec F S8192x1024 .f32) (main_arg4 : FVec F S2x1024 .f32) (main_arg5 : FVec F S1024x5632 .f32) (main_arg6 : FVec F S2816x1024 .f32) : IVec S16642x1024 1 :=
  let main_v0 : FVec F S1x1024 .f32 := broadcastInDim S1x1024 ![1] bcast_S1024_S1x1024_1 main_arg1
  let main_v1 : FVec F S1x1024 .f32 := (extractStridedSlice S1x1024 ![1, 0] · slices_S2x1024_S1x1024_1_0) main_arg4
  let main_v2 : FVec F S5632x1024 .f32 := (transpose S5632x1024 [1, 0] · transposes_S1024x5632_S5632x1024_1_0) main_arg5
  let main_v3 : FVec F S16642x1024 .f32 := concatenate S16642x1024 0 [⟨S1x1024, main_v0⟩, ⟨S1x1024, main_v1⟩, ⟨S8192x1024, main_arg2⟩, ⟨S5632x1024, main_v2⟩, ⟨S2816x1024, main_arg6⟩] concatenates_S1x1024_S1x1024_S8192x1024_S5632x1024_S2816x1024_S16642x1024_d0
  let main_v4 : FVec F S16642x1024 .f32 := Host.absf main_v3
  let main_cst : FVec F S_ .f32 := constant S_ .f32 0x7F800000#32
  let main_v5 : FVec F S16642x1024 .f32 := broadcastInDim S16642x1024 ![] bcast_S_S16642x1024 main_cst
  let main_v6 : IVec S16642x1024 1 := cmpf .olt main_v4 main_v5
  main_v6
-- ==== Kernel.lean ====
abbrev S8192x512 : Shape := ⟨2, ![8192, 512]⟩
abbrev S8192x64 : Shape := ⟨2, ![8192, 64]⟩
abbrev S64x4x128x128 : Shape := ⟨4, ![64, 4, 128, 128]⟩
abbrev S8192x4x128 : Shape := ⟨3, ![8192, 4, 128]⟩
abbrev S8192x1x64 : Shape := ⟨3, ![8192, 1, 64]⟩
abbrev S8192x4x64 : Shape := ⟨3, ![8192, 4, 64]⟩
abbrev S_ : Shape := ⟨0, ![]⟩
abbrev S8192x1536 : Shape := ⟨2, ![8192, 1536]⟩
abbrev S8192x3072 : Shape := ⟨2, ![8192, 3072]⟩
abbrev S8192x128 : Shape := ⟨2, ![8192, 128]⟩
abbrev S128 : Shape := ⟨1, ![128]⟩
abbrev S4 : Shape := ⟨1, ![4]⟩
abbrev S4x1 : Shape := ⟨2, ![4, 1]⟩
abbrev S128x1 : Shape := ⟨2, ![128, 1]⟩
abbrev S1x128 : Shape := ⟨2, ![1, 128]⟩
abbrev S128x128 : Shape := ⟨2, ![128, 128]⟩
abbrev S4x128 : Shape := ⟨2, ![4, 128]⟩
abbrev S1x128x128 : Shape := ⟨3, ![1, 128, 128]⟩
abbrev S4x1x1 : Shape := ⟨3, ![4, 1, 1]⟩
abbrev S4x128x128 : Shape := ⟨3, ![4, 128, 128]⟩
abbrev S4x128x1 : Shape := ⟨3, ![4, 128, 1]⟩
abbrev S1024x512 : Shape := ⟨2, ![1024, 512]⟩
abbrev S1024x128 : Shape := ⟨2, ![1024, 128]⟩
abbrev S8x4x128x128 : Shape := ⟨4, ![8, 4, 128, 128]⟩
abbrev S1x1x128x128 : Shape := ⟨4, ![1, 1, 128, 128]⟩
abbrev S256x128 : Shape := ⟨2, ![256, 128]⟩
abbrev S128x256 : Shape := ⟨2, ![128, 256]⟩

abbrev nBuf : Space → Nat
  | .hbm => 166
  | .vmem => 31
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x64, .f32⟩
  | 4 => ⟨S8192x64, .f32⟩
  | 5 => ⟨S8192x512, .f32⟩
  | 6 => ⟨S64x4x128x128, .f32⟩
  | 7 => ⟨S64x4x128x128, .f32⟩
  | 8 => ⟨S64x4x128x128, .f32⟩
  | 9 => ⟨S64x4x128x128, .f32⟩
  | 10 => ⟨S8192x4x128, .f32⟩
  | 11 => ⟨S8192x1x64, .f32⟩
  | 12 => ⟨S8192x1x64, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x4x64, .f32⟩
  | 19 => ⟨S8192x4x64, .f32⟩
  | 20 => ⟨S8192x4x64, .f32⟩
  | 21 => ⟨S8192x4x64, .f32⟩
  | 22 => ⟨S8192x4x64, .f32⟩
  | 23 => ⟨S8192x4x64, .f32⟩
  | 24 => ⟨S8192x4x64, .f32⟩
  | 25 => ⟨S8192x4x128, .f32⟩
  | 26 => ⟨S8192x512, .f32⟩
  | 27 => ⟨S8192x4x128, .f32⟩
  | 28 => ⟨S8192x1x64, .f32⟩
  | 29 => ⟨S8192x1x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x128, .f32⟩
  | 43 => ⟨S_, .f32⟩
  | 44 => ⟨S8192x4x128, .f32⟩
  | 45 => ⟨S8192x4x128, .f32⟩
  | 46 => ⟨S8192x512, .f32⟩
  | 47 => ⟨S8192x1536, .f32⟩
  | 48 => ⟨S_, .i32⟩
  | 49 => ⟨S_, .f32⟩
  | 50 => ⟨S8192x3072, .f32⟩
  | 51 => ⟨S8192x3072, .bf16⟩
  | 52 => ⟨S8192x128, .f32⟩
  | 53 => ⟨S8192x64, .f32⟩
  | 54 => ⟨S8192x128, .f32⟩
  | 55 => ⟨S64x4x128x128, .bf16⟩
  | 56 => ⟨S64x4x128x128, .bf16⟩
  | 57 => ⟨S64x4x128x128, .bf16⟩
  | 58 => ⟨S64x4x128x128, .bf16⟩
  | 59 => ⟨S128, .f32⟩
  | 60 => ⟨S4, .f32⟩
  | 61 => ⟨S_, .f32⟩
  | 62 => ⟨S4, .f32⟩
  | 63 => ⟨S4, .f32⟩
  | 64 => ⟨S_, .f32⟩
  | 65 => ⟨S4, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S4, .f32⟩
  | 73 => ⟨S4x1, .f32⟩
  | 74 => ⟨S128x1, .f32⟩
  | 75 => ⟨S1x128, .f32⟩
  | 76 => ⟨S128x128, .f32⟩
  | 77 => ⟨S128x128, .f32⟩
  | 78 => ⟨S128x128, .f32⟩
  | 79 => ⟨S_, .f32⟩
  | 80 => ⟨S128x128, .f32⟩
  | 81 => ⟨S128x128, .i1⟩
  | 82 => ⟨S_, .f32⟩
  | 83 => ⟨S_, .f32⟩
  | 84 => ⟨S128x128, .f32⟩
  | 85 => ⟨S128x128, .f32⟩
  | 86 => ⟨S_, .f32⟩
  | 87 => ⟨S128, .f32⟩
  | 88 => ⟨S128, .f32⟩
  | 89 => ⟨S1x128, .f32⟩
  | 90 => ⟨S4x128, .f32⟩
  | 91 => ⟨S4x128, .f32⟩
  | 92 => ⟨S4x128, .f32⟩
  | 93 => ⟨S4x128, .f32⟩
  | 94 => ⟨S_, .f32⟩
  | 95 => ⟨S128, .f32⟩
  | 96 => ⟨S128, .f32⟩
  | 97 => ⟨S1x128, .f32⟩
  | 98 => ⟨S4x128, .f32⟩
  | 99 => ⟨S4x128, .f32⟩
  | 100 => ⟨S4x128, .f32⟩
  | 101 => ⟨S4x128, .f32⟩
  | 102 => ⟨S1x128x128, .i1⟩
  | 103 => ⟨S4x1x1, .f32⟩
  | 104 => ⟨S1x128x128, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S4x128x1, .f32⟩
  | 115 => ⟨S4x128x128, .f32⟩
  | 116 => ⟨S4x128x1, .f32⟩
  | 117 => ⟨S4x128x128, .f32⟩
  | 118 => ⟨S4, .f32⟩
  | 119 => ⟨S4x1, .f32⟩
  | 120 => ⟨S128x1, .f32⟩
  | 121 => ⟨S1x128, .f32⟩
  | 122 => ⟨S128x128, .f32⟩
  | 123 => ⟨S128x128, .f32⟩
  | 124 => ⟨S128x128, .f32⟩
  | 125 => ⟨S_, .f32⟩
  | 126 => ⟨S128x128, .f32⟩
  | 127 => ⟨S128x128, .i1⟩
  | _ => ⟨S8192x512, .f32⟩

abbrev hbmTy0_1 (i : Nat) : BufTy := match i % 128 with
  | 0 => ⟨S128x128, .f32⟩
  | 1 => ⟨S_, .f32⟩
  | 2 => ⟨S_, .f32⟩
  | 3 => ⟨S128x128, .f32⟩
  | 4 => ⟨S128x128, .f32⟩
  | 5 => ⟨S1x128, .f32⟩
  | 6 => ⟨S4x128, .f32⟩
  | 7 => ⟨S4x128, .f32⟩
  | 8 => ⟨S4x128, .f32⟩
  | 9 => ⟨S4x128, .f32⟩
  | 10 => ⟨S_, .f32⟩
  | 11 => ⟨S128, .f32⟩
  | 12 => ⟨S128, .f32⟩
  | 13 => ⟨S1x128, .f32⟩
  | 14 => ⟨S4x128, .f32⟩
  | 15 => ⟨S4x128, .f32⟩
  | 16 => ⟨S4x128, .f32⟩
  | 17 => ⟨S4x128, .f32⟩
  | 18 => ⟨S1x128x128, .i1⟩
  | 19 => ⟨S4x1x1, .f32⟩
  | 20 => ⟨S1x128x128, .f32⟩
  | 21 => ⟨S4x128x128, .f32⟩
  | 22 => ⟨S4x128x128, .f32⟩
  | 23 => ⟨S4x128x128, .f32⟩
  | 24 => ⟨S4x128x128, .f32⟩
  | 25 => ⟨S_, .f32⟩
  | 26 => ⟨S_, .f32⟩
  | 27 => ⟨S4x128x128, .i1⟩
  | 28 => ⟨S4x128x128, .f32⟩
  | 29 => ⟨S4x128x128, .f32⟩
  | 30 => ⟨S4x128x1, .f32⟩
  | 31 => ⟨S4x128x128, .f32⟩
  | 32 => ⟨S4x128x1, .f32⟩
  | 33 => ⟨S4x128x128, .f32⟩
  | 34 => ⟨S4x128x128, .f32⟩
  | 35 => ⟨S8192x512, .bf16⟩
  | 36 => ⟨S8192x512, .bf16⟩
  | 37 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .f32⟩
  | .local _ .vmem, ⟨11, _⟩ => ⟨S1024x512, .f32⟩
  | .local _ .vmem, ⟨12, _⟩ => ⟨S8x4x128x128, .bf16⟩
  | .local _ .vmem, ⟨13, _⟩ => ⟨S8x4x128x128, .bf16⟩
  | .local _ .vmem, ⟨14, _⟩ => ⟨S8x4x128x128, .bf16⟩
  | .local _ .vmem, ⟨15, _⟩ => ⟨S8x4x128x128, .bf16⟩
  | .local _ .vmem, ⟨16, _⟩ => ⟨S8x4x128x128, .bf16⟩
  | .local _ .vmem, ⟨17, _⟩ => ⟨S8x4x128x128, .bf16⟩
  | .local _ .vmem, ⟨18, _⟩ => ⟨S8x4x128x128, .bf16⟩
  | .local _ .vmem, ⟨19, _⟩ => ⟨S8x4x128x128, .bf16⟩
  | .local _ .vmem, ⟨20, _⟩ => ⟨S4x128x128, .f32⟩
  | .local _ .vmem, ⟨21, _⟩ => ⟨S4x128x128, .f32⟩
  | .local _ .vmem, ⟨22, _⟩ => ⟨S4x128x128, .f32⟩
  | .local _ .vmem, ⟨23, _⟩ => ⟨S4x128x128, .f32⟩
  | .local _ .vmem, ⟨24, _⟩ => ⟨S4x128x128, .f32⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_0 : Ref sig .tc := ⟨.hbm, 61, rfl⟩
abbrev main_v48 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_cst_4 : Ref sig .tc := ⟨.hbm, 82, rfl⟩
abbrev main_call1_v0 : Ref sig .tc := ⟨.hbm, 83, rfl⟩
abbrev main_call1_v1 : Ref sig .tc := ⟨.hbm, 84, rfl⟩
abbrev main_v65 : Ref sig .tc := ⟨.hbm, 85, rfl⟩
abbrev main_cst_5 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_6 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_7 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_8 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_9 : Ref sig .tc := ⟨.hbm, 129, rfl⟩
abbrev main_call3_v0 : Ref sig .tc := ⟨.hbm, 130, rfl⟩
abbrev main_call3_v1 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_10 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_11 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128_0 : Ref sig .tc := ⟨.hbm, 163, rfl⟩
abbrev main_v128_1 : Ref sig .tc := ⟨.hbm, 164, rfl⟩
abbrev main_v128_2 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S8192x512 : Shape := ⟨2, ![8192, 512]⟩
abbrev S8192x64 : Shape := ⟨2, ![8192, 64]⟩
abbrev S64x4x128x128 : Shape := ⟨4, ![64, 4, 128, 128]⟩
abbrev S8192x1x64 : Shape := ⟨3, ![8192, 1, 64]⟩
abbrev S8192x4x128 : Shape := ⟨3, ![8192, 4, 128]⟩
abbrev S8192x4x64 : Shape := ⟨3, ![8192, 4, 64]⟩
abbrev S_ : Shape := ⟨0, ![]⟩
abbrev S4 : Shape := ⟨1, ![4]⟩
abbrev S64x128x4x128 : Shape := ⟨4, ![64, 128, 4, 128]⟩
abbrev S4x64x128x128 : Shape := ⟨4, ![4, 64, 128, 128]⟩
abbrev S128 : Shape := ⟨1, ![128]⟩
abbrev S4x1 : Shape := ⟨2, ![4, 1]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x128 : Shape := ⟨2, ![4, 128]⟩
abbrev S4x1x128x128 : Shape := ⟨4, ![4, 1, 128, 128]⟩
abbrev S4x1x128x1 : Shape := ⟨4, ![4, 1, 128, 1]⟩

abbrev nBuf : Space → Nat
  | .hbm => 292
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x64, .f32⟩
  | 4 => ⟨S8192x64, .f32⟩
  | 5 => ⟨S8192x512, .f32⟩
  | 6 => ⟨S64x4x128x128, .f32⟩
  | 7 => ⟨S64x4x128x128, .f32⟩
  | 8 => ⟨S64x4x128x128, .f32⟩
  | 9 => ⟨S64x4x128x128, .f32⟩
  | 10 => ⟨S8192x1x64, .f32⟩
  | 11 => ⟨S8192x1x64, .f32⟩
  | 12 => ⟨S8192x4x128, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x4x64, .f32⟩
  | 19 => ⟨S8192x4x64, .f32⟩
  | 20 => ⟨S8192x4x64, .f32⟩
  | 21 => ⟨S8192x4x64, .f32⟩
  | 22 => ⟨S8192x4x64, .f32⟩
  | 23 => ⟨S8192x4x64, .f32⟩
  | 24 => ⟨S8192x4x64, .f32⟩
  | 25 => ⟨S8192x4x128, .f32⟩
  | 26 => ⟨S8192x4x128, .f32⟩
  | 27 => ⟨S8192x4x64, .f32⟩
  | 28 => ⟨S8192x4x64, .f32⟩
  | 29 => ⟨S8192x4x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x128, .f32⟩
  | 40 => ⟨S_, .f32⟩
  | 41 => ⟨S8192x4x128, .f32⟩
  | 42 => ⟨S8192x4x128, .f32⟩
  | 43 => ⟨S8192x4x128, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S_, .f32⟩
  | 53 => ⟨S4, .f32⟩
  | 54 => ⟨S4, .f32⟩
  | 55 => ⟨S4, .f32⟩
  | 56 => ⟨S64x128x4x128, .f32⟩
  | 57 => ⟨S4x64x128x128, .f32⟩
  | 58 => ⟨S64x128x4x128, .f32⟩
  | 59 => ⟨S4x64x128x128, .f32⟩
  | 60 => ⟨S64x128x4x128, .f32⟩
  | 61 => ⟨S4x64x128x128, .f32⟩
  | 62 => ⟨S128, .f32⟩
  | 63 => ⟨S4, .f32⟩
  | 64 => ⟨S4x1, .f32⟩
  | 65 => ⟨S128x1, .f32⟩
  | 66 => ⟨S1x128, .f32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .i1⟩
  | 73 => ⟨S4x1x1, .f32⟩
  | 74 => ⟨S_, .f32⟩
  | 75 => ⟨S_, .f32⟩
  | 76 => ⟨S128x128, .f32⟩
  | 77 => ⟨S128x128, .f32⟩
  | 78 => ⟨S1x128x128, .f32⟩
  | 79 => ⟨S4x128x128, .f32⟩
  | 80 => ⟨S4x128x128, .f32⟩
  | 81 => ⟨S4x128x128, .f32⟩
  | 82 => ⟨S4x128x128, .f32⟩
  | 83 => ⟨S_, .f32⟩
  | 84 => ⟨S_, .f32⟩
  | 85 => ⟨S4x128x128, .i1⟩
  | 86 => ⟨S4x128x128, .f32⟩
  | 87 => ⟨S4x128x128, .f32⟩
  | 88 => ⟨S_, .f32⟩
  | 89 => ⟨S128, .f32⟩
  | 90 => ⟨S128, .f32⟩
  | 91 => ⟨S1x128, .f32⟩
  | 92 => ⟨S4x128, .f32⟩
  | 93 => ⟨S4x128, .f32⟩
  | 94 => ⟨S4x128, .f32⟩
  | 95 => ⟨S4x128, .f32⟩
  | 96 => ⟨S_, .f32⟩
  | 97 => ⟨S128, .f32⟩
  | 98 => ⟨S128, .f32⟩
  | 99 => ⟨S1x128, .f32⟩
  | 100 => ⟨S4x128, .f32⟩
  | 101 => ⟨S4x128, .f32⟩
  | 102 => ⟨S4x128, .f32⟩
  | 103 => ⟨S4x128, .f32⟩
  | 104 => ⟨S4x64x128x128, .f32⟩
  | 105 => ⟨S4x1x128x128, .f32⟩
  | 106 => ⟨S4x64x128x128, .f32⟩
  | 107 => ⟨S4x64x128x128, .f32⟩
  | 108 => ⟨S4x64x128x128, .f32⟩
  | 109 => ⟨S4x1x128x1, .f32⟩
  | 110 => ⟨S4x64x128x128, .f32⟩
  | 111 => ⟨S4x64x128x128, .f32⟩
  | 112 => ⟨S64x4x128x128, .f32⟩
  | 113 => ⟨S4x64x128x128, .f32⟩
  | 114 => ⟨S4x1x128x1, .f32⟩
  | 115 => ⟨S4x64x128x128, .f32⟩
  | 116 => ⟨S4x64x128x128, .f32⟩
  | 117 => ⟨S4x64x128x128, .f32⟩
  | 118 => ⟨S8192x4x128, .f32⟩
  | 119 => ⟨S64x128x4x128, .f32⟩
  | 120 => ⟨S4x64x128x128, .f32⟩
  | 121 => ⟨S8192x4x128, .f32⟩
  | 122 => ⟨S64x128x4x128, .f32⟩
  | 123 => ⟨S4x64x128x128, .f32⟩
  | 124 => ⟨S8192x4x128, .f32⟩
  | 125 => ⟨S64x128x4x128, .f32⟩
  | 126 => ⟨S4x64x128x128, .f32⟩
  | 127 => ⟨S64x4x128x128, .f32⟩
  | _ => ⟨S8192x512, .f32⟩

abbrev hbmTy0_1 (i : Nat) : BufTy := match i % 128 with
  | 0 => ⟨S128, .f32⟩
  | 1 => ⟨S4, .f32⟩
  | 2 => ⟨S4x1, .f32⟩
  | 3 => ⟨S128x1, .f32⟩
  | 4 => ⟨S1x128, .f32⟩
  | 5 => ⟨S128x128, .f32⟩
  | 6 => ⟨S128x128, .f32⟩
  | 7 => ⟨S128x128, .f32⟩
  | 8 => ⟨S_, .f32⟩
  | 9 => ⟨S128x128, .f32⟩
  | 10 => ⟨S128x128, .i1⟩
  | 11 => ⟨S4x1x1, .f32⟩
  | 12 => ⟨S_, .f32⟩
  | 13 => ⟨S_, .f32⟩
  | 14 => ⟨S128x128, .f32⟩
  | 15 => ⟨S128x128, .f32⟩
  | 16 => ⟨S1x128x128, .f32⟩
  | 17 => ⟨S4x128x128, .f32⟩
  | 18 => ⟨S4x128x128, .f32⟩
  | 19 => ⟨S4x128x128, .f32⟩
  | 20 => ⟨S4x128x128, .f32⟩
  | 21 => ⟨S_, .f32⟩
  | 22 => ⟨S_, .f32⟩
  | 23 => ⟨S4x128x128, .i1⟩
  | 24 => ⟨S4x128x128, .f32⟩
  | 25 => ⟨S4x128x128, .f32⟩
  | 26 => ⟨S_, .f32⟩
  | 27 => ⟨S128, .f32⟩
  | 28 => ⟨S128, .f32⟩
  | 29 => ⟨S1x128, .f32⟩
  | 30 => ⟨S4x128, .f32⟩
  | 31 => ⟨S4x128, .f32⟩
  | 32 => ⟨S4x128, .f32⟩
  | 33 => ⟨S4x128, .f32⟩
  | 34 => ⟨S_, .f32⟩
  | 35 => ⟨S128, .f32⟩
  | 36 => ⟨S128, .f32⟩
  | 37 => ⟨S1x128, .f32⟩
  | 38 => ⟨S4x128, .f32⟩
  | 39 => ⟨S4x128, .f32⟩
  | 40 => ⟨S4x128, .f32⟩
  | 41 => ⟨S4x128, .f32⟩
  | 42 => ⟨S4x64x128x128, .f32⟩
  | 43 => ⟨S4x1x128x128, .f32⟩
  | 44 => ⟨S4x64x128x128, .f32⟩
  | 45 => ⟨S4x64x128x128, .f32⟩
  | 46 => ⟨S4x64x128x128, .f32⟩
  | 47 => ⟨S4x1x128x1, .f32⟩
  | 48 => ⟨S4x64x128x128, .f32⟩
  | 49 => ⟨S4x64x128x128, .f32⟩
  | 50 => ⟨S64x4x128x128, .f32⟩
  | 51 => ⟨S4x64x128x128, .f32⟩
  | 52 => ⟨S4x1x128x1, .f32⟩
  | 53 => ⟨S4x64x128x128, .f32⟩
  | 54 => ⟨S4x64x128x128, .f32⟩
  | 55 => ⟨S4x64x128x128, .f32⟩
  | 56 => ⟨S64x128x4x128, .f32⟩
  | 57 => ⟨S8192x4x128, .f32⟩
  | 58 => ⟨S64x128x4x128, .f32⟩
  | 59 => ⟨S8192x4x128, .f32⟩
  | 60 => ⟨S8192x4x128, .f32⟩
  | 61 => ⟨S8192x4x128, .f32⟩
  | 62 => ⟨S8192x512, .f32⟩
  | 63 => ⟨S64x4x128x128, .f32⟩
  | 64 => ⟨S64x4x128x128, .f32⟩
  | 65 => ⟨S8192x4x128, .f32⟩
  | 66 => ⟨S8192x4x128, .f32⟩
  | 67 => ⟨S64x128x4x128, .f32⟩
  | 68 => ⟨S4x64x128x128, .f32⟩
  | 69 => ⟨S64x128x4x128, .f32⟩
  | 70 => ⟨S4x64x128x128, .f32⟩
  | 71 => ⟨S4x64x128x128, .f32⟩
  | 72 => ⟨S4x64x128x128, .f32⟩
  | 73 => ⟨S4x64x128x128, .f32⟩
  | 74 => ⟨S64x4x128x128, .f32⟩
  | 75 => ⟨S4x64x128x128, .f32⟩
  | 76 => ⟨S64x4x128x128, .f32⟩
  | 77 => ⟨S4x64x128x128, .f32⟩
  | 78 => ⟨S4x64x128x128, .f32⟩
  | 79 => ⟨S4x64x128x128, .f32⟩
  | 80 => ⟨S4x64x128x128, .f32⟩
  | 81 => ⟨S4x64x128x128, .f32⟩
  | 82 => ⟨S4x64x128x128, .f32⟩
  | 83 => ⟨S4x64x128x128, .f32⟩
  | 84 => ⟨S4x64x128x128, .f32⟩
  | 85 => ⟨S4x64x128x128, .f32⟩
  | 86 => ⟨S4x64x128x128, .f32⟩
  | 87 => ⟨S4x64x128x128, .f32⟩
  | 88 => ⟨S4x64x128x128, .f32⟩
  | 89 => ⟨S4x64x128x128, .f32⟩
  | 90 => ⟨S64x128x4x128, .f32⟩
  | 91 => ⟨S8192x4x128, .f32⟩
  | 92 => ⟨S8192x4x128, .f32⟩
  | 93 => ⟨S64x128x4x128, .f32⟩
  | 94 => ⟨S8192x4x128, .f32⟩
  | 95 => ⟨S8192x4x128, .f32⟩
  | 96 => ⟨S64x128x4x128, .f32⟩
  | 97 => ⟨S8192x4x128, .f32⟩
  | 98 => ⟨S8192x4x128, .f32⟩
  | 99 => ⟨S4x64x128x128, .f32⟩
  | 100 => ⟨S4x64x128x128, .f32⟩
  | 101 => ⟨S4x64x128x128, .f32⟩
  | 102 => ⟨S64x4x128x128, .f32⟩
  | 103 => ⟨S4x64x128x128, .f32⟩
  | 104 => ⟨S64x4x128x128, .f32⟩
  | 105 => ⟨S4x64x128x128, .f32⟩
  | 106 => ⟨S4x64x128x128, .f32⟩
  | 107 => ⟨S4x64x128x128, .f32⟩
  | 108 => ⟨S4x64x128x128, .f32⟩
  | 109 => ⟨S4x64x128x128, .f32⟩
  | 110 => ⟨S4x64x128x128, .f32⟩
  | 111 => ⟨S4x64x128x128, .f32⟩
  | 112 => ⟨S4x64x128x128, .f32⟩
  | 113 => ⟨S4x64x128x128, .f32⟩
  | 114 => ⟨S4x64x128x128, .f32⟩
  | 115 => ⟨S4x64x128x128, .f32⟩
  | 116 => ⟨S4x64x128x128, .f32⟩
  | 117 => ⟨S4x64x128x128, .f32⟩
  | 118 => ⟨S64x128x4x128, .f32⟩
  | 119 => ⟨S8192x4x128, .f32⟩
  | 120 => ⟨S8192x4x128, .f32⟩
  | 121 => ⟨S64x128x4x128, .f32⟩
  | 122 => ⟨S8192x4x128, .f32⟩
  | 123 => ⟨S8192x4x128, .f32⟩
  | 124 => ⟨S64x128x4x128, .f32⟩
  | 125 => ⟨S8192x4x128, .f32⟩
  | 126 => ⟨S8192x4x128, .f32⟩
  | 127 => ⟨S8192x512, .f32⟩
  | _ => ⟨S8192x512, .f32⟩

abbrev hbmTy0_2 (i : Nat) : BufTy := match i % 128 with
  | 0 => ⟨S_, .f32⟩
  | 1 => ⟨S8192x4x128, .f32⟩
  | 2 => ⟨S8192x4x128, .f32⟩
  | 3 => ⟨S8192x4x64, .f32⟩
  | 4 => ⟨S8192x4x64, .f32⟩
  | 5 => ⟨S8192x4x64, .f32⟩
  | 6 => ⟨S8192x4x64, .f32⟩
  | 7 => ⟨S8192x4x64, .f32⟩
  | 8 => ⟨S8192x4x64, .f32⟩
  | 9 => ⟨S8192x4x64, .f32⟩
  | 10 => ⟨S8192x4x64, .f32⟩
  | 11 => ⟨S8192x4x64, .f32⟩
  | 12 => ⟨S8192x4x64, .f32⟩
  | 13 => ⟨S8192x4x64, .f32⟩
  | 14 => ⟨S8192x4x64, .f32⟩
  | 15 => ⟨S8192x4x64, .f32⟩
  | 16 => ⟨S8192x4x128, .f32⟩
  | 17 => ⟨S8192x512, .f32⟩
  | 18 => ⟨S8192x4x64, .f32⟩
  | 19 => ⟨S8192x4x64, .f32⟩
  | 20 => ⟨S8192x4x64, .f32⟩
  | 21 => ⟨S8192x4x64, .f32⟩
  | 22 => ⟨S8192x4x64, .f32⟩
  | 23 => ⟨S8192x4x64, .f32⟩
  | 24 => ⟨S8192x4x64, .f32⟩
  | 25 => ⟨S8192x4x64, .f32⟩
  | 26 => ⟨S8192x4x64, .f32⟩
  | 27 => ⟨S8192x4x64, .f32⟩
  | 28 => ⟨S8192x4x64, .f32⟩
  | 29 => ⟨S8192x4x64, .f32⟩
  | 30 => ⟨S8192x4x64, .f32⟩
  | 31 => ⟨S8192x4x128, .f32⟩
  | 32 => ⟨S8192x512, .f32⟩
  | 33 => ⟨S8192x512, .bf16⟩
  | 34 => ⟨S8192x512, .bf16⟩
  | 35 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_call0_v0 : Ref sig .tc := ⟨.hbm, 75, rfl⟩
abbrev main_call0_v1 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_8 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_9 : Ref sig .tc := ⟨.hbm, 140, rfl⟩
abbrev main_call6_v0 : Ref sig .tc := ⟨.hbm, 141, rfl⟩
abbrev main_call6_v1 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_10 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_v121 : Ref sig .tc := ⟨.hbm, 153, rfl⟩
abbrev main_cst_11 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_12 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_cst_13 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩

abbrev nD : Nat := 1
abbrev τ : Topo := Topo.v7x

variable {F : FTy → Type} [FloatOps F]
-- ==== KernelIn.lean ====
abbrev S8192x1024 : Shape := ⟨2, ![8192, 1024]⟩
abbrev S1024 : Shape := ⟨1, ![1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S8x1024x384 : Shape := ⟨3, ![8, 1024, 384]⟩
abbrev S1024x2048 : Shape := ⟨2, ![1024, 2048]⟩
abbrev S2048x1536 : Shape := ⟨2, ![2048, 1536]⟩
abbrev S4x1024x384 : Shape := ⟨3, ![4, 1024, 384]⟩
abbrev S1024x1536 : Shape := ⟨2, ![1024, 1536]⟩
abbrev S1024x384 : Shape := ⟨2, ![1024, 384]⟩
abbrev S1x1024x384 : Shape := ⟨3, ![1, 1024, 384]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S8192x3072, .bf16⟩
  | .hbm, ⟨22, _⟩ => ⟨S8x1024x384, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .bf16⟩
  | .local _ .vmem, ⟨5, _⟩ => ⟨S4x1024x384, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S8192x1024 : Shape := ⟨2, ![8192, 1024]⟩
abbrev S1024 : Shape := ⟨1, ![1024]⟩
abbrev S8192x3072 : Shape := ⟨2, ![8192, 3072]⟩
abbrev S_ : Shape := ⟨0, ![]⟩
abbrev S1024x3072 : Shape := ⟨2, ![1024, 3072]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x3072, .f32⟩
  | .hbm, ⟨3, _⟩ => ⟨S_, .f32⟩
  | .hbm, ⟨4, _⟩ => ⟨S1024x3072, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S3072x1024, .f32⟩
  | .hbm, ⟨23, _⟩ => ⟨S1024x3072, .f32⟩
  | .hbm, ⟨24, _⟩ => ⟨S1024x8x384, .f32⟩
  | .hbm, ⟨25, _⟩ => ⟨S8x1024x384, .f32⟩
  | .hbm, ⟨26, _⟩ => ⟨S8x1024x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelOut.lean ====
abbrev S8192x256 : Shape := ⟨2, ![8192, 256]⟩
abbrev S8192x512 : Shape := ⟨2, ![8192, 512]⟩
abbrev S8192x1024 : Shape := ⟨2, ![8192, 1024]⟩
abbrev S1024x8192 : Shape := ⟨2, ![1024, 8192]⟩
abbrev S1x1024x1024 : Shape := ⟨3, ![1, 1024, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S8192x1024, .f32⟩
  | .hbm, ⟨4, _⟩ => ⟨S8192x1024, .f32⟩
  | .hbm, ⟨5, _⟩ => ⟨S1024x8192, .f32⟩
  | .hbm, ⟨6, _⟩ => ⟨S1024x8192, .bf16⟩
  | .hbm, ⟨7, _⟩ => ⟨S8192x1024, .bf16⟩
  | .hbm, ⟨8, _⟩ => ⟨S1x1024x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S8192x256 : Shape := ⟨2, ![8192, 256]⟩
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KernelFfnIn.lean ====
abbrev S8192x1024 : Shape := ⟨2, ![8192, 1024]⟩
abbrev S1024 : Shape := ⟨1, ![1024]⟩
abbrev S8192x5632 : Shape := ⟨2, ![8192, 5632]⟩
abbrev S5632x8192 : Shape := ⟨2, ![5632, 8192]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x704x1024 : Shape := ⟨3, ![8, 704, 1024]⟩
abbrev S704x4096 : Shape := ⟨2, ![704, 4096]⟩
abbrev S4096x1024 : Shape := ⟨2, ![4096, 1024]⟩
abbrev S1x704x1024 : Shape := ⟨3, ![1, 704, 1024]⟩
abbrev S704x1024 : Shape := ⟨2, ![704, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S5632x8192, .f32⟩
  | .hbm, ⟨4, _⟩ => ⟨S5632x8192, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8x704x1024, .bf16⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceFfnInIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S8x704x1024 : Shape := ⟨3, ![8, 704, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S5632x1024, .f32⟩
  | .hbm, ⟨25, _⟩ => ⟨S8x704x1024, .f32⟩
  | .hbm, ⟨26, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelFfnOut.lean ====
abbrev S8192x2816 : Shape := ⟨2, ![8192, 2816]⟩
abbrev S8192x1024 : Shape := ⟨2, ![8192, 1024]⟩
abbrev S_ : Shape := ⟨0, ![]⟩
abbrev S2816x8192 : Shape := ⟨2, ![2816, 8192]⟩
abbrev S4x704x1024 : Shape := ⟨3, ![4, 704, 1024]⟩
abbrev S704x4096 : Shape := ⟨2, ![704, 4096]⟩
abbrev S4096x1024 : Shape := ⟨2, ![4096, 1024]⟩
abbrev S1x704x1024 : Shape := ⟨3, ![1, 704, 1024]⟩
abbrev S704x1024 : Shape := ⟨2, ![704, 1024]⟩

abbrev nBuf : Space → Nat
  | .hbm => 17
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S2816x8192, .f32⟩
  | .hbm, ⟨14, _⟩ => ⟨S2816x8192, .bf16⟩
  | .hbm, ⟨15, _⟩ => ⟨S8192x1024, .bf16⟩
  | .hbm, ⟨16, _⟩ => ⟨S4x704x1024, .bf16⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceFfnOutIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== KernelInprojBwd.lean ====
abbrev S8192x256 : Shape := ⟨2, ![8192, 256]⟩
abbrev S8192x512 : Shape := ⟨2, ![8192, 512]⟩
abbrev S1024x3072 : Shape := ⟨2, ![1024, 3072]⟩
abbrev S8192x1024 : Shape := ⟨2, ![8192, 1024]⟩
abbrev S2x1024 : Shape := ⟨2, ![2, 1024]⟩
abbrev S2x1x1024 : Shape := ⟨3, ![2, 1, 1024]⟩
abbrev S8192x3072 : Shape := ⟨2, ![8192, 3072]⟩
abbrev S1x1024 : Shape := ⟨2, ![1, 1024]⟩
abbrev S512x512 : Shape := ⟨2, ![512, 512]⟩
abbrev S512x1024 : Shape := ⟨2, ![512, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 25
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x256, .f32⟩
  | .hbm, ⟨7, _⟩ => ⟨S8192x256, .f32⟩
  | .hbm, ⟨8, _⟩ => ⟨S1024x3072, .f32⟩
  | .hbm, ⟨9, _⟩ => ⟨S8192x1024, .f32⟩
  | .hbm, ⟨10, _⟩ => ⟨S2x1024, .f32⟩
  | .hbm, ⟨11, _⟩ => ⟨S8192x1024, .f32⟩
  | .hbm, ⟨12, _⟩ => ⟨S8192x512, .f32⟩
  | .hbm, ⟨13, _⟩ => ⟨S8192x512, .bf16⟩
  | .hbm, ⟨14, _⟩ => ⟨S8192x512, .f32⟩
  | .hbm, ⟨15, _⟩ => ⟨S8192x512, .bf16⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x512, .bf16⟩
  | .hbm, ⟨20, _⟩ => ⟨S1024x3072, .bf16⟩
  | .hbm, ⟨21, _⟩ => ⟨S2x1x1024, .f32⟩
  | .hbm, ⟨22, _⟩ => ⟨S8192x3072, .bf16⟩
  | .hbm, ⟨23, _⟩ => ⟨S8192x1024, .f32⟩
  | .hbm, ⟨24, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x3072, .bf16⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceInprojBwdIdeal.lean ====
abbrev S8192x256 : Shape := ⟨2, ![8192, 256]⟩
abbrev S8192x512 : Shape := ⟨2, ![8192, 512]⟩
abbrev S1024x3072 : Shape := ⟨2, ![1024, 3072]⟩
abbrev S8192x1024 : Shape := ⟨2, ![8192, 1024]⟩
abbrev S2x1024 : Shape := ⟨2, ![2, 1024]⟩
abbrev S_ : Shape := ⟨0, ![]⟩
abbrev S8192x3072 : Shape := ⟨2, ![8192, 3072]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x256, .f32⟩
  | .hbm, ⟨7, _⟩ => ⟨S8192x256, .f32⟩
  | .hbm, ⟨8, _⟩ => ⟨S1024x3072, .f32⟩
  | .hbm, ⟨9, _⟩ => ⟨S8192x1024, .f32⟩
  | .hbm, ⟨10, _⟩ => ⟨S2x1024, .f32⟩
  | .hbm, ⟨11, _⟩ => ⟨S8192x1024, .f32⟩
  | .hbm, ⟨12, _⟩ => ⟨S_, .f32⟩
  | .hbm, ⟨13, _⟩ => ⟨S8192x3072, .f32⟩
  | .hbm, ⟨14, _⟩ => ⟨S8192x256, .f32⟩
  | .hbm, ⟨15, _⟩ => ⟨S8192x256, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x256, .f32⟩
  | .hbm, ⟨21, _⟩ => ⟨S8192x256, .f32⟩
  | .hbm, ⟨22, _⟩ => ⟨S8192x3072, .f32⟩
  | .hbm, ⟨23, _⟩ => ⟨S1x1024, .f32⟩
  | .hbm, ⟨24, _⟩ => ⟨S1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x3072, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x3072, .bf16⟩
  | .hbm, ⟨74, _⟩ => ⟨S1x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== KernelFfn.lean ====
abbrev S8192x1024 : Shape := ⟨2, ![8192, 1024]⟩
abbrev S2x1024 : Shape := ⟨2, ![2, 1024]⟩
abbrev S1024x5632 : Shape := ⟨2, ![1024, 5632]⟩
abbrev S2816x1024 : Shape := ⟨2, ![2816, 1024]⟩
abbrev S2x1x1024 : Shape := ⟨3, ![2, 1, 1024]⟩
abbrev S5632x1024 : Shape := ⟨2, ![5632, 1024]⟩
abbrev S8192x5632 : Shape := ⟨2, ![8192, 5632]⟩
abbrev S2816x8192 : Shape := ⟨2, ![2816, 8192]⟩
abbrev S512x1024 : Shape := ⟨2, ![512, 1024]⟩
abbrev S1x1x1024 : Shape := ⟨3, ![1, 1, 1024]⟩
abbrev S512x5632 : Shape := ⟨2, ![512, 5632]⟩
abbrev S2816x512 : Shape := ⟨2, ![2816, 512]⟩
abbrev S512 : Shape := ⟨1, ![512]⟩
abbrev S512x1 : Shape := ⟨2, ![512, 1]⟩
abbrev S1x1024 : Shape := ⟨2, ![1, 1024]⟩
abbrev S768x1024 : Shape := ⟨2, ![768, 1024]⟩
abbrev S512x768 : Shape := ⟨2, ![512, 768]⟩
abbrev S768x512 : Shape := ⟨2, ![768, 512]⟩
abbrev S512x512 : Shape := ⟨2, ![512, 512]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x5632, .f32⟩
  | .hbm, ⟨3, _⟩ => ⟨S2816x1024, .f32⟩
  | .hbm, ⟨4, _⟩ => ⟨S2x1x1024, .f32⟩
  | .hbm, ⟨5, _⟩ => ⟨S5632x1024, .f32⟩
  | .hbm, ⟨6, _⟩ => ⟨S5632x1024, .bf16⟩
  | .hbm, ⟨7, _⟩ => ⟨S2816x1024, .bf16⟩
  | .hbm, ⟨8, _⟩ => ⟨S8192x1024, .f32⟩
  | .hbm, ⟨9, _⟩ => ⟨S8192x1024, .bf16⟩
  | .hbm, ⟨10, _⟩ => ⟨S8192x5632, .bf16⟩
  | .hbm, ⟨11, _⟩ => ⟨S2816x8192, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x5632, .bf16⟩
  | .local _ .vmem, ⟨10, _⟩ => ⟨S512x5632, .bf16⟩
  | .local _ .vmem, ⟨11, _⟩ => ⟨S2816x512, .bf16⟩
  | .local _ .vmem, ⟨12, _⟩ => ⟨S2816x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2816x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnIdeal.lean ====
abbrev S8192x1024 : Shape := ⟨2, ![8192, 1024]⟩
abbrev S2x1024 : Shape := ⟨2, ![2, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S2816x8192 : Shape := ⟨2, ![2816, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x5632, .bf16⟩
  | .hbm, ⟨39, _⟩ => ⟨S2816x8192, .f32⟩
  | .hbm, ⟨40, _⟩ => ⟨S2816x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== KernelFfnBwd.lean ====
abbrev S8192x1024 : Shape := ⟨2, ![8192, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x1x1024 : Shape := ⟨3, ![2, 1, 1024]⟩
abbrev S5632x1024 : Shape := ⟨2, ![5632, 1024]⟩
abbrev S5632x8192 : Shape := ⟨2, ![5632, 8192]⟩
abbrev S1x1 : Shape := ⟨2, ![1, 1]⟩
abbrev S256x1024 : Shape := ⟨2, ![256, 1024]⟩
abbrev S1x1x1024 : Shape := ⟨3, ![1, 1, 1024]⟩
abbrev S256x5632 : Shape := ⟨2, ![256, 5632]⟩
abbrev S5632x256 : Shape := ⟨2, ![5632, 256]⟩
abbrev S256 : Shape := ⟨1, ![256]⟩
abbrev S256x1 : Shape := ⟨2, ![256, 1]⟩
abbrev S1 : Shape := ⟨1, ![1]⟩
abbrev S768x1024 : Shape := ⟨2, ![768, 1024]⟩
abbrev S256x768 : Shape := ⟨2, ![256, 768]⟩
abbrev S768x256 : Shape := ⟨2, ![768, 256]⟩
abbrev S512x1024 : Shape := ⟨2, ![512, 1024]⟩
abbrev S256x512 : Shape := ⟨2, ![256, 512]⟩
abbrev S512x256 : Shape := ⟨2, ![512, 256]⟩

abbrev nBuf : Space → Nat
  | .hbm => 38
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S2x1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x5632, .bf16⟩
  | .hbm, ⟨27, _⟩ => ⟨S1x1024, .f32⟩
  | .hbm, ⟨28, _⟩ => ⟨S2x1x1024, .f32⟩
  | .hbm, ⟨29, _⟩ => ⟨S5632x1024, .f32⟩
  | .hbm, ⟨30, _⟩ => ⟨S5632x1024, .bf16⟩
  | .hbm, ⟨31, _⟩ => ⟨S2816x1024, .bf16⟩
  | .hbm, ⟨32, _⟩ => ⟨S5632x8192, .bf16⟩
  | .hbm, ⟨33, _⟩ => ⟨S8192x1024, .f32⟩
  | .hbm, ⟨34, _⟩ => ⟨S8192x1024, .bf16⟩
  | .hbm, ⟨35, _⟩ => ⟨S1x1024, .f32⟩
  | .hbm, ⟨36, _⟩ => ⟨S1x1, .f32⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1x1024, .f32⟩
  | .local _ .vmem, ⟨8, _⟩ => ⟨S256x5632, .bf16⟩
  | .local _ .vmem, ⟨9, _⟩ => ⟨S256x5632, .bf16⟩
  | .local _ .vmem, ⟨10, _⟩ => ⟨S5632x1024, .bf16⟩
  | .local _ .vmem, ⟨11, _⟩ => ⟨S2816x1024, .bf16⟩
  | .local _ .vmem, ⟨12, _⟩ => ⟨S5632x256, .bf16⟩
  | .local _ .vmem, ⟨13, _⟩ => ⟨S5632x256, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev main_v22_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5632x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5632x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceFfnBwdIdeal.lean ====
abbrev S8192x1024 : Shape := ⟨2, ![8192, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S5632x8192 : Shape := ⟨2, ![5632, 8192]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S8192x1024, .f32⟩
  | 1 => ⟨S1024, .f32⟩
  | 2 => ⟨S8192x1024, .f32⟩
  | 3 => ⟨S8192x1024, .f32⟩
  | 4 => ⟨S2x1024, .f32⟩
  | 5 => ⟨S1024x5632, .f32⟩
  | 6 => ⟨S2816x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192, .f32⟩
  | 34 => ⟨S_, .f32⟩
  | 35 => ⟨S8192, .f32⟩
  | 36 => ⟨S8192, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S8192, .f32⟩
  | 45 => ⟨S_, .f32⟩
  | 46 => ⟨S8192, .f32⟩
  | 47 => ⟨S8192, .f32⟩
  | 48 => ⟨S8192x1024, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S_, .f32⟩
  | 57 => ⟨S1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S1x1024, .f32⟩
  | 76 => ⟨S1024, .f32⟩
  | 77 => ⟨S_, .f32⟩
  | 78 => ⟨S8192x5632, .f32⟩
  | 79 => ⟨S8192x1024, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S8192x5632, .f32⟩
  | 100 => ⟨S8192x5632, .f32⟩
  | 101 => ⟨S8192x2816, .f32⟩
  | 102 => ⟨S8192x2816, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S_, .f32⟩
  | 109 => ⟨S8192x2816, .f32⟩
  | 110 => ⟨S8192x2816, .f32⟩
  | 111 => ⟨S_, .f32⟩
  | 112 => ⟨S8192x2816, .f32⟩
  | 113 => ⟨S8192x2816, .f32⟩
  | 114 => ⟨S8192x2816, .f32⟩
  | 115 => ⟨S8192x2816, .f32⟩
  | 116 => ⟨S8192x2816, .f32⟩
  | 117 => ⟨S8192x1024, .f32⟩
  | 118 => ⟨S8192x1024, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x5632, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S8192x1024, .f32⟩
  | 5 => ⟨S8192x1024, .f32⟩
  | 6 => ⟨S_, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S8192x1024, .f32⟩
  | 13 => ⟨S8192x1024, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S5632x8192, .f32⟩
  | 27 => ⟨S5632x8192, .bf16⟩
  | 28 => ⟨S8192x1024, .bf16⟩
  | 29 => ⟨S1x1024, .f32⟩
  | 30 => ⟨S1x1, .f32⟩
  | 31 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩
abbrev main_v44 : Ref sig .tc := ⟨.hbm, 67, rfl⟩
abbrev main_cst_15 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_20 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call0_v0 : Ref sig .tc := ⟨.hbm, 103, rfl⟩
abbrev main_call0_v1 : Ref sig .tc := ⟨.hbm, 104, rfl⟩
abbrev main_call0_cst : Ref sig .tc := ⟨.hbm, 105, rfl⟩
abbrev main_call0_v2 : Ref sig .tc := ⟨.hbm, 106, rfl⟩
abbrev main_call0_v3 : Ref sig .tc := ⟨.hbm, 107, rfl⟩
abbrev main_call0_cst_0 : Ref sig .tc := ⟨.hbm, 108, rfl⟩
abbrev main_call0_v4 : Ref sig .tc := ⟨.hbm, 109, rfl⟩
abbrev main_v74_2 : Ref sig .tc := ⟨.hbm, 110, rfl⟩
abbrev main_call0_cst_1 : Ref sig .tc := ⟨.hbm, 111, rfl⟩
abbrev main_call0_v6 : Ref sig .tc := ⟨.hbm, 112, rfl⟩
abbrev main_call0_v7 : Ref sig .tc := ⟨.hbm, 113, rfl⟩
abbrev main_v74_1 : Ref sig .tc := ⟨.hbm, 114, rfl⟩
abbrev main_v74_0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_22 : Ref sig .tc := ⟨.hbm, 134, rfl⟩
abbrev main_v89 : Ref sig .tc := ⟨.hbm, 135, rfl⟩
abbrev main_v90 : Ref sig .tc := ⟨.hbm, 136, rfl⟩
abbrev main_cst_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_24 : Ref sig .tc := ⟨.hbm, 144, rfl⟩
abbrev main_v97 : Ref sig .tc := ⟨.hbm, 145, rfl⟩
abbrev main_v98 : Ref sig .tc := ⟨.hbm, 146, rfl⟩
abbrev main_cst_25 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩

abbrev nD : Nat := 1
abbrev τ : Topo := Topo.v7x

variable {F : FTy → Type} [FloatOps F]
-- ==== Proof.Math.lean ====
module

public import Idealize.ShloMosaic.Lib.Pointwise

@[expose] public section

noncomputable section

/-! The three gradients of one chunk of one head, as functions of the chunk's matrices over the extended reals. -/

namespace Cert.Ret

/-- A 128 by 128 matrix over the extended reals. -/
abbrev Mat := Fin 128 → Fin 128 → EReal

/-- The column half a head's width away. -/
def half (b : Fin 128) : Fin 128 := ⟨(b.val + 64) % 128, Nat.mod_lt _ (by decide)⟩

/-- The transpose of the rotation by the positions' angles; `S` has its left half negated. -/
def rotT (T C S : Mat) : Mat := fun a b => T a b * C a b + T a (half b) * S a (half b)

/-- The gradient of the rotated queries: from the scores inside the chunk, and from the two states. -/
def dqM (K V G sf sb D xf xb : Mat) : Mat := fun a b =>
  ∑ x, (∑ y, G a y * V x y) * D a x * K x b + xf a b * ∑ y, G a y * sf b y + xb a b * ∑ y, G a y * sb b y

/-- The gradient of the rotated, scaled keys: from the scores, and from the two state updates. -/
def dkM (Q V G gf gb D zf zb : Mat) : Mat := fun a b =>
  ∑ x, (∑ y, G x y * V a y) * D x a * Q x b + zf a b * ∑ y, V a y * gf b y + zb a b * ∑ y, V a y * gb b y

/-- The gradient of the values. -/
def dvM (Q K G gf gb D zf zb : Mat) : Mat := fun a b =>
  ∑ x, (∑ y, Q x y * K a y) * D x a * G x b + zf a b * ∑ y, K a y * gf y b + zb a b * ∑ y, K a y * gb y b

theorem dq_congr {K K' V V' G G' s s' t t' D D' x x' y y' C C' S S' : Mat} (h1 : K = K') (h2 : V = V') (h3 : G = G')
    (h4 : s = s') (h5 : t = t') (h6 : D = D') (h7 : x = x') (h8 : y = y') (h9 : C = C') (h10 : S = S') (a b : Fin 128) :
    rotT (dqM K V G s t D x y) C S a b = rotT (dqM K' V' G' s' t' D' x' y') C' S' a b := by
  subst h1 h2 h3 h4 h5 h6 h7 h8 h9 h10; rfl

theorem dk_congr {K K' V V' G G' s s' t t' D D' x x' y y' C C' S S' : Mat} (h1 : K = K') (h2 : V = V') (h3 : G = G')
    (h4 : s = s') (h5 : t = t') (h6 : D = D') (h7 : x = x') (h8 : y = y') (h9 : C = C') (h10 : S = S') (u : EReal)
    (a b : Fin 128) :
    rotT (fun a b => dkM K V G s t D x y a b * u) C S a b = rotT (fun a b => dkM K' V' G' s' t' D' x' y' a b * u) C' S' a b := by
  subst h1 h2 h3 h4 h5 h6 h7 h8 h9 h10; rfl

theorem dv_congr {K K' V V' G G' s s' t t' D D' x x' y y' : Mat} (h1 : K = K') (h2 : V = V') (h3 : G = G')
    (h4 : s = s') (h5 : t = t') (h6 : D = D') (h7 : x = x') (h8 : y = y') (a b : Fin 128) :
    dvM K V G s t D x y a b = dvM K' V' G' s' t' D' x' y' a b := by
  subst h1 h2 h3 h4 h5 h6 h7 h8; rfl

end Cert.Ret

end
-- ==== Proof.Tile.lean ====
module

public import proofs.«01_k».proof.Proof.Gen.KernelIdeal.Skeleton
public import proofs.«01_k».proof.Proof.Math

@[expose] public section

set_option maxRecDepth 16384

noncomputable section

/-! What the kernel computes of one chunk of one head, from the blocks it loads, read at an index. -/

namespace Cert.KernelIdeal.Ret

open Cert.KernelIdeal Cert.KernelIdeal.Gen Idealize.ShloMosaic Cert.Ret

/-- A loaded matrix as a function of its row and column. -/
abbrev m2 (x : S128x128.Idx → EReal) : Mat := fun a b => x (ix2 a b)
abbrev m3 (x : S1x128x128.Idx → EReal) : Mat := fun a b => x (ix3 0 a b)
abbrev m4 (x : S1x1x128x128.Idx → EReal) : Mat := fun a b => x (ix4 0 0 a b)

/-- The gradient of the rotated queries, before the rotation back. -/
def dqrTile (k v : Vec Ideal S128x128 .bf16) (dO : Vec Ideal S128x128 .f32)
    (sf sb : Vec Ideal S1x1x128x128 .bf16) (dm xf xb : Vec Ideal S1x128x128 .f32) : Vec Ideal S128x128 .f32 :=
  k0_pay15 (k0_pay6 k) (k0_pay11 v dO dm) (k0_pay12 dO sf sb) xf xb

theorem dqrTile_apply (k v : Vec Ideal S128x128 .bf16) (dO : Vec Ideal S128x128 .f32)
    (sf sb : Vec Ideal S1x1x128x128 .bf16) (dm xf xb : Vec Ideal S1x128x128 .f32) (a b : Fin 128) :
    dqrTile k v dO sf sb dm xf xb (ix2 a b) =
      dqM (m2 k) (m2 v) (m2 dO) (m4 sf) (m4 sb) (m3 dm) (m3 xf) (m3 xb) a b := by
  pointwise! [dqrTile, k0_pay15, k0_pay6, k0_pay11, k0_pay12, k0_pay7, k0_pay8, k0_pay9, dqM]

/-- The query gradient of one chunk and head, from the blocks it reads. -/
def dqTile (k v : Vec Ideal S128x128 .bf16) (cos sin dO : Vec Ideal S128x128 .f32)
    (sf sb : Vec Ideal S1x1x128x128 .bf16) (dm xf xb : Vec Ideal S1x128x128 .f32) : Vec Ideal S128x128 .bf16 :=
  k0_pay17 (k0_pay3 cos) (k0_pay4 sin) (dqrTile k v dO sf sb dm xf xb)

theorem half_eq (b : Fin 128) (h) : (⟨(b.val + 128 - 64) % 128, h⟩ : Fin 128) = half b :=
  Fin.ext (by show (b.val + 128 - 64) % 128 = (b.val + 64) % 128; omega)

theorem dqTile_apply (k v : Vec Ideal S128x128 .bf16) (cos sin dO : Vec Ideal S128x128 .f32)
    (sf sb : Vec Ideal S1x1x128x128 .bf16) (dm xf xb : Vec Ideal S1x128x128 .f32) (a b : Fin 128) :
    dqTile k v cos sin dO sf sb dm xf xb (ix2 a b) =
      rotT (dqM (m2 k) (m2 v) (m2 dO) (m4 sf) (m4 sb) (m3 dm) (m3 xf) (m3 xb)) (m2 cos) (m2 sin) a b := by
  pointwise [dqTile, k0_pay17, k0_pay3, k0_pay4]
  simp only [half_eq, dqrTile_apply]
  rfl

/-- The gradient of the rotated, scaled keys, before the rotation back. -/
def dkrTile (q v : Vec Ideal S128x128 .bf16) (dO : Vec Ideal S128x128 .f32)
    (gf gb : Vec Ideal S1x1x128x128 .bf16) (dm zf zb : Vec Ideal S1x128x128 .f32) : Vec Ideal S128x128 .f32 :=
  k0_pay16 (k0_pay5 q) (k0_pay7 v) (k0_pay11 v dO dm) (k0_pay13 gf) gb zf zb

theorem dkrTile_apply (q v : Vec Ideal S128x128 .bf16) (dO : Vec Ideal S128x128 .f32)
    (gf gb : Vec Ideal S1x1x128x128 .bf16) (dm zf zb : Vec Ideal S1x128x128 .f32) (a b : Fin 128) :
    dkrTile q v dO gf gb dm zf zb (ix2 a b) =
      dkM (m2 q) (m2 v) (m2 dO) (m4 gf) (m4 gb) (m3 dm) (m3 zf) (m3 zb) a b := by
  pointwise! [dkrTile, k0_pay16, k0_pay5, k0_pay13, k0_pay11, k0_pay7, k0_pay8, k0_pay9, dkM]

/-- The scale of the keys. -/
abbrev kscale : EReal := Ideal.ofBits .f32 0x3DB504F3#32

def dkTile (q v : Vec Ideal S128x128 .bf16) (cos sin dO : Vec Ideal S128x128 .f32)
    (gf gb : Vec Ideal S1x1x128x128 .bf16) (dm zf zb : Vec Ideal S1x128x128 .f32) : Vec Ideal S128x128 .bf16 :=
  k0_pay18 (k0_pay3 cos) (k0_pay4 sin) (dkrTile q v dO gf gb dm zf zb) (Scalar.ofBits .f32 0x3DB504F3#32)

theorem dkTile_apply (q v : Vec Ideal S128x128 .bf16) (cos sin dO : Vec Ideal S128x128 .f32)
    (gf gb : Vec Ideal S1x1x128x128 .bf16) (dm zf zb : Vec Ideal S1x128x128 .f32) (a b : Fin 128) :
    dkTile q v cos sin dO gf gb dm zf zb (ix2 a b) =
      rotT (fun a b => dkM (m2 q) (m2 v) (m2 dO) (m4 gf) (m4 gb) (m3 dm) (m3 zf) (m3 zb) a b * kscale)
        (m2 cos) (m2 sin) a b := by
  pointwise [dkTile, k0_pay18, k0_pay3, k0_pay4]
  simp only [half_eq, dkrTile_apply]
  rfl

def dvTile (q k : Vec Ideal S128x128 .bf16) (dO : Vec Ideal S128x128 .f32)
    (gf gb : Vec Ideal S1x1x128x128 .bf16) (dm zf zb : Vec Ideal S1x128x128 .f32) : Vec Ideal S128x128 .bf16 :=
  k0_pay19 (k0_pay8 dO) (k0_pay10 q k dm) (k0_pay14 (k0_pay6 k) gf gb) zf zb

theorem dvTile_apply (q k : Vec Ideal S128x128 .bf16) (dO : Vec Ideal S128x128 .f32)
    (gf gb : Vec Ideal S1x1x128x128 .bf16) (dm zf zb : Vec Ideal S1x128x128 .f32) (a b : Fin 128) :
    dvTile q k dO gf gb dm zf zb (ix2 a b) =
      dvM (m2 q) (m2 k) (m2 dO) (m4 gf) (m4 gb) (m3 dm) (m3 zf) (m3 zb) a b := by
  pointwise! [dvTile, k0_pay19, k0_pay8, k0_pay10, k0_pay14, k0_pay5, k0_pay6, k0_pay9, dvM]

end Cert.KernelIdeal.Ret

end
-- ==== Proof.Outs.lean ====
module

public import proofs.«01_k».proof.Proof.Gen.KernelIdeal.Frame
public import proofs.«01_k».proof.Proof.Tile
public import Idealize.ShloMosaic.Lib.Pipeline.ValueKit

@[expose] public section

set_option maxRecDepth 16384

noncomputable section

/-! What the kernel leaves in its three output blocks, read at an index. -/

namespace Cert.KernelIdeal.Ret

open Cert.KernelIdeal Cert.KernelIdeal.Gen Idealize.ShloMosaic Cert.Ret

/-- Chunk `c`, head `h` of a block of 1024 tokens by 512 features. -/
abbrev tok (x : S1024x512.Idx → EReal) (c : Fin 8) (h : Fin 4) : Mat := fun a b =>
  x (ix2 ⟨128 * c.val + a.val, by omega⟩ ⟨128 * h.val + b.val, by omega⟩)
/-- Chunk `c` of a table of one row a token. -/
abbrev pos (x : S1024x128.Idx → EReal) (c : Fin 8) : Mat := fun a b => x (ix2 ⟨128 * c.val + a.val, by omega⟩ b)
/-- The state of chunk `c` and head `h`. -/
abbrev sta (x : S8x4x128x128.Idx → EReal) (c : Fin 8) (h : Fin 4) : Mat := fun a b => x (ix4 c h a b)
/-- The decay table of head `h`. -/
abbrev tab (x : S4x128x128.Idx → EReal) (h : Fin 4) : Mat := fun a b => x (ix3 h a b)

abbrev rowOf (y : Fin 1024) : Fin 8 := ⟨y.val / 128, by omega⟩
abbrev colOf (y : Fin 512) : Fin 4 := ⟨y.val / 128, by omega⟩
abbrev inner {n : Nat} (y : Fin n) : Fin 128 := ⟨y.val % 128, by omega⟩

variable (x0 x1 x2 : Vec Ideal S1024x512 .bf16) (x3 x4 : Vec Ideal S1024x128 .f32) (x5 : Vec Ideal S1024x512 .f32)
  (x6 x7 x8 x9 : Vec Ideal S8x4x128x128 .bf16) (x10 x11 x12 x13 x14 : Vec Ideal S4x128x128 .f32)

/-- The query gradient's block at a row and a column. -/
def dqOut (y0 : Fin 1024) (y1 : Fin 512) : EReal :=
  let c := rowOf y0; let h := colOf y1
  rotT (dqM (tok x1 c h) (tok x2 c h) (tok x5 c h) (sta x6 c h) (sta x7 c h) (tab x10 h) (tab x11 h) (tab x12 h))
    (pos x3 c) (pos x4 c) (inner y0) (inner y1)

/-- The key gradient's block at a row and a column. -/
def dkOut (y0 : Fin 1024) (y1 : Fin 512) : EReal :=
  let c := rowOf y0; let h := colOf y1
  rotT (fun a b => dkM (tok x0 c h) (tok x2 c h) (tok x5 c h) (sta x8 c h) (sta x9 c h) (tab x10 h) (tab x13 h)
    (tab x14 h) a b * kscale) (pos x3 c) (pos x4 c) (inner y0) (inner y1)

/-- The value gradient's block at a row and a column. -/
def dvOut (y0 : Fin 1024) (y1 : Fin 512) : EReal :=
  let c := rowOf y0; let h := colOf y1
  dvM (tok x0 c h) (tok x1 c h) (tok x5 c h) (sta x8 c h) (sta x9 c h) (tab x10 h) (tab x13 h) (tab x14 h)
    (inner y0) (inner y1)

section pieces
variable {o0 o1 : Nat} {h2 : ∀ a, (![o0, o1] : Fin 2 → Nat) a + S128x128.size a ≤ S1024x512.size a}
  {hp : ∀ a, (![o0, 0] : Fin 2 → Nat) a + S128x128.size a ≤ S1024x128.size a}
  {h4 : ∀ a, (![o0 / 128, o1 / 128, 0, 0] : Fin 4 → Nat) a + S1x1x128x128.size a ≤ S8x4x128x128.size a}
  {h3 : ∀ a, (![o1 / 128, 0, 0] : Fin 3 → Nat) a + S1x128x128.size a ≤ S4x128x128.size a}

theorem ld_tok {e : EltTy} (x : Vec Ideal S1024x512 e) (c : Fin 8) (h : Fin 4) (e0 : o0 = 128 * c.val)
    (e1 : o1 = 128 * h.val) :
    (fun a b : Fin 128 => View.ld x (Rect.unit (s := S1024x512) ![o0, o1] S128x128.size h2) (ix2 a b)) =
      fun a b => x (ix2 ⟨128 * c.val + a.val, by omega⟩ ⟨128 * h.val + b.val, by omega⟩) := by
  funext a b
  refine View.ld_unit_apply_of x _ _ _ _ _ fun k => ?_
  fin_cases k
  · show 128 * c.val + a.val = o0 + a.val; omega
  · show 128 * h.val + b.val = o1 + b.val; omega

theorem ld_pos {e : EltTy} (x : Vec Ideal S1024x128 e) (c : Fin 8) (e0 : o0 = 128 * c.val) :
    (fun a b : Fin 128 => View.ld x (Rect.unit (s := S1024x128) ![o0, 0] S128x128.size hp) (ix2 a b)) =
      fun a b => x (ix2 ⟨128 * c.val + a.val, by omega⟩ b) := by
  funext a b
  refine View.ld_unit_apply_of x _ _ _ _ _ fun k => ?_
  fin_cases k
  · show 128 * c.val + a.val = o0 + a.val; omega
  · show b.val = 0 + b.val; omega

theorem ld_sta {e : EltTy} (x : Vec Ideal S8x4x128x128 e) (c : Fin 8) (h : Fin 4) (e0 : o0 = 128 * c.val)
    (e1 : o1 = 128 * h.val) :
    (fun a b : Fin 128 =>
      View.ld x (Rect.unit (s := S8x4x128x128) ![o0 / 128, o1 / 128, 0, 0] S1x1x128x128.size h4) (ix4 0 0 a b)) =
      fun a b => x (ix4 c h a b) := by
  funext a b
  refine View.ld_unit_apply_of x _ _ _ _ _ fun k => ?_
  fin_cases k
  · show c.val = o0 / 128 + 0; omega
  · show h.val = o1 / 128 + 0; omega
  · show a.val = 0 + a.val; omega
  · show b.val = 0 + b.val; omega

theorem ld_tab {e : EltTy} (x : Vec Ideal S4x128x128 e) (h : Fin 4) (e1 : o1 = 128 * h.val) :
    (fun a b : Fin 128 =>
      View.ld x (Rect.unit (s := S4x128x128) ![o1 / 128, 0, 0] S1x128x128.size h3) (ix3 0 a b)) =
      fun a b => x (ix3 h a b) := by
  funext a b
  refine View.ld_unit_apply_of x _ _ _ _ _ fun k => ?_
  fin_cases k
  · show h.val = o1 / 128 + 0; omega
  · show a.val = 0 + a.val; omega
  · show b.val = 0 + b.val; omega

/-- One stored piece of the query gradient, at an index of the block that it holds. -/
theorem dq_piece (r : Fin 1024) (s : Fin 512) (d0 : o0 % 128 = 0) (d1 : o1 % 128 = 0) :
    View.TileAt (Val := Elt Ideal) (S := S1024x512) (e := .bf16) (ix2 r s) ![o0, o1] S128x128.size
      (dqTile (View.ld x1 (Rect.unit (s := S1024x512) ![o0, o1] S128x128.size h2))
        (View.ld x2 (Rect.unit (s := S1024x512) ![o0, o1] S128x128.size h2))
        (View.ld x3 (Rect.unit (s := S1024x128) ![o0, 0] S128x128.size hp))
        (View.ld x4 (Rect.unit (s := S1024x128) ![o0, 0] S128x128.size hp))
        (View.ld x5 (Rect.unit (s := S1024x512) ![o0, o1] S128x128.size h2))
        (View.ld x6 (Rect.unit (s := S8x4x128x128) ![o0 / 128, o1 / 128, 0, 0] S1x1x128x128.size h4))
        (View.ld x7 (Rect.unit (s := S8x4x128x128) ![o0 / 128, o1 / 128, 0, 0] S1x1x128x128.size h4))
        (View.ld x10 (Rect.unit (s := S4x128x128) ![o1 / 128, 0, 0] S1x128x128.size h3))
        (View.ld x11 (Rect.unit (s := S4x128x128) ![o1 / 128, 0, 0] S1x128x128.size h3))
        (View.ld x12 (Rect.unit (s := S4x128x128) ![o1 / 128, 0, 0] S1x128x128.size h3)))
      (dqOut x1 x2 x3 x4 x5 x6 x7 x10 x11 x12 r s) := by
  intro x hx
  obtain ⟨a, b, rfl⟩ : ∃ a b : Fin 128, x = ix2 a b := ⟨x 0, x 1, eq_ix2 x⟩
  have ha : r.val = o0 + a.val := hx 0
  have hb : s.val = o1 + b.val := hx 1
  have i0 : inner r = a := Fin.ext (by show r.val % 128 = _; omega)
  have i1 : inner s = b := Fin.ext (by show s.val % 128 = _; omega)
  have e0 : o0 = 128 * (rowOf r).val := by show o0 = 128 * (r.val / 128); omega
  have e1 : o1 = 128 * (colOf s).val := by show o1 = 128 * (s.val / 128); omega
  rw [dqTile_apply]
  unfold dqOut
  simp only [i0, i1]
  exact dq_congr (ld_tok x1 _ _ e0 e1) (ld_tok x2 _ _ e0 e1) (ld_tok x5 _ _ e0 e1) (ld_sta x6 _ _ e0 e1)
    (ld_sta x7 _ _ e0 e1) (ld_tab x10 _ e1) (ld_tab x11 _ e1) (ld_tab x12 _ e1) (ld_pos x3 _ e0) (ld_pos x4 _ e0) a b

/-- One stored piece of the key gradient, at an index of the block that it holds. -/
theorem dk_piece (r : Fin 1024) (s : Fin 512) (d0 : o0 % 128 = 0) (d1 : o1 % 128 = 0) :
    View.TileAt (Val := Elt Ideal) (S := S1024x512) (e := .bf16) (ix2 r s) ![o0, o1] S128x128.size
      (dkTile (View.ld x0 (Rect.unit (s := S1024x512) ![o0, o1] S128x128.size h2))
        (View.ld x2 (Rect.unit (s := S1024x512) ![o0, o1] S128x128.size h2))
        (View.ld x3 (Rect.unit (s := S1024x128) ![o0, 0] S128x128.size hp))
        (View.ld x4 (Rect.unit (s := S1024x128) ![o0, 0] S128x128.size hp))
        (View.ld x5 (Rect.unit (s := S1024x512) ![o0, o1] S128x128.size h2))
        (View.ld x8 (Rect.unit (s := S8x4x128x128) ![o0 / 128, o1 / 128, 0, 0] S1x1x128x128.size h4))
        (View.ld x9 (Rect.unit (s := S8x4x128x128) ![o0 / 128, o1 / 128, 0, 0] S1x1x128x128.size h4))
        (View.ld x10 (Rect.unit (s := S4x128x128) ![o1 / 128, 0, 0] S1x128x128.size h3))
        (View.ld x13 (Rect.unit (s := S4x128x128) ![o1 / 128, 0, 0] S1x128x128.size h3))
        (View.ld x14 (Rect.unit (s := S4x128x128) ![o1 / 128, 0, 0] S1x128x128.size h3)))
      (dkOut x0 x2 x3 x4 x5 x8 x9 x10 x13 x14 r s) := by
  intro x hx
  obtain ⟨a, b, rfl⟩ : ∃ a b : Fin 128, x = ix2 a b := ⟨x 0, x 1, eq_ix2 x⟩
  have ha : r.val = o0 + a.val := hx 0
  have hb : s.val = o1 + b.val := hx 1
  have i0 : inner r = a := Fin.ext (by show r.val % 128 = _; omega)
  have i1 : inner s = b := Fin.ext (by show s.val % 128 = _; omega)
  have e0 : o0 = 128 * (rowOf r).val := by show o0 = 128 * (r.val / 128); omega
  have e1 : o1 = 128 * (colOf s).val := by show o1 = 128 * (s.val / 128); omega
  rw [dkTile_apply]
  unfold dkOut
  simp only [i0, i1]
  exact dk_congr (ld_tok x0 _ _ e0 e1) (ld_tok x2 _ _ e0 e1) (ld_tok x5 _ _ e0 e1) (ld_sta x8 _ _ e0 e1)
    (ld_sta x9 _ _ e0 e1) (ld_tab x10 _ e1) (ld_tab x13 _ e1) (ld_tab x14 _ e1) (ld_pos x3 _ e0) (ld_pos x4 _ e0)
    kscale a b

/-- One stored piece of the value gradient, at an index of the block that it holds. -/
theorem dv_piece (r : Fin 1024) (s : Fin 512) (d0 : o0 % 128 = 0) (d1 : o1 % 128 = 0) :
    View.TileAt (Val := Elt Ideal) (S := S1024x512) (e := .bf16) (ix2 r s) ![o0, o1] S128x128.size
      (dvTile (View.ld x0 (Rect.unit (s := S1024x512) ![o0, o1] S128x128.size h2))
        (View.ld x1 (Rect.unit (s := S1024x512) ![o0, o1] S128x128.size h2))
        (View.ld x5 (Rect.unit (s := S1024x512) ![o0, o1] S128x128.size h2))
        (View.ld x8 (Rect.unit (s := S8x4x128x128) ![o0 / 128, o1 / 128, 0, 0] S1x1x128x128.size h4))
        (View.ld x9 (Rect.unit (s := S8x4x128x128) ![o0 / 128, o1 / 128, 0, 0] S1x1x128x128.size h4))
        (View.ld x10 (Rect.unit (s := S4x128x128) ![o1 / 128, 0, 0] S1x128x128.size h3))
        (View.ld x13 (Rect.unit (s := S4x128x128) ![o1 / 128, 0, 0] S1x128x128.size h3))
        (View.ld x14 (Rect.unit (s := S4x128x128) ![o1 / 128, 0, 0] S1x128x128.size h3)))
      (dvOut x0 x1 x5 x8 x9 x10 x13 x14 r s) := by
  intro x hx
  obtain ⟨a, b, rfl⟩ : ∃ a b : Fin 128, x = ix2 a b := ⟨x 0, x 1, eq_ix2 x⟩
  have ha : r.val = o0 + a.val := hx 0
  have hb : s.val = o1 + b.val := hx 1
  have i0 : inner r = a := Fin.ext (by show r.val % 128 = _; omega)
  have i1 : inner s = b := Fin.ext (by show s.val % 128 = _; omega)
  have e0 : o0 = 128 * (rowOf r).val := by show o0 = 128 * (r.val / 128); omega
  have e1 : o1 = 128 * (colOf s).val := by show o1 = 128 * (s.val / 128); omega
  rw [dvTile_apply]
  unfold dvOut
  simp only [i0, i1]
  exact dv_congr (ld_tok x0 _ _ e0 e1) (ld_tok x1 _ _ e0 e1) (ld_tok x5 _ _ e0 e1) (ld_sta x8 _ _ e0 e1)
    (ld_sta x9 _ _ e0 e1) (ld_tab x10 _ e1) (ld_tab x13 _ e1) (ld_tab x14 _ e1) a b

end pieces

theorem out15_apply (r : Fin 1024) (s : Fin 512) :
    out0_15 x0 x1 x2 x3 x4 x5 x6 x7 x8 x9 x10 x11 x12 x13 x14 (ix2 r s) =
      dqOut x1 x2 x3 x4 x5 x6 x7 x10 x11 x12 r s := by
  unfold out0_15
  refine View.canon_eq_of_allAt _ (ix2 r s) _ (View.cover_of_tiled_head _ _ _ (by rfl) (ix2 r s)) ?_
  repeat' refine View.allAt_cons_unit _ _ _ _ _ (dq_piece x1 x2 x3 x4 x5 x6 x7 x10 x11 x12 r s (by decide) (by decide)) ?_
  exact View.allAt_nil (ix2 r s) _

theorem out16_apply (r : Fin 1024) (s : Fin 512) :
    out0_16 x0 x1 x2 x3 x4 x5 x6 x7 x8 x9 x10 x11 x12 x13 x14 (ix2 r s) =
      dkOut x0 x2 x3 x4 x5 x8 x9 x10 x13 x14 r s := by
  unfold out0_16
  refine View.canon_eq_of_allAt _ (ix2 r s) _ (View.cover_of_tiled_head _ _ _ (by rfl) (ix2 r s)) ?_
  repeat' refine View.allAt_cons_unit _ _ _ _ _ (dk_piece x0 x2 x3 x4 x5 x8 x9 x10 x13 x14 r s (by decide) (by decide)) ?_
  exact View.allAt_nil (ix2 r s) _

theorem out17_apply (r : Fin 1024) (s : Fin 512) :
    out0_17 x0 x1 x2 x3 x4 x5 x6 x7 x8 x9 x10 x11 x12 x13 x14 (ix2 r s) =
      dvOut x0 x1 x5 x8 x9 x10 x13 x14 r s := by
  unfold out0_17
  refine View.canon_eq_of_allAt _ (ix2 r s) _ (View.cover_of_tiled_head _ _ _ (by rfl) (ix2 r s)) ?_
  repeat' refine View.allAt_cons_unit _ _ _ _ _ (dv_piece x0 x1 x5 x8 x9 x10 x13 x14 r s (by decide) (by decide)) ?_
  exact View.allAt_nil (ix2 r s) _

end Cert.KernelIdeal.Ret

end
-- ==== Proof.Blocks.lean ====
module

public import proofs.«01_k».proof.Proof.Outs
public import proofs.«01_k».proof.Proof.Gen.KernelIdeal.Value

@[expose] public section

set_option maxRecDepth 16384

noncomputable section

/-! The blocks that a grid point reads, as parts of the arrays that the launch reads. -/

namespace Cert.KernelIdeal.Ret

open Cert.KernelIdeal Cert.KernelIdeal.Gen Cert.KernelIdeal.Value Idealize.ShloMosaic Idealize.ShloMosaic.TcCoe Cert.Ret

/-- Chunk `n`, head `h` of the `k`-th group of 512 columns of the array that holds queries, keys and values. -/
abbrev projA (x : S8192x3072.Idx → EReal) (k : Fin 6) (n : Fin 64) (h : Fin 4) : Mat := fun a b =>
  x (ix2 ⟨128 * n.val + a.val, by omega⟩ ⟨512 * k.val + (128 * h.val + b.val), by omega⟩)
/-- Chunk `n`, head `h` of an array of 8192 tokens by 512 features. -/
abbrev tokA (x : S8192x512.Idx → EReal) (n : Fin 64) (h : Fin 4) : Mat := fun a b =>
  x (ix2 ⟨128 * n.val + a.val, by omega⟩ ⟨128 * h.val + b.val, by omega⟩)
/-- Chunk `n` of a table of one row a token. -/
abbrev posA (x : S8192x128.Idx → EReal) (n : Fin 64) : Mat := fun a b => x (ix2 ⟨128 * n.val + a.val, by omega⟩ b)
/-- The state of chunk `n` and head `h`. -/
abbrev staA (x : S64x4x128x128.Idx → EReal) (n : Fin 64) (h : Fin 4) : Mat := fun a b => x (ix4 n h a b)

abbrev chunkOf (y : Fin 8192) : Fin 64 := ⟨y.val / 128, by omega⟩

section blocks
variable (m : (ℓ : Loc nD τ sig) → Buf (Elt Ideal) ℓ) (c : Dev nD)

theorem idx_out : ∀ t : Fin cfg0.N, win0_15.index t = ![t.val, 0] ∧ win0_16.index t = ![t.val, 0] ∧
    win0_17.index t = ![t.val, 0] :=
  (by decide +kernel : ∀ t : Fin grid0.N, win0_15.index t = ![t.val, 0] ∧ win0_16.index t = ![t.val, 0] ∧
    win0_17.index t = ![t.val, 0])
theorem idx_in : ∀ t : Fin cfg0.N, win0_0.index t = ![t.val, 1] ∧ win0_1.index t = ![t.val, 2] ∧
    win0_2.index t = ![t.val, 3] ∧ win0_3.index t = ![t.val, 0] ∧ win0_4.index t = ![t.val, 0] ∧
    win0_5.index t = ![t.val, 0] ∧ win0_6.index t = ![t.val, 0, 0, 0] ∧ win0_7.index t = ![t.val, 0, 0, 0] ∧
    win0_8.index t = ![t.val, 0, 0, 0] ∧ win0_9.index t = ![t.val, 0, 0, 0] :=
  (by decide +kernel : ∀ t : Fin grid0.N, win0_0.index t = ![t.val, 1] ∧ win0_1.index t = ![t.val, 2] ∧
    win0_2.index t = ![t.val, 3] ∧ win0_3.index t = ![t.val, 0] ∧ win0_4.index t = ![t.val, 0] ∧
    win0_5.index t = ![t.val, 0] ∧ win0_6.index t = ![t.val, 0, 0, 0] ∧ win0_7.index t = ![t.val, 0, 0, 0] ∧
    win0_8.index t = ![t.val, 0, 0, 0] ∧ win0_9.index t = ![t.val, 0, 0, 0])
theorem idx_tab : ∀ t : Fin cfg0.N, win0_10.index t = ![0, 0, 0] ∧ win0_11.index t = ![0, 0, 0] ∧
    win0_12.index t = ![0, 0, 0] ∧ win0_13.index t = ![0, 0, 0] ∧ win0_14.index t = ![0, 0, 0] :=
  (by decide +kernel : ∀ t : Fin grid0.N, win0_10.index t = ![0, 0, 0] ∧ win0_11.index t = ![0, 0, 0] ∧
    win0_12.index t = ![0, 0, 0] ∧ win0_13.index t = ![0, 0, 0] ∧ win0_14.index t = ![0, 0, 0])

theorem N8 (t : Fin cfg0.N) : t.val < 8 := by have := t.isLt; have : cfg0.N = 8 := N_0; omega

/-- The chunk that holds row chunk `cc` of block `t`. -/
abbrev chunkAt (t : Fin cfg0.N) (cc : Fin 8) : Fin 64 := ⟨8 * t.val + cc.val, by have := N8 t; omega⟩

theorem tok0 (t : Fin cfg0.N) (cc : Fin 8) (h : Fin 4) : tok (iblk m c 0 t) cc h = projA (V m c main_v38) 1 (chunkAt t cc) h := by
  funext a b
  have i := (idx_in t).1
  show iblk m c 0 t (ix2 _ _) = V m c main_v38 (ix2 _ _)
  blk_ext [iblk, i]

theorem tok1 (t : Fin cfg0.N) (cc : Fin 8) (h : Fin 4) : tok (iblk m c 1 t) cc h = projA (V m c main_v38) 2 (chunkAt t cc) h := by
  funext a b
  have i := (idx_in t).2.1
  show iblk m c 1 t (ix2 _ _) = V m c main_v38 (ix2 _ _)
  blk_ext [iblk, i]

theorem tok2 (t : Fin cfg0.N) (cc : Fin 8) (h : Fin 4) : tok (iblk m c 2 t) cc h = projA (V m c main_v38) 3 (chunkAt t cc) h := by
  funext a b
  have i := (idx_in t).2.2.1
  show iblk m c 2 t (ix2 _ _) = V m c main_v38 (ix2 _ _)
  blk_ext [iblk, i]

theorem pos3 (t : Fin cfg0.N) (cc : Fin 8) : pos (iblk m c 3 t) cc = posA (V m c main_v39) (chunkAt t cc) := by
  funext a b
  have i := (idx_in t).2.2.2.1
  show iblk m c 3 t (ix2 _ _) = V m c main_v39 (ix2 _ _)
  blk_ext [iblk, i]

theorem pos4 (t : Fin cfg0.N) (cc : Fin 8) : pos (iblk m c 4 t) cc = posA (V m c main_v41) (chunkAt t cc) := by
  funext a b
  have i := (idx_in t).2.2.2.2.1
  show iblk m c 4 t (ix2 _ _) = V m c main_v41 (ix2 _ _)
  blk_ext [iblk, i]

theorem tok5 (t : Fin cfg0.N) (cc : Fin 8) (h : Fin 4) : tok (iblk m c 5 t) cc h = tokA (V m c main_arg5) (chunkAt t cc) h := by
  funext a b
  have i := (idx_in t).2.2.2.2.2.1
  show iblk m c 5 t (ix2 _ _) = V m c main_arg5 (ix2 _ _)
  blk_ext [iblk, i]

theorem sta6 (t : Fin cfg0.N) (cc : Fin 8) (h : Fin 4) : sta (iblk m c 6 t) cc h = staA (V m c main_v42) (chunkAt t cc) h := by
  funext a b
  have i := (idx_in t).2.2.2.2.2.2.1
  show iblk m c 6 t (ix4 _ _ _ _) = V m c main_v42 (ix4 _ _ _ _)
  blk_ext [iblk, i]

theorem sta7 (t : Fin cfg0.N) (cc : Fin 8) (h : Fin 4) : sta (iblk m c 7 t) cc h = staA (V m c main_v43) (chunkAt t cc) h := by
  funext a b
  have i := (idx_in t).2.2.2.2.2.2.2.1
  show iblk m c 7 t (ix4 _ _ _ _) = V m c main_v43 (ix4 _ _ _ _)
  blk_ext [iblk, i]

theorem sta8 (t : Fin cfg0.N) (cc : Fin 8) (h : Fin 4) : sta (iblk m c 8 t) cc h = staA (V m c main_v44) (chunkAt t cc) h := by
  funext a b
  have i := (idx_in t).2.2.2.2.2.2.2.2.1
  show iblk m c 8 t (ix4 _ _ _ _) = V m c main_v44 (ix4 _ _ _ _)
  blk_ext [iblk, i]

theorem sta9 (t : Fin cfg0.N) (cc : Fin 8) (h : Fin 4) : sta (iblk m c 9 t) cc h = staA (V m c main_v45) (chunkAt t cc) h := by
  funext a b
  have i := (idx_in t).2.2.2.2.2.2.2.2.2
  show iblk m c 9 t (ix4 _ _ _ _) = V m c main_v45 (ix4 _ _ _ _)
  blk_ext [iblk, i]

theorem tab10 (t : Fin cfg0.N) (h : Fin 4) : tab (iblk m c 10 t) h = tab (V m c main_v127) h := by
  funext a b
  have i := (idx_tab t).1
  show iblk m c 10 t (ix3 _ _ _) = V m c main_v127 (ix3 _ _ _)
  blk_ext [iblk, i]

theorem tab11 (t : Fin cfg0.N) (h : Fin 4) : tab (iblk m c 11 t) h = tab (V m c main_v89) h := by
  funext a b
  have i := (idx_tab t).2.1
  show iblk m c 11 t (ix3 _ _ _) = V m c main_v89 (ix3 _ _ _)
  blk_ext [iblk, i]

theorem tab12 (t : Fin cfg0.N) (h : Fin 4) : tab (iblk m c 12 t) h = tab (V m c main_v124) h := by
  funext a b
  have i := (idx_tab t).2.2.1
  show iblk m c 12 t (ix3 _ _ _) = V m c main_v124 (ix3 _ _ _)
  blk_ext [iblk, i]

theorem tab13 (t : Fin cfg0.N) (h : Fin 4) : tab (iblk m c 13 t) h = tab (V m c main_v91) h := by
  funext a b
  have i := (idx_tab t).2.2.2.1
  show iblk m c 13 t (ix3 _ _ _) = V m c main_v91 (ix3 _ _ _)
  blk_ext [iblk, i]

theorem tab14 (t : Fin cfg0.N) (h : Fin 4) : tab (iblk m c 14 t) h = tab (V m c main_v126) h := by
  funext a b
  have i := (idx_tab t).2.2.2.2
  show iblk m c 14 t (ix3 _ _ _) = V m c main_v126 (ix3 _ _ _)
  blk_ext [iblk, i]

end blocks

end Cert.KernelIdeal.Ret

end
-- ==== Proof.Arrays.lean ====
module

public import proofs.«01_k».proof.Proof.Blocks

@[expose] public section

set_option maxRecDepth 16384

noncomputable section

/-! The three result arrays at an index, over the arrays that the launch reads. -/

namespace Cert.KernelIdeal.Ret

open Cert.KernelIdeal Cert.KernelIdeal.Gen Cert.KernelIdeal.Value Idealize.ShloMosaic Idealize.ShloMosaic.TcCoe Cert.Ret

variable (m : (ℓ : Loc nD τ sig) → Buf (Elt Ideal) ℓ) (c : Dev nD)

/-- The query gradient at a row and a column. -/
def dqAt (r : Fin 8192) (s : Fin 512) : EReal :=
  let n := chunkOf r; let h := colOf s
  rotT (dqM (projA (V m c main_v38) 2 n h) (projA (V m c main_v38) 3 n h) (tokA (V m c main_arg5) n h)
    (staA (V m c main_v42) n h) (staA (V m c main_v43) n h) (tab (V m c main_v127) h) (tab (V m c main_v89) h)
    (tab (V m c main_v124) h)) (posA (V m c main_v39) n) (posA (V m c main_v41) n) (inner r) (inner s)

/-- The key gradient at a row and a column. -/
def dkAt (r : Fin 8192) (s : Fin 512) : EReal :=
  let n := chunkOf r; let h := colOf s
  rotT (fun a b => dkM (projA (V m c main_v38) 1 n h) (projA (V m c main_v38) 3 n h) (tokA (V m c main_arg5) n h)
    (staA (V m c main_v44) n h) (staA (V m c main_v45) n h) (tab (V m c main_v127) h) (tab (V m c main_v91) h)
    (tab (V m c main_v126) h) a b * kscale) (posA (V m c main_v39) n) (posA (V m c main_v41) n)
    (inner r) (inner s)

/-- The value gradient at a row and a column. -/
def dvAt (r : Fin 8192) (s : Fin 512) : EReal :=
  let n := chunkOf r; let h := colOf s
  dvM (projA (V m c main_v38) 1 n h) (projA (V m c main_v38) 2 n h) (tokA (V m c main_arg5) n h)
    (staA (V m c main_v44) n h) (staA (V m c main_v45) n h) (tab (V m c main_v127) h) (tab (V m c main_v91) h)
    (tab (V m c main_v126) h) (inner r) (inner s)

theorem chunk_row (t : Fin cfg0.N) (r : Fin 1024) (h) : chunkOf ⟨1024 * t.val + r.val, h⟩ = chunkAt t (rowOf r) :=
  Fin.ext (by show (1024 * t.val + r.val) / 128 = 8 * t.val + r.val / 128; omega)
theorem inner_row (t : Fin cfg0.N) (r : Fin 1024) (h : 1024 * t.val + r.val < 8192) :
    inner ⟨1024 * t.val + r.val, h⟩ = inner r :=
  Fin.ext (by show (1024 * t.val + r.val) % 128 = r.val % 128; omega)

theorem final15 : (dats m 0 c).arrAt 15 cfg0.N = fun i => dqAt m c (i 0) (i 1) := by
  refine (dats m 0 c).arrAt_eq_of_covers 15 _ (by decide +kernel) fun t hf y => ?_
  obtain ⟨r, s, rfl⟩ : ∃ (r : Fin 1024) (s : Fin 512), y = ix2 r s := ⟨y 0, y 1, eq_ix2 y⟩
  have i := idx_out t
  have e : ((cfg0.win 15).blk t).view.emb (ix2 r s) =
      ix2 (⟨1024 * t.val + r.val, by have := N8 t; omega⟩ : Fin 8192) s := by blk_ext [i]
  rw [e]
  blk_simp
  rw [after0_15]
  show out0_15 _ _ _ _ _ _ _ _ _ _ _ _ _ _ _ (ix2 r s) = _
  rw [out15_apply]
  show _ = dqAt m c ⟨1024 * t.val + r.val, by have := N8 t; omega⟩ s
  unfold dqOut dqAt
  simp only [chunk_row, inner_row]
  exact dq_congr (tok1 m c t _ _) (tok2 m c t _ _) (tok5 m c t _ _) (sta6 m c t _ _) (sta7 m c t _ _) (tab10 m c t _)
    (tab11 m c t _) (tab12 m c t _) (pos3 m c t _) (pos4 m c t _) _ _

theorem final16 : (dats m 0 c).arrAt 16 cfg0.N = fun i => dkAt m c (i 0) (i 1) := by
  refine (dats m 0 c).arrAt_eq_of_covers 16 _ (by decide +kernel) fun t hf y => ?_
  obtain ⟨r, s, rfl⟩ : ∃ (r : Fin 1024) (s : Fin 512), y = ix2 r s := ⟨y 0, y 1, eq_ix2 y⟩
  have i := idx_out t
  have e : ((cfg0.win 16).blk t).view.emb (ix2 r s) =
      ix2 (⟨1024 * t.val + r.val, by have := N8 t; omega⟩ : Fin 8192) s := by blk_ext [i]
  rw [e]
  blk_simp
  rw [after0_16]
  show out0_16 _ _ _ _ _ _ _ _ _ _ _ _ _ _ _ (ix2 r s) = _
  rw [out16_apply]
  show _ = dkAt m c ⟨1024 * t.val + r.val, by have := N8 t; omega⟩ s
  unfold dkOut dkAt
  simp only [chunk_row, inner_row]
  exact dk_congr (tok0 m c t _ _) (tok2 m c t _ _) (tok5 m c t _ _) (sta8 m c t _ _) (sta9 m c t _ _) (tab10 m c t _)
    (tab13 m c t _) (tab14 m c t _) (pos3 m c t _) (pos4 m c t _) kscale _ _

theorem final17 : (dats m 0 c).arrAt 17 cfg0.N = fun i => dvAt m c (i 0) (i 1) := by
  refine (dats m 0 c).arrAt_eq_of_covers 17 _ (by decide +kernel) fun t hf y => ?_
  obtain ⟨r, s, rfl⟩ : ∃ (r : Fin 1024) (s : Fin 512), y = ix2 r s := ⟨y 0, y 1, eq_ix2 y⟩
  have i := idx_out t
  have e : ((cfg0.win 17).blk t).view.emb (ix2 r s) =
      ix2 (⟨1024 * t.val + r.val, by have := N8 t; omega⟩ : Fin 8192) s := by blk_ext [i]
  rw [e]
  blk_simp
  rw [after0_17]
  show out0_17 _ _ _ _ _ _ _ _ _ _ _ _ _ _ _ (ix2 r s) = _
  rw [out17_apply]
  show _ = dvAt m c ⟨1024 * t.val + r.val, by have := N8 t; omega⟩ s
  unfold dvOut dvAt
  simp only [chunk_row, inner_row]
  exact dv_congr (tok0 m c t _ _) (tok1 m c t _ _) (tok5 m c t _ _) (sta8 m c t _ _) (sta9 m c t _ _) (tab10 m c t _)
    (tab13 m c t _) (tab14 m c t _) _ _

end Cert.KernelIdeal.Ret

end
-- ==== Proof.Decay.lean ====
module

public import proofs.«01_k».proof.Proof.Math

@[expose] public section

noncomputable section

/-! The decays of the two directions, and the rotation by a token's angles. -/

namespace Cert.Ret

open Idealize.ShloMosaic

/-- A natural number as an extended real. -/
def num (n : ℕ) : EReal := ((n : ℝ) : EReal)

theorem num_word {n : ℕ} (h : n < 2 ^ 31) : FloatOps.sitofp (F := Ideal) FTy.f32 (BitVec.ofNat 32 n) = num n := by
  show (((BitVec.ofNat 32 n).toInt : ℝ) : EReal) = _
  have : (BitVec.ofNat 32 n).toInt = (n : ℤ) := by
    rw [BitVec.toInt_eq_toNat_of_lt] <;> simp only [BitVec.toNat_ofNat] <;> omega
  rw [this]; simp [num]

theorem num_sub {a b : ℕ} (h : b ≤ a) : num a - num b = num (a - b) := by
  unfold num; rw [Nat.cast_sub h, EReal.coe_sub]
theorem num_add (a b : ℕ) : num a + num b = num (a + b) := by
  unfold num; rw [Nat.cast_add, EReal.coe_add]
theorem sub_num_nonneg {a b : ℕ} : 0 ≤ num a - num b ↔ b ≤ a := by
  unfold num; rw [← EReal.coe_sub, ← EReal.coe_zero, EReal.coe_le_coe_iff, sub_nonneg, Nat.cast_le]
theorem sub_num_pos {a b : ℕ} : 0 < num a - num b ↔ b < a := by
  unfold num; rw [← EReal.coe_sub, ← EReal.coe_zero, EReal.coe_lt_coe_iff, sub_pos, Nat.cast_lt]
theorem sub_num_neg {a b : ℕ} : num a - num b < 0 ↔ a < b := by
  unfold num; rw [← EReal.coe_sub, ← EReal.coe_zero, EReal.coe_lt_coe_iff, sub_neg, Nat.cast_lt]
theorem neg_sub_num {a b : ℕ} (h : a ≤ b) : -(num a - num b) = num (b - a) := by
  unfold num; rw [Nat.cast_sub h, ← EReal.coe_sub, ← EReal.coe_neg, neg_sub]

theorem word_127 : Ideal.ofBits .f32 1123942400#32 = num 127 := by
  simp [Ideal.ofBits, Ideal.ieee, num, -EReal.coe_mul]; norm_num
theorem word_128 : Ideal.ofBits .f32 1124073472#32 = num 128 := by
  simp [Ideal.ofBits, Ideal.ieee, num, -EReal.coe_mul]; norm_num
theorem num_one : (1 : EReal) = num 1 := by simp [num]

/-- The logarithm of head `h`'s decay. -/
def lg (h : Fin 4) : EReal :=
  Ideal.log (1 - Ideal.exp (Ideal.ofBits FTy.f32 1060205080#32 *
    (Ideal.ofBits FTy.f32 3231711232#32 - num h.val)))

/-- The same logarithm, of the head's number as a word. -/
theorem lg_word (h : Fin 4) : Ideal.log (1 - Ideal.exp (Ideal.ofBits FTy.f32 1060205080#32 *
    (Ideal.ofBits FTy.f32 3231711232#32 - (FloatOps.sitofp (F := Ideal) FTy.f32 (BitVec.ofNat 32 h.val) : EReal)))) = lg h := by
  rw [num_word (by omega : h.val < 2 ^ 31)]; rfl

theorem exp_nonneg (x : EReal) : 0 ≤ Ideal.exp x := by
  induction x with
  | bot => simp
  | top => simp
  | coe r => rw [Ideal.exp_coe]; exact_mod_cast (Real.exp_pos r).le

theorem log_nonpos {x : EReal} (h : x ≤ 1) : Ideal.log x ≤ 0 := by
  induction x with
  | bot => simp
  | top => exact absurd (top_le_iff.mp h) (by decide)
  | coe r =>
    rw [Ideal.log_coe]
    split_ifs with hr
    · exact bot_le
    · have h1 : r ≤ 1 := by exact_mod_cast h
      exact_mod_cast Real.log_nonpos (not_le.mp hr).le h1

theorem exp_le_one {x : EReal} (h : x ≤ 0) : Ideal.exp x ≤ 1 := by
  induction x with
  | bot => simp
  | top => simp at h
  | coe r => rw [Ideal.exp_coe]; exact_mod_cast Real.exp_le_one_iff.mpr (by exact_mod_cast h)

theorem lg_nonpos (h : Fin 4) : lg h ≤ 0 := by
  refine log_nonpos ?_
  calc _ ≤ (1 : EReal) - 0 := EReal.sub_le_sub le_rfl (exp_nonneg _)
    _ = 1 := by simp

/-- Head `h`'s decay over `n` positions. -/
def dec (h : Fin 4) (n : ℕ) : EReal := Ideal.exp (lg h * num n)

theorem dec_nonneg (h : Fin 4) (n : ℕ) : 0 ≤ dec h n := exp_nonneg _
theorem dec_ne_top (h : Fin 4) (n : ℕ) : dec h n ≠ ⊤ := by
  have : dec h n ≤ 1 := exp_le_one (mul_nonpos_of_nonpos_of_nonneg (lg_nonpos h) (by unfold num; exact_mod_cast n.cast_nonneg))
  exact ne_top_of_le_ne_top (by decide) this

/-- The decay from position `x` to a position `a` not before it. -/
def decF (h : Fin 4) : Mat := fun a x => if x.val ≤ a.val then dec h (a.val - x.val) else 0
/-- The decay from position `x` back to a position `a` before it: the other direction, whose heads' decays are reversed. -/
def decB (h : Fin 4) : Mat := fun a x => if a.val < x.val then dec h.rev (x.val - a.val) else 0

theorem decF_or (h : Fin 4) (a x : Fin 128) : decF h a x = 0 ∨ decB h a x = 0 := by
  unfold decF decB
  rcases Nat.lt_or_ge a.val x.val with h1 | h1
  · exact Or.inl (if_neg (by omega))
  · exact Or.inr (if_neg (by omega))

/-- Token `a` of chunk `n`. -/
abbrev rowAt (n : Fin 64) (a : Fin 128) : Fin 8192 := ⟨128 * n.val + a.val, by omega⟩
/-- Feature `b` of head `h`. -/
abbrev colAt (h : Fin 4) (b : Fin 128) : Fin 512 := ⟨128 * h.val + b.val, by omega⟩

theorem col_mul (h : Fin 4) (b : Fin 128) (p) : (⟨h.val * 128 + b.val, p⟩ : Fin 512) = colAt h b :=
  Fin.ext (by show h.val * 128 + b.val = 128 * h.val + b.val; omega)
theorem col_up (h : Fin 4) (b : Fin 128) (hb : b.val < 64) (p) :
    (⟨h.val * 128 + (64 + b.val), p⟩ : Fin 512) = colAt h ⟨b.val + 64, by omega⟩ :=
  Fin.ext (by show h.val * 128 + (64 + b.val) = 128 * h.val + (b.val + 64); omega)
theorem col_down (h : Fin 4) (b : Fin 128) (p) :
    (⟨h.val * 128 + (b.val - 64), p⟩ : Fin 512) = colAt h ⟨b.val - 64, by omega⟩ :=
  Fin.ext (by show h.val * 128 + (b.val - 64) = 128 * h.val + (b.val - 64); omega)
theorem col_back (h : Fin 4) (b : Fin 128) (hb : ¬ b.val < 64) (p) :
    (⟨h.val * 128 + (64 + (b.val - 64)), p⟩ : Fin 512) = colAt h b :=
  Fin.ext (by show h.val * 128 + (64 + (b.val - 64)) = 128 * h.val + b.val; omega)

theorem row_mul (n : Fin 64) (a : Fin 128) (h) : (⟨n.val * 128 + a.val, h⟩ : Fin 8192) = rowAt n a :=
  Fin.ext (by show n.val * 128 + a.val = 128 * n.val + a.val; omega)
theorem row_rev (n : Fin 64) (a : Fin 128) : (rowAt n a).rev = rowAt n.rev a.rev :=
  Fin.ext (by simp only [Fin.val_rev]; omega)
theorem row_div (n : Fin 64) (a : Fin 128) (h) : (⟨(rowAt n a).val / 128, h⟩ : Fin 64) = n :=
  Fin.ext (by show (128 * n.val + a.val) / 128 = n.val; omega)
theorem row_mod (n : Fin 64) (a : Fin 128) (h) : (⟨(rowAt n a).val % 128, h⟩ : Fin 128) = a :=
  Fin.ext (by show (128 * n.val + a.val) % 128 = a.val; omega)

/-- The rotation of head `h`'s features of token `r` by the token's angles. -/
def rot (x : Fin 8192 → Fin 512 → EReal) (co si : Fin 8192 → Fin 64 → EReal) (r : Fin 8192) (h : Fin 4)
    (b : Fin 128) : EReal :=
  if hb : b.val < 64 then
    x r (colAt h b) * co r ⟨b.val, hb⟩ - x r (colAt h ⟨b.val + 64, by omega⟩) * si r ⟨b.val, hb⟩
  else
    x r (colAt h ⟨b.val - 64, by omega⟩) * si r ⟨b.val - 64, by omega⟩ + x r (colAt h b) * co r ⟨b.val - 64, by omega⟩

theorem rot_low (x : Fin 8192 → Fin 512 → EReal) (co si : Fin 8192 → Fin 64 → EReal) (r : Fin 8192) (h : Fin 4)
    (b : Fin 128) (hb : b.val < 64) (p p') :
    x r ⟨h.val * 128 + b.val, p⟩ * co r ⟨b.val, hb⟩ - x r ⟨h.val * 128 + (64 + b.val), p'⟩ * si r ⟨b.val, hb⟩ =
      rot x co si r h b := by
  unfold rot
  rw [dif_pos hb, col_mul h b p, col_up h b hb p']

theorem rot_high (x : Fin 8192 → Fin 512 → EReal) (co si : Fin 8192 → Fin 64 → EReal) (r : Fin 8192) (h : Fin 4)
    (b : Fin 128) (hb : ¬ b.val < 64) (p p') (q) :
    x r ⟨h.val * 128 + (b.val - 64), p⟩ * si r ⟨b.val - 64, q⟩ + x r ⟨h.val * 128 + (64 + (b.val - 64)), p'⟩ * co r ⟨b.val - 64, q⟩ =
      rot x co si r h b := by
  unfold rot
  rw [dif_neg hb, col_down h b p, col_back h b hb p']

/-- The cosines of both halves of a head's features. -/
def cosM (co : Fin 8192 → Fin 64 → EReal) (n : Fin 64) : Mat := fun a b =>
  if hb : b.val < 64 then co (rowAt n a) ⟨b.val, hb⟩ else co (rowAt n a) ⟨b.val - 64, by omega⟩
/-- The sines of both halves of a head's features, those of the first half negated. -/
def sinM (si : Fin 8192 → Fin 64 → EReal) (n : Fin 64) : Mat := fun a b =>
  if hb : b.val < 64 then -si (rowAt n a) ⟨b.val, hb⟩ else si (rowAt n a) ⟨b.val - 64, by omega⟩

/-- The rotation back of a token's features, half by half. -/
theorem rotT_low (T : Mat) (co si : Fin 8192 → Fin 64 → EReal) (n : Fin 64) (a b : Fin 128) (hb : b.val < 64) :
    rotT T (cosM co n) (sinM si n) a b =
      T a ⟨b.val + 64, by omega⟩ * si (rowAt n a) ⟨b.val, hb⟩ + T a b * co (rowAt n a) ⟨b.val, hb⟩ := by
  have e : half b = ⟨b.val + 64, by omega⟩ := Fin.ext (by show (b.val + 64) % 128 = b.val + 64; omega)
  unfold rotT cosM sinM
  rw [e, dif_pos hb, dif_neg (by show ¬ b.val + 64 < 64; omega), add_comm]
  rfl

theorem rotT_high (T : Mat) (co si : Fin 8192 → Fin 64 → EReal) (n : Fin 64) (a b : Fin 128) (hb : ¬ b.val < 64) :
    rotT T (cosM co n) (sinM si n) a b =
      T a b * co (rowAt n a) ⟨b.val - 64, by omega⟩ + -T a ⟨b.val - 64, by omega⟩ * si (rowAt n a) ⟨b.val - 64, by omega⟩ := by
  have e : half b = ⟨b.val - 64, by omega⟩ := Fin.ext (by show (b.val + 64) % 128 = b.val - 64; omega)
  unfold rotT cosM sinM
  rw [e, dif_neg hb, dif_pos (by show b.val - 64 < 64; omega), mul_neg, neg_mul]

/-! ## The kernel's arrangement of a gradient, and the two directions one after the other -/

theorem split_scores {s df db k : EReal} (h : df = 0 ∨ db = 0) : s * (df + db) * k = s * df * k + s * db * k := by
  rcases h with rfl | rfl <;> simp

theorem pull {c : EReal} (h0 : 0 ≤ c) (h1 : c ≠ ⊤) (f g : Fin 128 → EReal) :
    c * ∑ y, f y * g y = ∑ y, (f y * c) * g y := by
  have key : ∀ s : Finset (Fin 128), c * ∑ y ∈ s, f y * g y = ∑ y ∈ s, (f y * c) * g y := fun s => by
    induction s using Finset.induction_on with
    | empty => simp
    | insert i s hi ih =>
      rw [Finset.sum_insert hi, Finset.sum_insert hi, EReal.left_distrib_of_nonneg_of_ne_top h0 h1, ih]
      congr 1
      rw [← mul_assoc, mul_comm c]
  exact key _

theorem dq_split (K V G sf sb Df Db xf xb : Mat) (h : ∀ a x, Df a x = 0 ∨ Db a x = 0) (f0 : ∀ a b, 0 ≤ xf a b)
    (f1 : ∀ a b, xf a b ≠ ⊤) (b0 : ∀ a b, 0 ≤ xb a b) (b1 : ∀ a b, xb a b ≠ ⊤) (a b : Fin 128) :
    dqM K V G sf sb (fun a x => Df a x + Db a x) xf xb a b =
      (∑ y, (G a y * xb a b) * sb b y + ∑ x, ((∑ y, G a y * V x y) * Db a x) * K x b) +
      (∑ y, (G a y * xf a b) * sf b y + ∑ x, ((∑ y, G a y * V x y) * Df a x) * K x b) := by
  unfold dqM
  simp only [split_scores (h a _), Finset.sum_add_distrib]
  rw [pull (f0 a b) (f1 a b), pull (b0 a b) (b1 a b)]
  abel

theorem dk_split (Q V G gf gb Df Db zf zb : Mat) (h : ∀ a x, Df a x = 0 ∨ Db a x = 0) (a b : Fin 128) :
    dkM Q V G gf gb (fun a x => Df a x + Db a x) zf zb a b =
      ((∑ y, gb b y * V a y) * zb a b + ∑ x, ((∑ y, G x y * V a y) * Db x a) * Q x b) +
      ((∑ y, gf b y * V a y) * zf a b + ∑ x, ((∑ y, G x y * V a y) * Df x a) * Q x b) := by
  unfold dkM
  simp only [split_scores (h _ a), Finset.sum_add_distrib, mul_comm (gb b _), mul_comm (gf b _),
    mul_comm _ (zf a b), mul_comm _ (zb a b)]
  abel

theorem dv_split (Q K G gf gb Df Db zf zb : Mat) (h : ∀ a x, Df a x = 0 ∨ Db a x = 0) (f0 : ∀ a b, 0 ≤ zf a b)
    (f1 : ∀ a b, zf a b ≠ ⊤) (b0 : ∀ a b, 0 ≤ zb a b) (b1 : ∀ a b, zb a b ≠ ⊤) (a b : Fin 128) :
    dvM Q K G gf gb (fun a x => Df a x + Db a x) zf zb a b =
      (∑ y, gb y b * (K a y * zb a b) + ∑ x, G x b * ((∑ y, Q x y * K a y) * Db x a)) +
      (∑ y, gf y b * (K a y * zf a b) + ∑ x, G x b * ((∑ y, Q x y * K a y) * Df x a)) := by
  unfold dvM
  simp only [split_scores (h _ a), Finset.sum_add_distrib]
  rw [pull (f0 a b) (f1 a b), pull (b0 a b) (b1 a b)]
  simp only [mul_comm (gb _ b), mul_comm (gf _ b), mul_comm (G _ b)]
  abel

end Cert.Ret

end
-- ==== Proof.Host.lean ====
module

public import proofs.«01_k».proof.Proof.Blocks
public import proofs.«01_k».proof.Proof.Decay
public import Idealize.ShloMosaic.Lib.StableHlo.ReadAt

@[expose] public section

set_option maxRecDepth 16384

noncomputable section

/-! The arrays that the launch reads, over the arguments. -/

namespace Cert.KernelIdeal.Ret

open Cert.KernelIdeal Cert.KernelIdeal.Gen Idealize.ShloMosaic Idealize.ShloMosaic.TcCoe Cert.Ret
variable (m : (ℓ : Loc nD τ sig) → Buf (Elt Ideal) ℓ) (c : Dev nD)

theorem V89 (h : Fin 4) (a b : Fin 128) : V m c main_v89 (ix3 h a b) = dec h (a.val + 1) := by
  unfold V
  after_reads_at
  rw [num_word (by omega : a.val < 2 ^ 31), num_word (by omega : h.val < 2 ^ 31), num_one, num_add]
  unfold dec lg
  rw [← num_one]
theorem V91 (h : Fin 4) (a b : Fin 128) : V m c main_v91 (ix3 h a b) = dec h (127 - a.val) := by
  unfold V
  after_reads_at
  rw [num_word (by omega : a.val < 2 ^ 31), num_word (by omega : h.val < 2 ^ 31), word_127, num_sub (by omega)]; rfl
theorem V126 (h : Fin 4) (a b : Fin 128) : V m c main_v126 (ix3 h a b) = dec h.rev a.val := by
  unfold V
  after_reads_at
  rw [num_word (by omega : a.val < 2 ^ 31)]
  exact congrArg (fun l => Ideal.exp (l * num a.val)) (lg_word h.rev)
theorem V124 (h : Fin 4) (a b : Fin 128) : V m c main_v124 (ix3 h a b) = dec h.rev (128 - a.val) := by
  unfold V
  after_reads_at
  rw [num_word (by omega : a.val < 2 ^ 31), word_128, num_sub (by omega)]
  exact congrArg (fun l => Ideal.exp (l * num (128 - a.val))) (lg_word h.rev)
theorem V127 (h : Fin 4) (a x : Fin 128) : V m c main_v127 (ix3 h a x) = decF h a x + decB h a x := by
  unfold V
  after_reads_at
  rw [num_word (by omega : a.val < 2 ^ 31), num_word (by omega : x.val < 2 ^ 31), num_word (by omega : h.val < 2 ^ 31)]
  refine congrArg₂ (· + ·) ?_ ?_
  · unfold decF
    by_cases hc : x.val ≤ a.val
    · rw [if_pos (sub_num_nonneg.mpr hc), if_pos (sub_num_nonneg.mpr hc), if_pos hc, num_sub hc]; rfl
    · rw [if_neg (sub_num_nonneg.not.mpr hc), if_neg hc]; exact Ideal.ofBits_zero .f32
  · unfold decB
    by_cases hc : a.val < x.val
    · rw [if_pos (sub_num_neg.mpr hc), if_pos (sub_num_neg.mpr hc), if_pos hc, neg_sub_num hc.le]
      exact congrArg (fun l => Ideal.exp (l * num (x.val - a.val))) (lg_word h.rev)
    · rw [if_neg (sub_num_neg.not.mpr hc), if_neg hc]; exact Ideal.ofBits_zero .f32

theorem V42 (n : Fin 64) (h : Fin 4) (a b : Fin 128) :
    V m c main_v42 (ix4 n h a b) = m ((c.tc : Thread nD τ).loc main_arg6) (ix4 n h a b) := by
  unfold V
  after_reads_at
  try rfl
theorem V43 (n : Fin 64) (h : Fin 4) (a b : Fin 128) :
    V m c main_v43 (ix4 n h a b) = m ((c.tc : Thread nD τ).loc main_arg7) (ix4 n h a b) := by
  unfold V
  after_reads_at
  try rfl
theorem V44 (n : Fin 64) (h : Fin 4) (a b : Fin 128) :
    V m c main_v44 (ix4 n h a b) = m ((c.tc : Thread nD τ).loc main_arg8) (ix4 n h a b) := by
  unfold V
  after_reads_at
  try rfl
theorem V45 (n : Fin 64) (h : Fin 4) (a b : Fin 128) :
    V m c main_v45 (ix4 n h a b) = m ((c.tc : Thread nD τ).loc main_arg9) (ix4 n h a b) := by
  unfold V
  after_reads_at
  try rfl

abbrev qa : Fin 8192 → Fin 512 → EReal := fun r s => m ((c.tc : Thread nD τ).loc main_arg0) (ix2 r s)
abbrev ka : Fin 8192 → Fin 512 → EReal := fun r s => m ((c.tc : Thread nD τ).loc main_arg1) (ix2 r s)
abbrev va : Fin 8192 → Fin 512 → EReal := fun r s => m ((c.tc : Thread nD τ).loc main_arg2) (ix2 r s)
abbrev co : Fin 8192 → Fin 64 → EReal := fun r s => m ((c.tc : Thread nD τ).loc main_arg3) (ix2 r s)
abbrev si : Fin 8192 → Fin 64 → EReal := fun r s => m ((c.tc : Thread nD τ).loc main_arg4) (ix2 r s)

theorem V39 (n : Fin 64) (a b : Fin 128) : V m c main_v39 (ix2 (rowAt n a) b) = cosM (co m c) n a b := by
  unfold V
  after_reads_at
  rfl
theorem V41 (n : Fin 64) (a b : Fin 128) : V m c main_v41 (ix2 (rowAt n a) b) = sinM (si m c) n a b := by
  unfold V
  after_reads_at
  rfl

/-- The rotated queries among the columns that the launch reads. -/
theorem Vq (n : Fin 64) (h : Fin 4) : projA (V m c main_v38) 1 n h = fun a b => rot (qa m c) (co m c) (si m c) (rowAt n a) h b := by
  funext a b
  show V m c main_v38 (ix2 (rowAt n a) ⟨512 + (128 * h.val + b.val), by omega⟩) = _
  unfold V
  after_reads_at
  rw [dif_pos (by omega), dif_pos (by omega)]
  after_reads_at
  by_cases hb : b.val < 64
  · rw [dif_pos hb]
    after_reads_at
    exact rot_low (qa m c) (co m c) (si m c) (rowAt n a) h b hb _ _
  · rw [dif_neg hb]
    after_reads_at
    exact rot_high (qa m c) (co m c) (si m c) (rowAt n a) h b hb _ _ _

/-- The rotated, scaled keys. -/
theorem Vk (n : Fin 64) (h : Fin 4) : projA (V m c main_v38) 2 n h =
    fun a b => rot (ka m c) (co m c) (si m c) (rowAt n a) h b * kscale := by
  funext a b
  show V m c main_v38 (ix2 (rowAt n a) ⟨1024 + (128 * h.val + b.val), by omega⟩) = _
  unfold V
  after_reads_at
  rw [dif_pos (by omega), dif_neg (by omega), dif_pos (by omega),
    show (⟨1024 + (128 * h.val + b.val) - 512 - 512, by omega⟩ : Fin 512) = ⟨128 * h.val + b.val, by omega⟩ from
      Fin.ext (by show 1024 + (128 * h.val + b.val) - 512 - 512 = 128 * h.val + b.val; omega)]
  after_reads_at
  by_cases hb : b.val < 64
  · rw [dif_pos hb]
    after_reads_at
    exact congrArg (· * kscale) (rot_low (ka m c) (co m c) (si m c) (rowAt n a) h b hb _ _)
  · rw [dif_neg hb]
    after_reads_at
    exact congrArg (· * kscale) (rot_high (ka m c) (co m c) (si m c) (rowAt n a) h b hb _ _ _)

/-- The values. -/
theorem Vv (n : Fin 64) (h : Fin 4) : projA (V m c main_v38) 3 n h = fun a b => va m c (rowAt n a) (colAt h b) := by
  funext a b
  show V m c main_v38 (ix2 (rowAt n a) ⟨1536 + (128 * h.val + b.val), by omega⟩) = _
  unfold V
  after_reads_at
  rw [dif_pos (by omega), dif_neg (by omega), dif_neg (by omega)]
  after_reads_at
  rw [show (⟨1536 + (128 * h.val + b.val) - 512 - 512 - 512, by omega⟩ : Fin 512) = ⟨128 * h.val + b.val, by omega⟩ from
      Fin.ext (by show 1536 + (128 * h.val + b.val) - 512 - 512 - 512 = 128 * h.val + b.val; omega)]

end Cert.KernelIdeal.Ret

end
-- ==== Proof.Ref.lean ====
module

public import proofs.«01_k».proof.Proof.Decay
public import proofs.«01_k».proof.Proof.Gen.ReferenceIdeal.Run
public import Idealize.ShloMosaic.Lib.StableHlo.ReadAt

@[expose] public section

set_option maxRecDepth 16384

noncomputable section

/-! The reference's arrays, read at an index. -/

namespace Cert.ReferenceIdeal.Ret

open Cert.ReferenceIdeal Cert.ReferenceIdeal.Value Idealize.ShloMosaic Idealize.ShloMosaic.TcCoe Cert.Ret
open Idealize.ShloMosaic.StableHlo

variable (W : Valuation τ sig (Elt Ideal))

abbrev qa : Fin 8192 → Fin 512 → EReal := fun r s => W (Proc.devRef .tc main_arg0) (ix2 r s)
abbrev ka : Fin 8192 → Fin 512 → EReal := fun r s => W (Proc.devRef .tc main_arg1) (ix2 r s)
abbrev va : Fin 8192 → Fin 512 → EReal := fun r s => W (Proc.devRef .tc main_arg2) (ix2 r s)
abbrev co : Fin 8192 → Fin 64 → EReal := fun r s => W (Proc.devRef .tc main_arg3) (ix2 r s)
abbrev si : Fin 8192 → Fin 64 → EReal := fun r s => W (Proc.devRef .tc main_arg4) (ix2 r s)
abbrev ga : Fin 8192 → Fin 512 → EReal := fun r s => W (Proc.devRef .tc main_arg5) (ix2 r s)

/-- The rotated queries, by head and chunk. -/
theorem v43_apply (h : Fin 4) (n : Fin 64) (a b : Fin 128) :
    res_main_v43 W (ix4 h n a b) = rot (qa W) (co W) (si W) (rowAt n a) h b := by
  unfold res_main_v43
  clean_types
  pointwise
  unfold res_main_v15
  clean_types
  pointwise [res_main_v3, res_main_v4, res_main_v2, res_main_v0, res_main_v1]
  simp only [row_mul]
  unfold rot
  by_cases hb : b.val < 64
  · simp only [dif_pos hb, col_mul, col_up h b hb]
  · simp only [dif_neg hb]
    rw [col_down, col_back h b hb]

theorem v45_apply (h : Fin 4) (n : Fin 64) (a b : Fin 128) :
    res_main_v45 W (ix4 h n a b) = rot (ka W) (co W) (si W) (rowAt n a) h b * Ideal.ofBits .f32 0x3DB504F3#32 := by
  unfold res_main_v45
  clean_types
  pointwise
  unfold res_main_v31
  clean_types
  pointwise [res_main_v17, res_main_v18, res_main_v16, res_main_v0, res_main_v1]
  simp only [row_mul]
  unfold rot
  by_cases hb : b.val < 64
  · simp only [dif_pos hb, col_mul, col_up h b hb]
  · simp only [dif_neg hb]
    rw [col_down, col_back h b hb]

theorem v47_apply (h : Fin 4) (n : Fin 64) (a b : Fin 128) :
    res_main_v47 W (ix4 h n a b) = va W (rowAt n a) (colAt h b) := by
  unfold res_main_v47
  clean_types
  pointwise [res_main_v32]
  simp only [row_mul, col_mul]

theorem v164_apply (h : Fin 4) (n : Fin 64) (a b : Fin 128) :
    res_main_v164 W (ix4 h n a b) = ga W (rowAt n a) (colAt h b) := by
  unfold res_main_v164
  clean_types
  pointwise [res_main_v159]
  simp only [row_mul, col_mul]

theorem v96_rev (h : Fin 4) (n : Fin 64) (a b : Fin 128) :
    res_main_v96 W (ix4 h n a b) = res_main_v43 W (ix4 h n.rev a.rev b) := by
  unfold res_main_v96 res_main_v43
  clean_types
  pointwise
  show res_main_v15 W (ix3 (Fin.rev _) h b) = _
  rw [row_mul, row_mul, row_rev]

theorem v99_rev (h : Fin 4) (n : Fin 64) (a b : Fin 128) :
    res_main_v99 W (ix4 h n a b) = res_main_v45 W (ix4 h n.rev a.rev b) := by
  unfold res_main_v99 res_main_v45
  clean_types
  pointwise
  show res_main_v31 W (ix3 (Fin.rev _) h b) = _
  rw [row_mul, row_mul, row_rev]

theorem v102_rev (h : Fin 4) (n : Fin 64) (a b : Fin 128) :
    res_main_v102 W (ix4 h n a b) = res_main_v47 W (ix4 h n.rev a.rev b) := by
  unfold res_main_v102 res_main_v47
  clean_types
  pointwise
  show res_main_v32 W (ix3 (Fin.rev _) h b) = _
  rw [row_mul, row_mul, row_rev]

theorem v162_rev (h : Fin 4) (n : Fin 64) (a b : Fin 128) :
    res_main_v162 W (ix4 h n a b) = res_main_v164 W (ix4 h n.rev a.rev b) := by
  unfold res_main_v162 res_main_v164
  clean_types
  pointwise
  show res_main_v159 W (ix3 (Fin.rev _) h b) = _
  rw [row_mul, row_mul, row_rev]

theorem v103_rev (n : Fin 64) (h : Fin 4) (a b : Fin 128) :
    res_main_v103 W (ix4 n h a b) = W (Proc.devRef .tc main_arg7) (ix4 n.rev h a b) := by
  unfold res_main_v103
  clean_types
  pointwise
  rfl
theorem v158_rev (n : Fin 64) (h : Fin 4) (a b : Fin 128) :
    res_main_v158 W (ix4 n h a b) = W (Proc.devRef .tc main_arg9) (ix4 n.rev h a b) := by
  unfold res_main_v158
  clean_types
  pointwise
  rfl

theorem v81_apply (h : Fin 4) (a x : Fin 128) : res_main_v81 W (ix4 h 0 a x) = decF h a x := by
  unfold res_main_v81
  clean_types
  pointwise [res_main_v57, res_main_v55, res_main_v50, res_main_v48, res_main_v40]
  rw [num_word (by omega : a.val < 2 ^ 31), num_word (by omega : x.val < 2 ^ 31), num_word (by omega : h.val < 2 ^ 31)]
  unfold decF
  by_cases hc : x.val ≤ a.val
  · rw [if_pos (sub_num_nonneg.mpr hc), if_pos (sub_num_nonneg.mpr hc), if_pos hc, num_sub hc]; rfl
  · rw [if_neg (sub_num_nonneg.not.mpr hc), if_neg hc]; exact Ideal.ofBits_zero .f32

theorem v137_apply (h : Fin 4) (a x : Fin 128) : res_main_v137 W (ix4 h 0 a.rev x.rev) = decB h a x := by
  unfold res_main_v137
  clean_types
  pointwise [res_main_v113, res_main_v111, res_main_v106, res_main_v104, res_main_v40]
  rw [num_word (by omega : a.rev.val < 2 ^ 31), num_word (by omega : x.rev.val < 2 ^ 31)]
  unfold decB
  by_cases hc : a.val < x.val
  · have hr : x.rev.val < a.rev.val := by simp only [Fin.val_rev]; omega
    rw [if_pos (sub_num_pos.mpr hr), if_pos (sub_num_pos.mpr hr), if_pos hc, num_sub hr.le,
      show a.rev.val - x.rev.val = x.val - a.val by simp only [Fin.val_rev]; omega]
    exact congrArg (fun l => Ideal.exp (l * num (x.val - a.val))) (lg_word h.rev)
  · have hr : ¬ x.rev.val < a.rev.val := by simp only [Fin.val_rev]; omega
    rw [if_neg (sub_num_pos.not.mpr hr), if_neg hc]; exact Ideal.ofBits_zero .f32

theorem v85_apply (h : Fin 4) (a : Fin 128) : res_main_v85 W (ix4 h 0 a 0) = dec h (127 - a.val) := by
  unfold res_main_v85
  clean_types
  pointwise [res_main_v50, res_main_v48, res_main_v40]
  rw [num_word (by omega : a.val < 2 ^ 31), num_word (by omega : h.val < 2 ^ 31), word_127, num_sub (by omega)]; rfl

theorem v90_apply (h : Fin 4) (a : Fin 128) : res_main_v90 W (ix4 h 0 a 0) = dec h (a.val + 1) := by
  unfold res_main_v90
  clean_types
  pointwise [res_main_v50, res_main_v48, res_main_v40]
  rw [num_word (by omega : a.val < 2 ^ 31), num_word (by omega : h.val < 2 ^ 31), num_one, num_add]
  unfold dec lg
  rw [← num_one]

theorem v141_apply (h : Fin 4) (a : Fin 128) : res_main_v141 W (ix4 h 0 a.rev 0) = dec h.rev a.val := by
  unfold res_main_v141
  clean_types
  pointwise [res_main_v106, res_main_v104, res_main_v40]
  rw [num_word (by omega : a.rev.val < 2 ^ 31), word_127, num_sub (by omega),
    show 127 - a.rev.val = a.val by simp only [Fin.val_rev]; omega]
  exact congrArg (fun l => Ideal.exp (l * num a.val)) (lg_word h.rev)

theorem v146_apply (h : Fin 4) (a : Fin 128) : res_main_v146 W (ix4 h 0 a.rev 0) = dec h.rev (128 - a.val) := by
  unfold res_main_v146
  clean_types
  pointwise [res_main_v106, res_main_v104, res_main_v40]
  rw [num_word (by omega : a.rev.val < 2 ^ 31), show 128 - a.val = a.rev.val + 1 by simp only [Fin.val_rev]; omega]
  refine (congrArg (fun l => Ideal.exp (l * (num a.rev.val + 1))) (lg_word h.rev)).trans ?_
  unfold dec
  rw [← num_add, ← num_one]

/-! ## The gradients at a token: the backward direction's part, then the forward one's -/

abbrev nOf (s : Fin 8192) : Fin 64 := ⟨s.val / 128, by omega⟩
abbrev aOf (s : Fin 8192) : Fin 128 := ⟨s.val % 128, by omega⟩

/-- Head `h`, chunk `n` of an array by head and chunk. -/
abbrev hn (x : S4x64x128x128.Idx → EReal) (h : Fin 4) (n : Fin 64) : Mat := fun a b => x (ix4 h n a b)
/-- Chunk `n`, head `h` of the states. -/
abbrev nh (x : S64x4x128x128.Idx → EReal) (n : Fin 64) (h : Fin 4) : Mat := fun a b => x (ix4 n h a b)
/-- Head `h`'s decays between positions. -/
abbrev h1 (x : S4x1x128x128.Idx → EReal) (h : Fin 4) : Mat := fun a b => x (ix4 h 0 a b)
/-- Head `h`'s decays by position. -/
abbrev hp (x : S4x1x128x1.Idx → EReal) (h : Fin 4) : Fin 128 → EReal := fun a => x (ix4 h 0 a 0)

/-- One direction's part of the gradient of the rotated queries. -/
def dqDir (G V K : Mat) (s D : Mat) (x : Fin 128 → EReal) (a b : Fin 128) : EReal :=
  ∑ y, G a y * x a * s b y + ∑ x, (∑ y, G a y * V x y) * D a x * K x b
/-- One direction's part of the gradient of the rotated, scaled keys. -/
def dkDir (G V Q : Mat) (g D : Mat) (z : Fin 128 → EReal) (a b : Fin 128) : EReal :=
  (∑ y, g b y * V a y) * z a + ∑ x, (∑ y, G x y * V a y) * D x a * Q x b
/-- One direction's part of the gradient of the values. -/
def dvDir (G Q K : Mat) (g D : Mat) (z : Fin 128 → EReal) (a b : Fin 128) : EReal :=
  ∑ y, g y b * (K a y * z a) + ∑ x, G x b * ((∑ y, Q x y * K a y) * D x a)

theorem v220_row (r : Fin 8192) (h : Fin 4) (b : Fin 128) :
    res_main_v220 W (ix3 r h b) =
      dqDir (hn (res_main_v162 W) h (nOf r.rev)) (hn (res_main_v102 W) h (nOf r.rev)) (hn (res_main_v99 W) h (nOf r.rev))
        (nh (res_main_v103 W) (nOf r.rev) h) (h1 (res_main_v137 W) h) (hp (res_main_v146 W) h) (aOf r.rev) b +
      dqDir (hn (res_main_v164 W) h (nOf r)) (hn (res_main_v47 W) h (nOf r)) (hn (res_main_v45 W) h (nOf r))
        (nh (W (Proc.devRef .tc main_arg6)) (nOf r) h) (h1 (res_main_v81 W) h) (hp (res_main_v90 W) h) (aOf r) b := by
  unfold res_main_v220
  clean_types
  pointwise [res_main_v179, res_main_v207]
  rfl

theorem v223_row (r : Fin 8192) (h : Fin 4) (b : Fin 128) :
    res_main_v223 W (ix3 r h b) =
      (dkDir (hn (res_main_v162 W) h (nOf r.rev)) (hn (res_main_v102 W) h (nOf r.rev)) (hn (res_main_v96 W) h (nOf r.rev))
        (nh (res_main_v158 W) (nOf r.rev) h) (h1 (res_main_v137 W) h) (hp (res_main_v141 W) h) (aOf r.rev) b +
      dkDir (hn (res_main_v164 W) h (nOf r)) (hn (res_main_v47 W) h (nOf r)) (hn (res_main_v43 W) h (nOf r))
        (nh (W (Proc.devRef .tc main_arg8)) (nOf r) h) (h1 (res_main_v81 W) h) (hp (res_main_v85 W) h) (aOf r) b) *
      Ideal.ofBits .f32 0x3DB504F3#32 := by
  unfold res_main_v223
  clean_types
  pointwise [res_main_v179, res_main_v207]
  rfl

end Cert.ReferenceIdeal.Ret

end
-- ==== Proof.RefGrad.lean ====
module

public import proofs.«01_k».proof.Proof.Ref

@[expose] public section

set_option maxRecDepth 16384

noncomputable section

/-! The reference's gradients at a token and a feature, as the gradients of one chunk of one head. -/

namespace Cert.ReferenceIdeal.Ret

open Cert.ReferenceIdeal Cert.ReferenceIdeal.Value Idealize.ShloMosaic Idealize.ShloMosaic.TcCoe Cert.Ret
open Idealize.ShloMosaic.StableHlo

/-- A chunk's positions in the other order. -/
abbrev flip (M : Mat) : Mat := fun a b => M a.rev b

theorem sum_rev (f : Fin 128 → EReal) : ∑ x : Fin 128, f x.rev = ∑ x, f x := Equiv.sum_comp Fin.revPerm f

theorem dqDir_rev (G V K s D D' : Mat) (x x' : Fin 128 → EReal) (hD : ∀ a y, D' a.rev y.rev = D a y)
    (hx : ∀ a, x' a.rev = x a) (a b : Fin 128) : dqDir (flip G) (flip V) (flip K) s D' x' a.rev b = dqDir G V K s D x a b := by
  unfold dqDir flip
  rw [← sum_rev (fun y => (∑ z, G a.rev.rev z * V y.rev z) * D' a.rev y * K y.rev b)]
  simp only [Fin.rev_rev, hD, hx]

theorem dkDir_rev (G V Q s D D' : Mat) (x x' : Fin 128 → EReal) (hD : ∀ a y, D' a.rev y.rev = D a y)
    (hx : ∀ a, x' a.rev = x a) (a b : Fin 128) : dkDir (flip G) (flip V) (flip Q) s D' x' a.rev b = dkDir G V Q s D x a b := by
  unfold dkDir flip
  rw [← sum_rev (fun y => (∑ z, G y.rev z * V a.rev.rev z) * D' y a.rev * Q y.rev b)]
  simp only [Fin.rev_rev, hD, hx]

theorem dvDir_rev (G Q K s D D' : Mat) (x x' : Fin 128 → EReal) (hD : ∀ a y, D' a.rev y.rev = D a y)
    (hx : ∀ a, x' a.rev = x a) (a b : Fin 128) : dvDir (flip G) (flip Q) (flip K) s D' x' a.rev b = dvDir G Q K s D x a b := by
  unfold dvDir flip
  rw [← sum_rev (fun y => G y.rev b * ((∑ z, Q y.rev z * K a.rev.rev z) * D' y a.rev))]
  simp only [Fin.rev_rev, hD, hx]

theorem dq_dirs (K V G sf sb : Mat) (h : Fin 4) (a b : Fin 128) :
    dqM K V G sf sb (fun a x => decF h a x + decB h a x) (fun a _ => dec h (a.val + 1))
      (fun a _ => dec h.rev (128 - a.val)) a b =
    dqDir G V K sb (decB h) (fun a => dec h.rev (128 - a.val)) a b + dqDir G V K sf (decF h) (fun a => dec h (a.val + 1)) a b :=
  dq_split K V G sf sb (decF h) (decB h) _ _ (decF_or h) (fun _ _ => dec_nonneg _ _) (fun _ _ => dec_ne_top _ _)
    (fun _ _ => dec_nonneg _ _) (fun _ _ => dec_ne_top _ _) a b

theorem dk_dirs (Q V G gf gb : Mat) (h : Fin 4) (a b : Fin 128) :
    dkM Q V G gf gb (fun a x => decF h a x + decB h a x) (fun a _ => dec h (127 - a.val))
      (fun a _ => dec h.rev a.val) a b =
    dkDir G V Q gb (decB h) (fun a => dec h.rev a.val) a b + dkDir G V Q gf (decF h) (fun a => dec h (127 - a.val)) a b :=
  dk_split Q V G gf gb (decF h) (decB h) _ _ (decF_or h) a b

theorem dv_dirs (Q K G gf gb : Mat) (h : Fin 4) (a b : Fin 128) :
    dvM Q K G gf gb (fun a x => decF h a x + decB h a x) (fun a _ => dec h (127 - a.val))
      (fun a _ => dec h.rev a.val) a b =
    dvDir G Q K gb (decB h) (fun a => dec h.rev a.val) a b + dvDir G Q K gf (decF h) (fun a => dec h (127 - a.val)) a b :=
  dv_split Q K G gf gb (decF h) (decB h) _ _ (decF_or h) (fun _ _ => dec_nonneg _ _) (fun _ _ => dec_ne_top _ _)
    (fun _ _ => dec_nonneg _ _) (fun _ _ => dec_ne_top _ _) a b

variable (W : Valuation τ sig (Elt Ideal))

theorem n_row (n : Fin 64) (a : Fin 128) : nOf (rowAt n a) = n := row_div n a _
theorem a_row (n : Fin 64) (a : Fin 128) : aOf (rowAt n a) = a := row_mod n a _

theorem flip96 (h : Fin 4) (n : Fin 64) : hn (res_main_v96 W) h n.rev = flip (hn (res_main_v43 W) h n) :=
  funext fun a => funext fun b => (v96_rev W h n.rev a b).trans (by rw [Fin.rev_rev])
theorem flip99 (h : Fin 4) (n : Fin 64) : hn (res_main_v99 W) h n.rev = flip (hn (res_main_v45 W) h n) :=
  funext fun a => funext fun b => (v99_rev W h n.rev a b).trans (by rw [Fin.rev_rev])
theorem flip102 (h : Fin 4) (n : Fin 64) : hn (res_main_v102 W) h n.rev = flip (hn (res_main_v47 W) h n) :=
  funext fun a => funext fun b => (v102_rev W h n.rev a b).trans (by rw [Fin.rev_rev])
theorem flip162 (h : Fin 4) (n : Fin 64) : hn (res_main_v162 W) h n.rev = flip (hn (res_main_v164 W) h n) :=
  funext fun a => funext fun b => (v162_rev W h n.rev a b).trans (by rw [Fin.rev_rev])
theorem back103 (h : Fin 4) (n : Fin 64) : nh (res_main_v103 W) n.rev h = nh (W (Proc.devRef .tc main_arg7)) n h :=
  funext fun a => funext fun b => (v103_rev W n.rev h a b).trans (by rw [Fin.rev_rev])
theorem back158 (h : Fin 4) (n : Fin 64) : nh (res_main_v158 W) n.rev h = nh (W (Proc.devRef .tc main_arg9)) n h :=
  funext fun a => funext fun b => (v158_rev W n.rev h a b).trans (by rw [Fin.rev_rev])
theorem dec81 (h : Fin 4) : h1 (res_main_v81 W) h = decF h := funext fun a => funext fun x => v81_apply W h a x
theorem dec85 (h : Fin 4) : hp (res_main_v85 W) h = fun a => dec h (127 - a.val) := funext fun a => v85_apply W h a
theorem dec90 (h : Fin 4) : hp (res_main_v90 W) h = fun a => dec h (a.val + 1) := funext fun a => v90_apply W h a

/-- The gradient of the rotated queries. -/
theorem v220_apply (h : Fin 4) (n : Fin 64) (a b : Fin 128) : res_main_v220 W (ix3 (rowAt n a) h b) =
    dqM (hn (res_main_v45 W) h n) (hn (res_main_v47 W) h n) (hn (res_main_v164 W) h n)
      (nh (W (Proc.devRef .tc main_arg6)) n h) (nh (W (Proc.devRef .tc main_arg7)) n h)
      (fun a x => decF h a x + decB h a x) (fun a _ => dec h (a.val + 1)) (fun a _ => dec h.rev (128 - a.val)) a b := by
  rw [v220_row, row_rev, n_row, n_row, a_row, a_row, flip162, flip102, flip99, back103, dec81, dec90, dq_dirs]
  rw [dqDir_rev _ _ _ _ _ _ _ _ (v137_apply W h) (v146_apply W h)]

/-- The gradient of the rotated keys. -/
theorem v223_apply (h : Fin 4) (n : Fin 64) (a b : Fin 128) : res_main_v223 W (ix3 (rowAt n a) h b) =
    dkM (hn (res_main_v43 W) h n) (hn (res_main_v47 W) h n) (hn (res_main_v164 W) h n)
      (nh (W (Proc.devRef .tc main_arg8)) n h) (nh (W (Proc.devRef .tc main_arg9)) n h)
      (fun a x => decF h a x + decB h a x) (fun a _ => dec h (127 - a.val)) (fun a _ => dec h.rev a.val) a b *
    Ideal.ofBits .f32 0x3DB504F3#32 := by
  rw [v223_row, row_rev, n_row, n_row, a_row, a_row, flip162, flip102, flip96, back158, dec81, dec85, dk_dirs]
  rw [dkDir_rev _ _ _ _ _ _ _ _ (v137_apply W h) (v141_apply W h)]

abbrev hOf (s : Fin 512) : Fin 4 := ⟨s.val / 128, by omega⟩
abbrev bOf (s : Fin 512) : Fin 128 := ⟨s.val % 128, by omega⟩
theorem h_col (h : Fin 4) (b : Fin 128) : hOf (colAt h b) = h :=
  Fin.ext (by show (128 * h.val + b.val) / 128 = h.val; omega)
theorem b_col (h : Fin 4) (b : Fin 128) : bOf (colAt h b) = b :=
  Fin.ext (by show (128 * h.val + b.val) % 128 = b.val; omega)

/-- The rotation back of an array by token and head, half by half. -/
def unrot (T : S8192x4x128.Idx → EReal) (r : Fin 8192) (h : Fin 4) (b : Fin 128) : EReal :=
  if hb : b.val < 64 then
    T (ix3 r h ⟨64 + b.val, by omega⟩) * si W r ⟨b.val, hb⟩ + T (ix3 r h ⟨b.val, b.isLt⟩) * co W r ⟨b.val, hb⟩
  else
    T (ix3 r h ⟨64 + (b.val - 64), by omega⟩) * co W r ⟨b.val - 64, by omega⟩ +
      -T (ix3 r h ⟨b.val - 64, by omega⟩) * si W r ⟨b.val - 64, by omega⟩

theorem unrot_apply (T : S8192x4x128.Idx → EReal) (M : Mat) (n : Fin 64) (h : Fin 4)
    (e : ∀ a b, T (ix3 (rowAt n a) h b) = M a b) (a b : Fin 128) :
    unrot W T (rowAt n a) h b = rotT M (cosM (co W) n) (sinM (si W) n) a b := by
  unfold unrot
  by_cases hb : b.val < 64
  · rw [dif_pos hb, rotT_low _ _ _ _ _ _ hb, e, e]
    simp only [Nat.add_comm 64]
  · rw [dif_neg hb, rotT_high _ _ _ _ _ _ hb, e, e]
    simp only [Nat.add_sub_cancel' (not_lt.mp hb)]

theorem q_row (r : Fin 8192) (s : Fin 512) :
    val5 W (Proc.devRef .tc main_v254) (ix2 r s) = unrot W (res_main_v220 W) r (hOf s) (bOf s) := by
  rw [val5_main_v254]
  clean_types
  pointwise [res_main_v239, res_main_v240, res_main_v0, res_main_v1]
  rfl

theorem k_row (r : Fin 8192) (s : Fin 512) :
    val5 W (Proc.devRef .tc main_v255) (ix2 r s) = unrot W (res_main_v223 W) r (hOf s) (bOf s) := by
  rw [val5_main_v255]
  clean_types
  pointwise [res_main_v224, res_main_v225, res_main_v0, res_main_v1]
  rfl

theorem v_row (r : Fin 8192) (s : Fin 512) : val5 W (Proc.devRef .tc main_v256) (ix2 r s) =
    dvDir (hn (res_main_v162 W) (hOf s) (nOf r.rev)) (hn (res_main_v96 W) (hOf s) (nOf r.rev))
      (hn (res_main_v99 W) (hOf s) (nOf r.rev)) (nh (res_main_v158 W) (nOf r.rev) (hOf s)) (h1 (res_main_v137 W) (hOf s))
      (hp (res_main_v141 W) (hOf s)) (aOf r.rev) (bOf s) +
    dvDir (hn (res_main_v164 W) (hOf s) (nOf r)) (hn (res_main_v43 W) (hOf s) (nOf r)) (hn (res_main_v45 W) (hOf s) (nOf r))
      (nh (W (Proc.devRef .tc main_arg8)) (nOf r) (hOf s)) (h1 (res_main_v81 W) (hOf s)) (hp (res_main_v85 W) (hOf s)) (aOf r)
      (bOf s) := by
  rw [val5_main_v256]
  clean_types
  pointwise [res_main_v143, res_main_v139, res_main_v87, res_main_v83]
  rfl

/-- The rotated queries of a chunk. -/
abbrev qM (n : Fin 64) (h : Fin 4) : Mat := fun a b => rot (qa W) (co W) (si W) (rowAt n a) h b
/-- The rotated, scaled keys of a chunk. -/
abbrev kM (n : Fin 64) (h : Fin 4) : Mat := fun a b =>
  rot (ka W) (co W) (si W) (rowAt n a) h b * Ideal.ofBits .f32 0x3DB504F3#32
/-- The values of a chunk. -/
abbrev vM (n : Fin 64) (h : Fin 4) : Mat := fun a b => va W (rowAt n a) (colAt h b)
/-- The gradient of a chunk's outputs. -/
abbrev gM (n : Fin 64) (h : Fin 4) : Mat := fun a b => ga W (rowAt n a) (colAt h b)

theorem hn43 (n : Fin 64) (h : Fin 4) : hn (res_main_v43 W) h n = qM W n h :=
  funext fun a => funext fun b => v43_apply W h n a b
theorem hn45 (n : Fin 64) (h : Fin 4) : hn (res_main_v45 W) h n = kM W n h :=
  funext fun a => funext fun b => v45_apply W h n a b
theorem hn47 (n : Fin 64) (h : Fin 4) : hn (res_main_v47 W) h n = vM W n h :=
  funext fun a => funext fun b => v47_apply W h n a b
theorem hn164 (n : Fin 64) (h : Fin 4) : hn (res_main_v164 W) h n = gM W n h :=
  funext fun a => funext fun b => v164_apply W h n a b

theorem dq_apply (n : Fin 64) (a : Fin 128) (h : Fin 4) (b : Fin 128) :
    val5 W (Proc.devRef .tc main_v254) (ix2 (rowAt n a) (colAt h b)) =
      rotT (dqM (kM W n h) (vM W n h) (gM W n h) (nh (W (Proc.devRef .tc main_arg6)) n h)
        (nh (W (Proc.devRef .tc main_arg7)) n h) (fun a x => decF h a x + decB h a x) (fun a _ => dec h (a.val + 1))
        (fun a _ => dec h.rev (128 - a.val))) (cosM (co W) n) (sinM (si W) n) a b := by
  rw [q_row, h_col, b_col, unrot_apply W _ _ n h (v220_apply W h n), hn45, hn47, hn164]

theorem dk_apply (n : Fin 64) (a : Fin 128) (h : Fin 4) (b : Fin 128) :
    val5 W (Proc.devRef .tc main_v255) (ix2 (rowAt n a) (colAt h b)) =
      rotT (fun a b => dkM (qM W n h) (vM W n h) (gM W n h) (nh (W (Proc.devRef .tc main_arg8)) n h)
        (nh (W (Proc.devRef .tc main_arg9)) n h) (fun a x => decF h a x + decB h a x) (fun a _ => dec h (127 - a.val))
        (fun a _ => dec h.rev a.val) a b * Ideal.ofBits .f32 0x3DB504F3#32) (cosM (co W) n) (sinM (si W) n) a b := by
  rw [k_row, h_col, b_col, unrot_apply W _ _ n h (v223_apply W h n), hn43, hn47, hn164]

theorem dv_apply (n : Fin 64) (a : Fin 128) (h : Fin 4) (b : Fin 128) :
    val5 W (Proc.devRef .tc main_v256) (ix2 (rowAt n a) (colAt h b)) =
      dvM (qM W n h) (kM W n h) (gM W n h) (nh (W (Proc.devRef .tc main_arg8)) n h)
        (nh (W (Proc.devRef .tc main_arg9)) n h) (fun a x => decF h a x + decB h a x) (fun a _ => dec h (127 - a.val))
        (fun a _ => dec h.rev a.val) a b := by
  rw [v_row, h_col, b_col, row_rev, n_row, n_row, a_row, a_row, flip162, flip96, flip99, back158, dec81, dec85, dv_dirs]
  rw [dvDir_rev _ _ _ _ _ _ _ _ (v137_apply W h) (v141_apply W h), hn43, hn45, hn164]

end Cert.ReferenceIdeal.Ret

end
-- ==== Proof.Grads.lean ====
module

public import proofs.«01_k».proof.Proof.Arrays
public import proofs.«01_k».proof.Proof.Host
public import proofs.«01_k».proof.Proof.RefGrad

@[expose] public section

set_option maxRecDepth 16384

noncomputable section

/-! The kernel's three result arrays are the reference's. -/

namespace Cert.KernelIdeal.Ret

open Cert.KernelIdeal Cert.KernelIdeal.Gen Idealize.ShloMosaic Idealize.ShloMosaic.TcCoe Cert.Ret
open Idealize.ShloMosaic.StableHlo (launchContents)

variable (m : (ℓ : Loc nD τ sig) → Buf (Elt Ideal) ℓ) (c : Dev nD)

abbrev ga : Fin 8192 → Fin 512 → EReal := fun r s => m ((c.tc : Thread nD τ).loc main_arg5) (ix2 r s)

theorem chunk_at (n : Fin 64) (a : Fin 128) : chunkOf (rowAt n a) = n := row_div n a _
theorem inner_at (n : Fin 64) (a : Fin 128) : inner (rowAt n a) = a := row_mod n a _
theorem head_at (h : Fin 4) (b : Fin 128) : colOf (colAt h b) = h :=
  Fin.ext (by show (128 * h.val + b.val) / 128 = h.val; omega)
theorem feat_at (h : Fin 4) (b : Fin 128) : inner (colAt h b) = b :=
  Fin.ext (by show (128 * h.val + b.val) % 128 = b.val; omega)

theorem arg5 (n : Fin 64) (h : Fin 4) : tokA (V m c main_arg5) n h = fun a b => ga m c (rowAt n a) (colAt h b) := rfl

theorem dq_at (n : Fin 64) (a : Fin 128) (h : Fin 4) (b : Fin 128) : dqAt m c (rowAt n a) (colAt h b) =
    rotT (dqM (fun a b => rot (ka m c) (co m c) (si m c) (rowAt n a) h b * kscale) (fun a b => va m c (rowAt n a) (colAt h b))
      (fun a b => ga m c (rowAt n a) (colAt h b)) (fun a b => m ((c.tc : Thread nD τ).loc main_arg6) (ix4 n h a b))
      (fun a b => m ((c.tc : Thread nD τ).loc main_arg7) (ix4 n h a b)) (fun a x => decF h a x + decB h a x)
      (fun a _ => dec h (a.val + 1)) (fun a _ => dec h.rev (128 - a.val))) (cosM (co m c) n) (sinM (si m c) n) a b := by
  unfold dqAt
  simp only [chunk_at, inner_at, head_at, feat_at]
  exact dq_congr (Vk m c n h) (Vv m c n h) (arg5 m c n h) (funext fun a => funext fun b => V42 m c n h a b)
    (funext fun a => funext fun b => V43 m c n h a b) (funext fun a => funext fun b => V127 m c h a b)
    (funext fun a => funext fun b => V89 m c h a b) (funext fun a => funext fun b => V124 m c h a b)
    (funext fun a => funext fun b => V39 m c n a b) (funext fun a => funext fun b => V41 m c n a b) a b

theorem dk_at (n : Fin 64) (a : Fin 128) (h : Fin 4) (b : Fin 128) : dkAt m c (rowAt n a) (colAt h b) =
    rotT (fun a b => dkM (fun a b => rot (qa m c) (co m c) (si m c) (rowAt n a) h b) (fun a b => va m c (rowAt n a) (colAt h b))
      (fun a b => ga m c (rowAt n a) (colAt h b)) (fun a b => m ((c.tc : Thread nD τ).loc main_arg8) (ix4 n h a b))
      (fun a b => m ((c.tc : Thread nD τ).loc main_arg9) (ix4 n h a b)) (fun a x => decF h a x + decB h a x)
      (fun a _ => dec h (127 - a.val)) (fun a _ => dec h.rev a.val) a b * kscale) (cosM (co m c) n) (sinM (si m c) n) a b := by
  unfold dkAt
  simp only [chunk_at, inner_at, head_at, feat_at]
  exact dk_congr (Vq m c n h) (Vv m c n h) (arg5 m c n h) (funext fun a => funext fun b => V44 m c n h a b)
    (funext fun a => funext fun b => V45 m c n h a b) (funext fun a => funext fun b => V127 m c h a b)
    (funext fun a => funext fun b => V91 m c h a b) (funext fun a => funext fun b => V126 m c h a b)
    (funext fun a => funext fun b => V39 m c n a b) (funext fun a => funext fun b => V41 m c n a b) kscale a b

theorem dv_at (n : Fin 64) (a : Fin 128) (h : Fin 4) (b : Fin 128) : dvAt m c (rowAt n a) (colAt h b) =
    dvM (fun a b => rot (qa m c) (co m c) (si m c) (rowAt n a) h b)
      (fun a b => rot (ka m c) (co m c) (si m c) (rowAt n a) h b * kscale) (fun a b => ga m c (rowAt n a) (colAt h b))
      (fun a b => m ((c.tc : Thread nD τ).loc main_arg8) (ix4 n h a b))
      (fun a b => m ((c.tc : Thread nD τ).loc main_arg9) (ix4 n h a b)) (fun a x => decF h a x + decB h a x)
      (fun a _ => dec h (127 - a.val)) (fun a _ => dec h.rev a.val) a b := by
  unfold dvAt
  simp only [chunk_at, inner_at, head_at, feat_at]
  exact dv_congr (Vq m c n h) (Vk m c n h) (arg5 m c n h) (funext fun a => funext fun b => V44 m c n h a b)
    (funext fun a => funext fun b => V45 m c n h a b) (funext fun a => funext fun b => V127 m c h a b)
    (funext fun a => funext fun b => V91 m c h a b) (funext fun a => funext fun b => V126 m c h a b) a b

theorem at_chunk (i : S8192x512.Idx) : ∃ (n : Fin 64) (a : Fin 128) (h : Fin 4) (b : Fin 128), i = ix2 (rowAt n a) (colAt h b) :=
  ⟨⟨(i 0).val / 128, by have : (i 0).val < 8192 := (i 0).isLt; omega⟩, ⟨(i 0).val % 128, by omega⟩,
    ⟨(i 1).val / 128, by have : (i 1).val < 512 := (i 1).isLt; omega⟩, ⟨(i 1).val % 128, by omega⟩, by
    refine (eq_ix2 i).trans ?_
    congr 1
    · exact Fin.ext (by show (i 0).val = 128 * ((i 0).val / 128) + (i 0).val % 128; omega)
    · exact Fin.ext (by show (i 1).val = 128 * ((i 1).val / 128) + (i 1).val % 128; omega)⟩

variable (m' : (ℓ : Loc Cert.ReferenceIdeal.nD Cert.ReferenceIdeal.τ Cert.ReferenceIdeal.sig) → Buf (Elt Ideal) ℓ)

/-- Argument `r` of the reference, at the start. -/
abbrev start (c : Dev Cert.ReferenceIdeal.nD) (r) := m' ((c.tc : Thread Cert.ReferenceIdeal.nD Cert.ReferenceIdeal.τ).loc r)

variable (h0 : start m' c Cert.ReferenceIdeal.main_arg0 = m ((c.tc : Thread nD τ).loc main_arg0))
  (h1 : start m' c Cert.ReferenceIdeal.main_arg1 = m ((c.tc : Thread nD τ).loc main_arg1))
  (h2 : start m' c Cert.ReferenceIdeal.main_arg2 = m ((c.tc : Thread nD τ).loc main_arg2))
  (h3 : start m' c Cert.ReferenceIdeal.main_arg3 = m ((c.tc : Thread nD τ).loc main_arg3))
  (h4 : start m' c Cert.ReferenceIdeal.main_arg4 = m ((c.tc : Thread nD τ).loc main_arg4))
  (h5 : start m' c Cert.ReferenceIdeal.main_arg5 = m ((c.tc : Thread nD τ).loc main_arg5))
  (h6 : start m' c Cert.ReferenceIdeal.main_arg6 = m ((c.tc : Thread nD τ).loc main_arg6))
  (h7 : start m' c Cert.ReferenceIdeal.main_arg7 = m ((c.tc : Thread nD τ).loc main_arg7))
  (h8 : start m' c Cert.ReferenceIdeal.main_arg8 = m ((c.tc : Thread nD τ).loc main_arg8))
  (h9 : start m' c Cert.ReferenceIdeal.main_arg9 = m ((c.tc : Thread nD τ).loc main_arg9))

include h0 in
theorem same_q : Cert.ReferenceIdeal.Ret.qa (launchContents m' c) = qa m c := funext fun _ => funext fun _ => congrFun h0 _
include h1 in
theorem same_k : Cert.ReferenceIdeal.Ret.ka (launchContents m' c) = ka m c := funext fun _ => funext fun _ => congrFun h1 _
include h2 in
theorem same_v : Cert.ReferenceIdeal.Ret.va (launchContents m' c) = va m c := funext fun _ => funext fun _ => congrFun h2 _
include h3 in
theorem same_co : Cert.ReferenceIdeal.Ret.co (launchContents m' c) = co m c := funext fun _ => funext fun _ => congrFun h3 _
include h4 in
theorem same_si : Cert.ReferenceIdeal.Ret.si (launchContents m' c) = si m c := funext fun _ => funext fun _ => congrFun h4 _
include h5 in
theorem same_g : Cert.ReferenceIdeal.Ret.ga (launchContents m' c) = ga m c := funext fun _ => funext fun _ => congrFun h5 _

include h1 h2 h3 h4 h5 h6 h7 in
theorem dq_same : Cert.ReferenceIdeal.Value.val5 (launchContents m' c) (Proc.devRef .tc Cert.ReferenceIdeal.main_v254) =
    fun i : S8192x512.Idx => dqAt m c (i 0) (i 1) := by
  funext i
  obtain ⟨n, a, h, b, rfl⟩ := at_chunk i
  refine (Cert.ReferenceIdeal.Ret.dq_apply (launchContents m' c) n a h b).trans (Eq.trans ?_ (dq_at m c n a h b).symm)
  unfold Cert.ReferenceIdeal.Ret.kM Cert.ReferenceIdeal.Ret.vM Cert.ReferenceIdeal.Ret.gM
  rw [same_k m c m' h1, same_v m c m' h2, same_co m c m' h3, same_si m c m' h4, same_g m c m' h5]
  exact dq_congr rfl rfl rfl (funext fun _ => funext fun _ => congrFun h6 _) (funext fun _ => funext fun _ => congrFun h7 _)
    rfl rfl rfl rfl rfl a b

include h0 h2 h3 h4 h5 h8 h9 in
theorem dk_same : Cert.ReferenceIdeal.Value.val5 (launchContents m' c) (Proc.devRef .tc Cert.ReferenceIdeal.main_v255) =
    fun i : S8192x512.Idx => dkAt m c (i 0) (i 1) := by
  funext i
  obtain ⟨n, a, h, b, rfl⟩ := at_chunk i
  refine (Cert.ReferenceIdeal.Ret.dk_apply (launchContents m' c) n a h b).trans (Eq.trans ?_ (dk_at m c n a h b).symm)
  unfold Cert.ReferenceIdeal.Ret.qM Cert.ReferenceIdeal.Ret.vM Cert.ReferenceIdeal.Ret.gM
  rw [same_q m c m' h0, same_v m c m' h2, same_co m c m' h3, same_si m c m' h4, same_g m c m' h5]
  exact dk_congr rfl rfl rfl (funext fun _ => funext fun _ => congrFun h8 _) (funext fun _ => funext fun _ => congrFun h9 _)
    rfl rfl rfl rfl rfl kscale a b

include h0 h1 h3 h4 h5 h8 h9 in
theorem dv_same : Cert.ReferenceIdeal.Value.val5 (launchContents m' c) (Proc.devRef .tc Cert.ReferenceIdeal.main_v256) =
    fun i : S8192x512.Idx => dvAt m c (i 0) (i 1) := by
  funext i
  obtain ⟨n, a, h, b, rfl⟩ := at_chunk i
  refine (Cert.ReferenceIdeal.Ret.dv_apply (launchContents m' c) n a h b).trans (Eq.trans ?_ (dv_at m c n a h b).symm)
  unfold Cert.ReferenceIdeal.Ret.qM Cert.ReferenceIdeal.Ret.kM Cert.ReferenceIdeal.Ret.gM
  rw [same_q m c m' h0, same_k m c m' h1, same_co m c m' h3, same_si m c m' h4, same_g m c m' h5]
  exact dv_congr rfl rfl rfl (funext fun _ => funext fun _ => congrFun h8 _) (funext fun _ => funext fun _ => congrFun h9 _)
    rfl rfl rfl a b

end Cert.KernelIdeal.Ret

end
-- ==== Proof.RetGrad.lean ====
module

public import proofs.«01_k».proof.Defs
public import proofs.«01_k».proof.Proof.Grads

@[expose] public section

noncomputable section

/-! The claims about the gradient of the retention. -/

namespace Cert.Proof.RetGrad

open Idealize.ShloMosaic Idealize.ShloMosaic.TcCoe Idealize.SL.Sem Cert.KernelIdeal.Ret

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From equal arguments both programs end with the same three gradients. -/
theorem algebraic : Cert.algebraic_KernelIdeal_ReferenceIdeal := by
  intro m ρ m' ρ' _ hagree
  refine ⟨fun c => fun i => dqAt m c (i 0) (i 1), fun c => fun i => dkAt m c (i 0) (i 1),
    fun c => fun i => dvAt m c (i 0) (i 1), ?_, ?_⟩
  · exact (θ_run Cert.KernelIdeal.defs _ _).mono (fun r h c => ⟨(h c).1.trans (final15 m c), (h c).2.1.trans (final16 m c),
      (h c).2.2.1.trans (final17 m c), (h c).2.2.2⟩) (Cert.KernelIdeal.Value.run_blocks (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9⟩ := hagree c
    exact ⟨(h c).1.trans ((Cert.ReferenceIdeal.Value.val5_main_v254 _).symm.trans (dq_same m c m' a1 a2 a3 a4 a5 a6 a7)),
      (h c).2.1.trans ((Cert.ReferenceIdeal.Value.val5_main_v255 _).symm.trans (dk_same m c m' a0 a2 a3 a4 a5 a8 a9)),
      (h c).2.2.1.trans ((Cert.ReferenceIdeal.Value.val5_main_v256 _).symm.trans (dv_same m c m' a0 a1 a3 a4 a5 a8 a9)),
      (h c).2.2.2⟩

end Cert.Proof.RetGrad

end
-- ==== Proof.Wgrad.lean ====
module

public import Idealize.ShloMosaic.Lib.Pointwise
public import Idealize.ShloMosaic.Lib.StableHlo.ReadAt
public import Idealize.ShloMosaic.Lib.Pipeline.ValueKit

@[expose] public section

noncomputable section

/-! Sums over the tokens, in parts. -/

namespace Cert.Wgrad

open Idealize.ShloMosaic

/-- A sum over all tokens is the sum of its two halves. -/
theorem sum_halves (f : Fin 8192 → EReal) :
    ∑ r, f r = (∑ s : Fin 4096, f ⟨s.val, by omega⟩) + ∑ s : Fin 4096, f ⟨4096 + s.val, by omega⟩ :=
  Fin.sum_univ_add (a := 4096) (b := 4096) f

/-- A sum over all tokens is the sum of its four quarters. -/
theorem sum_quarters (f : Fin 8192 → EReal) :
    ∑ r, f r = (∑ s : Fin 2048, f ⟨s.val, by omega⟩) + (∑ s : Fin 2048, f ⟨2048 + s.val, by omega⟩) +
      (∑ s : Fin 2048, f ⟨4096 + s.val, by omega⟩) + ∑ s : Fin 2048, f ⟨6144 + s.val, by omega⟩ := by
  rw [sum_halves, Fin.sum_univ_add (a := 2048) (b := 2048), Fin.sum_univ_add (a := 2048) (b := 2048), ← add_assoc]
  congr 1

/-- A token's features over the root of their mean square, times the gains. -/
def norm (x : Fin 8192 → Fin 1024 → EReal) (g : Fin 1024 → EReal) (r : Fin 8192) (q : Fin 1024) : EReal :=
  x r q * Ideal.rsqrt (Ideal.div (∑ j, x r j * x r j) (Ideal.ofBits .f32 0x44800000#32) + Ideal.ofBits .f32 0x358637BD#32) *
    g q

/-- Swish of the gate, times the other half. -/
def gated (gate up : Fin 8192 → Fin 2816 → EReal) (r : Fin 8192) (a : Fin 2816) : EReal :=
  gate r a * Ideal.div 1 (1 + Ideal.exp (-gate r a)) * up r a

/-- Three blocks of columns, one beside the other. -/
def beside (f : Fin 8192 → Fin 256 → EReal) (g : Fin 8192 → Fin 512 → EReal) (h : Fin 8192 → Fin 256 → EReal) (r : Fin 8192)
    (a : Fin 1024) : EReal :=
  if l : a.val < 256 then f r ⟨a.val, l⟩ else if k : a.val - 256 < 512 then g r ⟨a.val - 256, k⟩
    else h r ⟨a.val - 256 - 512, by omega⟩

end Cert.Wgrad

end
-- ==== Proof.In.lean ====
module

public import proofs.«01_k».proof.Proof.Gen.KernelInIdeal.Value
public import proofs.«01_k».proof.Proof.Gen.ReferenceInIdeal.Run
public import proofs.«01_k».proof.Defs
public import proofs.«01_k».proof.Proof.Wgrad

@[expose] public section

set_option maxRecDepth 16384

noncomputable section

/-! The gradient of the input projection's weight: what the kernel leaves, at an index. -/

namespace Cert.KernelInIdeal.Wgrad

open Cert.Wgrad Cert.KernelInIdeal Cert.KernelInIdeal.Gen Cert.KernelInIdeal.Value Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a2 : Memref sig .tc .vmem S1024x2048 .bf16) (h2 : a2.IsWhole)
  (a3 : Memref sig .tc .vmem S2048x1536 .bf16) (h3 : a3.IsWhole) (a4 : Memref sig .tc .vmem S4x1024x384 .bf16)
  (h4 : a4.IsWhole) (a5 : Memref sig .tc .vmem S1024x1536 .f32) (h5 : a5.IsWhole)
  (x : Vec Ideal S1024x2048 .bf16) (y : Vec Ideal S2048x1536 .bf16) (acc : Vec Ideal S1024x1536 .f32)

theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S1024x1536) hz, View.readCov_unit_zero (S := S1024x1536) _ hz]
  simp only [View.readAt_eq_ld, h2.read_unread, h3.read_unread, View.ld_unit_zero (S := S1024x2048) hz,
    View.ld_unit_zero (S := S2048x1536) hz]

theorem middle (hc0 : ¬cond0_0 i) (hc1 : ¬cond0_1 i) :
    sout0_B_0 c i a2 h2 a3 h3 a4 h4 a5 h5 hc0 hc1 x y acc = k0_pay2 acc x y := by
  unfold sout0_B_0
  rw [View.read_writes_eq_canon _ _ _ (scover0_B_0 c i a2 h2 a3 h3 a4 h4 a5 h5 hc0 hc1 x y acc)]
  unfold kernelRun0_B
  dsimp only
  sl_unfold_words
  rw [View.canon_unit_zero (S := S1024x1536) hz]
  simp only [View.readAt_eq_ld, h2.read_unread, h3.read_unread, h5.read_unread, View.ld_unit_zero (S := S1024x2048) hz,
    View.ld_unit_zero (S := S2048x1536) hz, View.ld_unit_zero (S := S1024x1536) hz]

theorem pay2_apply (p : Fin 1024) (q : Fin 1536) :
    k0_pay2 acc x y (ix2 p q) = acc (ix2 p q) + ∑ s : Fin 2048, x (ix2 p s) * y (ix2 s q) := by
  pointwise [k0_pay2]
theorem pay1_apply (p : Fin 1024) (q : Fin 1536) : k0_pay1 (F := Ideal) (ix2 p q) = (0 : EReal) := by
  pointwise [k0_pay1]
theorem pay3_apply (v : Vec Ideal S1024x384 .f32) (p : Fin 1024) (q : Fin 384) : k0_pay3 v (ix3 0 p q) = v (ix2 p q) := by
  pointwise [k0_pay3]

/-- One stored piece: 384 columns of the sum, rounded. -/
theorem piece (k : Fin 4) (p : Fin 1024) (q : Fin 384) (n o : ℕ) (ho : o = 384 * n) (inb) :
    View.TileAt (Val := Elt Ideal) (S := S4x1024x384) (e := .bf16) (ix3 k p q) ![n, 0, 0] S1x1024x384.size
      (k0_pay3 (View.ld acc (Rect.unit (s := S1024x1536) ![0, o] S1024x384.size inb)))
      (acc (ix2 p ⟨384 * k.val + q.val, by omega⟩)) := by
  intro w hw
  obtain ⟨z, a, b, rfl⟩ : ∃ (z : Fin 1) (a : Fin 1024) (b : Fin 384), w = ix3 z a b := ⟨w 0, w 1, w 2, eq_ix3 w⟩
  obtain rfl : z = 0 := Subsingleton.elim _ _
  have e0 : k.val = n + 0 := hw 0
  have e1 : p.val = 0 + a.val := hw 1
  have e2 : q.val = 0 + b.val := hw 2
  rw [pay3_apply]
  show acc _ = acc _
  congr 1
  funext d
  apply Fin.ext
  fin_cases d
  · show 0 + 1 * a.val = p.val; omega
  · show o + 1 * b.val = 384 * k.val + q.val; omega

theorem last (hc0 : ¬cond0_0 i) (hc1 : cond0_1 i) (k : Fin 4) (p : Fin 1024) (q : Fin 384) :
    out0_C_2 c i a2 h2 a3 h3 a4 h4 a5 h5 hc0 hc1 x y acc (ix3 k p q) =
      k0_pay2 acc x y (ix2 p ⟨384 * k.val + q.val, by omega⟩) := by
  unfold out0_C_2
  rw [View.read_writes_eq_canon _ _ _ (cover0_C_2 c i a2 h2 a3 h3 a4 h4 a5 h5 hc0 hc1 x y acc)]
  unfold kernelRun0_C
  dsimp only
  sl_unfold_words
  simp only [View.readCov_eq_canon', View.canon_unit_zero (S := S1024x1536) hz]
  simp only [View.readAt_eq_ld, h2.read_unread, h3.read_unread, h5.read_unread, View.ld_unit_zero (S := S1024x2048) hz,
    View.ld_unit_zero (S := S2048x1536) hz, View.ld_unit_zero (S := S1024x1536) hz]
  refine View.canon_eq_of_allAt _ (ix3 k p q) _ (View.cover_of_tiled_head _ _ _ (by rfl) (ix3 k p q)) ?_
  repeat' refine View.allAt_cons_unit _ _ _ _ _ (piece (k0_pay2 acc x y) k p q _ _ (by rfl) _) ?_
  exact View.allAt_nil (ix3 k p q) _
end body

variable (m : (ℓ : Loc nD τ sig) → Buf (Elt Ideal) ℓ) (c : Dev nD)

theorem N8 (t : Fin cfg0.N) : t.val < 8 := by have := t.isLt; have : cfg0.N = 8 := N_0; omega

theorem idx : ∀ t : Fin cfg0.N, win0_0.index t = ![0, t.val % 4] ∧ win0_1.index t = ![t.val % 4, t.val / 4] ∧
    win0_2.index t = ![t.val / 4, 0, 0] :=
  (by decide +kernel : ∀ t : Fin grid0.N, win0_0.index t = ![0, t.val % 4] ∧ win0_1.index t = ![t.val % 4, t.val / 4] ∧
    win0_2.index t = ![t.val / 4, 0, 0])

theorem blk0 (t : Fin cfg0.N) (p : Fin 1024) (s : Fin 2048) : iblk m c 0 t (ix2 p s) =
    V m c main_v14 (ix2 p (⟨2048 * (t.val % 4) + s.val, by omega⟩ : Fin 8192)) := by
  have i := (idx t).1
  unfold iblk
  show V m c main_v14 _ = V m c main_v14 _
  congr 1
  blk_ext [i]

theorem blk1 (t : Fin cfg0.N) (s : Fin 2048) (q : Fin 1536) : iblk m c 1 t (ix2 s q) =
    V m c main_v15 (ix2 (⟨2048 * (t.val % 4) + s.val, by omega⟩ : Fin 8192)
      (⟨1536 * (t.val / 4) + q.val, by have := N8 t; omega⟩ : Fin 3072)) := by
  have i := (idx t).2.1
  unfold iblk
  show V m c main_v15 _ = V m c main_v15 _
  congr 1
  blk_ext [i]

/-- The product of one step's blocks. -/
def step (t : Fin cfg0.N) (p : Fin 1024) (q : Fin 1536) : EReal :=
  ∑ s : Fin 2048, HMul.hMul (α := EReal) (iblk m c 0 t (ix2 p s)) (iblk m c 1 t (ix2 s q))

theorem sum_first (t : Fin cfg0.N) (ht : t.val % 4 = 0) (p : Fin 1024) (q : Fin 1536) :
    (outsAt0 m c t.val t.isLt).2 (ix2 p q) = step m c t p q := by
  rw [outsAt0_A m c t ht (by omega)]
  dsimp only
  rw [first, pay2_apply, pay1_apply, zero_add]
  rfl

theorem sum_middle (n : ℕ) (t : Fin cfg0.N) (hn : t.val = n + 1) (h0 : ¬t.val % 4 = 0) (h1 : ¬t.val % 4 = 3) (p : Fin 1024)
    (q : Fin 1536) :
    (outsAt0 m c t.val t.isLt).2 (ix2 p q) = (outsAt0 m c n (by omega)).2 (ix2 p q) + step m c t p q := by
  rw [outsAt0_B m c t h0 h1]
  dsimp only
  rw [middle, pay2_apply]
  simp only [show t.val - 1 = n by omega]
  rfl

theorem outs_last (n : ℕ) (t : Fin cfg0.N) (hn : t.val = n + 3) (ht : t.val % 4 = 3) (k : Fin 4) (p : Fin 1024) (q : Fin 384) :
    (outsAt0 m c t.val t.isLt).1 (ix3 k p q) =
      step m c ⟨n, by omega⟩ p ⟨384 * k.val + q.val, by omega⟩ + step m c ⟨n + 1, by omega⟩ p ⟨384 * k.val + q.val, by omega⟩ +
        step m c ⟨n + 2, by omega⟩ p ⟨384 * k.val + q.val, by omega⟩ + step m c t p ⟨384 * k.val + q.val, by omega⟩ := by
  rw [outsAt0_C m c t (by omega) ht]
  dsimp only
  rw [last, pay2_apply]
  simp only [show t.val - 1 = n + 2 by omega]
  rw [sum_middle m c (n + 1) ⟨n + 2, by omega⟩ rfl (by dsimp only; omega) (by dsimp only; omega),
    sum_middle m c n ⟨n + 1, by omega⟩ rfl (by dsimp only; omega) (by dsimp only; omega),
    sum_first m c ⟨n, by omega⟩ (by dsimp only; omega)]
  rfl

/-- The features after the norm, from the arguments. -/
abbrev h1 : Fin 8192 → Fin 1024 → EReal :=
  norm (fun r j => m ((c : Thread nD τ).loc main_arg0) (ix2 r j)) fun j => m ((c : Thread nD τ).loc main_arg1) (ix1 j)
/-- The gradient of the product. -/
abbrev dproj : Fin 8192 → Fin 3072 → EReal := fun r a => m ((c : Thread nD τ).loc main_arg2) (ix2 r a)

theorem v14_apply (p : Fin 1024) (r : Fin 8192) : V m c main_v14 (ix2 p r) = h1 m c r p := by
  unfold V
  after_reads_at
  rfl

theorem v15_apply (r : Fin 8192) (a : Fin 3072) : V m c main_v15 (ix2 r a) = dproj m c r a := by
  unfold V
  after_reads_at

/-- The gradient of the weight, at an index of its eight pieces. -/
def result (j : Fin 8) (p : Fin 1024) (q : Fin 384) : EReal :=
  ∑ r : Fin 8192, h1 m c r p * dproj m c r ⟨j.val * 384 + q.val, by omega⟩

theorem final : (dats m 0 c).arrAt 2 cfg0.N = fun i => result m c (i 0) (i 1) (i 2) := by
  refine (dats m 0 c).arrAt_eq_of_covers 2 _ (by decide +kernel) fun t hf y => ?_
  have ht : t.val % 4 = 3 := (flush0_2 t).mp hf
  obtain ⟨k, p, q, rfl⟩ : ∃ (k : Fin 4) (p : Fin 1024) (q : Fin 384), y = ix3 k p q := ⟨y 0, y 1, y 2, eq_ix3 y⟩
  have i := idx t
  have e : ((cfg0.win 2).blk t).view.emb (ix3 k p q) =
      ix3 (⟨4 * (t.val / 4) + k.val, by have := N8 t; omega⟩ : Fin 8) p q := by blk_ext [i]
  rw [e]
  blk_simp
  rw [after0_2]
  show (outsAt0 m c t.val t.isLt).1 (ix3 k p q) = _
  rw [outs_last m c (t.val - 3) t (by omega) ht]
  show _ = result m c ⟨4 * (t.val / 4) + k.val, by have := N8 t; omega⟩ p q
  unfold result
  rw [sum_quarters]
  refine congrArg₂ (· + ·) (congrArg₂ (· + ·) (congrArg₂ (· + ·) ?_ ?_) ?_) ?_
  all_goals
    unfold step
    refine Finset.sum_congr rfl fun s _ => ?_
    rw [blk0, blk1, v14_apply, v15_apply]
    refine congrArg₂ (· * ·) (congrArg (h1 m c · p) (Fin.ext ?_)) (congrArg₂ (dproj m c) (Fin.ext ?_) (Fin.ext ?_)) <;>
      (show (_ : ℕ) = _; dsimp only; omega)

end Cert.KernelInIdeal.Wgrad

namespace Cert.Proof.In

open Idealize.ShloMosaic Idealize.ShloMosaic.TcCoe Idealize.SL.Sem Cert.KernelInIdeal.Wgrad

theorem frame_reference : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

theorem algebraic : Cert.algebraic_KernelInIdeal_ReferenceInIdeal := by
  intro m ρ m' ρ' _ hagree
  refine ⟨fun c => fun i => result m c (i 0) (i 1) (i 2), ?_, ?_⟩
  · exact (θ_run Cert.KernelInIdeal.defs _ _).mono (fun r h c => ⟨(h c).1.trans (final m c), (h c).2⟩)
      (Cert.KernelInIdeal.Value.run_blocks (F := Ideal) m ρ)
  · refine (θ_run Cert.ReferenceInIdeal.defs _ _).mono (fun r h c => ⟨(h c).1.trans ?_, (h c).2⟩)
      (Cert.ReferenceInIdeal.Value.run (F := Ideal) m' ρ')
    obtain ⟨a0, a1, a2⟩ := hagree c
    rw [a0, a1, a2]
    funext i
    obtain ⟨j, p, q, rfl⟩ : ∃ (j : Fin 8) (p : Fin 1024) (q : Fin 384), i = ix3 j p q := ⟨i 0, i 1, i 2, eq_ix3 i⟩
    pointwise []
    unfold result
    exact Finset.sum_congr rfl fun r _ => mul_comm (dproj m c r _) (h1 m c r p)

end Cert.Proof.In

end
-- ==== Proof.Out.lean ====
module

public import proofs.«01_k».proof.Proof.Gen.KernelOutIdeal.Value
public import proofs.«01_k».proof.Proof.Gen.ReferenceOutIdeal.Run
public import proofs.«01_k».proof.Defs
public import proofs.«01_k».proof.Proof.Wgrad

@[expose] public section

set_option maxRecDepth 16384

noncomputable section

/-! The gradient of the output projection's weight: what the kernel leaves, at an index. -/

namespace Cert.KernelOutIdeal.Wgrad

open Cert.Wgrad Cert.KernelOutIdeal Cert.KernelOutIdeal.Gen Cert.KernelOutIdeal.Value Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a2 : Memref sig .tc .vmem S1024x4096 .bf16) (h2 : a2.IsWhole)
  (a3 : Memref sig .tc .vmem S4096x1024 .bf16) (h3 : a3.IsWhole) (a4 : Memref sig .tc .vmem S1x1024x1024 .bf16)
  (h4 : a4.IsWhole) (a5 : Memref sig .tc .vmem S1024x1024 .f32) (h5 : a5.IsWhole)
  (x : Vec Ideal S1024x4096 .bf16) (y : Vec Ideal S4096x1024 .bf16) (acc : Vec Ideal S1024x1024 .f32)

theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S1024x4096) hz,
    View.ld_unit_zero (S := S4096x1024) hz]

theorem last (hc0 : ¬cond0_0 i) (hc1 : cond0_1 i) :
    out0_B_2 c i a2 h2 a3 h3 a4 h4 a5 h5 hc0 hc1 x y acc = k0_pay3 (k0_pay2 acc x y) := by
  unfold out0_B_2
  rw [View.read_writes_eq_canon _ _ _ (cover0_B_2 c i a2 h2 a3 h3 a4 h4 a5 h5 hc0 hc1 x y acc)]
  unfold kernelRun0_B
  dsimp only
  sl_unfold_words
  rw [View.canon_unit_zero (S := S1x1024x1024) hz3, View.readCov_unit_zero (S := S1024x1024) _ hz]
  simp only [View.readAt_eq_ld, h2.read_unread, h3.read_unread, h5.read_unread, View.ld_unit_zero (S := S1024x4096) hz,
    View.ld_unit_zero (S := S4096x1024) hz, View.ld_unit_zero (S := S1024x1024) hz]

theorem pay2_apply (p : Fin 1024) (q : Fin 1024) :
    k0_pay2 acc x y (ix2 p q) = acc (ix2 p q) + ∑ s : Fin 4096, x (ix2 p s) * y (ix2 s q) := by
  pointwise [k0_pay2]
theorem pay1_apply (p : Fin 1024) (q : Fin 1024) : k0_pay1 (F := Ideal) (ix2 p q) = (0 : EReal) := by
  pointwise [k0_pay1]
theorem pay3_apply (p : Fin 1024) (q : Fin 1024) : k0_pay3 acc (ix3 0 p q) = acc (ix2 p q) := by
  pointwise [k0_pay3]
end body

variable (m : (ℓ : Loc nD τ sig) → Buf (Elt Ideal) ℓ) (c : Dev nD)

theorem N2 (t : Fin cfg0.N) : t.val < 2 := by have := t.isLt; have : cfg0.N = 2 := N_0; omega

theorem idx : ∀ t : Fin cfg0.N, win0_0.index t = ![t.val / 2, t.val % 2] ∧ win0_1.index t = ![t.val % 2, 0] ∧
    win0_2.index t = ![t.val / 2, 0, 0] :=
  (by decide +kernel : ∀ t : Fin grid0.N, win0_0.index t = ![t.val / 2, t.val % 2] ∧ win0_1.index t = ![t.val % 2, 0] ∧
    win0_2.index t = ![t.val / 2, 0, 0])

theorem blk0 (t : Fin cfg0.N) (p : Fin 1024) (s : Fin 4096) : iblk m c 0 t (ix2 p s) =
    V m c main_v2 (ix2 (⟨1024 * (t.val / 2) + p.val, by have := N2 t; omega⟩ : Fin 1024)
      (⟨4096 * (t.val % 2) + s.val, by omega⟩ : Fin 8192)) := by
  have i := (idx t).1
  unfold iblk
  show V m c main_v2 _ = V m c main_v2 _
  congr 1
  blk_ext [i]

theorem blk1 (t : Fin cfg0.N) (s : Fin 4096) (q : Fin 1024) : iblk m c 1 t (ix2 s q) =
    V m c main_v3 (ix2 (⟨4096 * (t.val % 2) + s.val, by omega⟩ : Fin 8192) q) := by
  have i := (idx t).2.1
  unfold iblk
  show V m c main_v3 _ = V m c main_v3 _
  congr 1
  blk_ext [i]

abbrev lhs (t : Fin cfg0.N) : S1024x4096.Idx → EReal := iblk m c 0 t
abbrev rhs (t : Fin cfg0.N) : S4096x1024.Idx → EReal := iblk m c 1 t

theorem outs_last (t : Fin cfg0.N) (n : ℕ) (hn : t.val = n + 1) (ht : t.val % 2 = 1) (p : Fin 1024) (q : Fin 1024) :
    (outsAt0 m c t.val t.isLt).1 (ix3 0 p q) =
      (∑ s : Fin 4096, lhs m c ⟨n, by omega⟩ (ix2 p s) * rhs m c ⟨n, by omega⟩ (ix2 s q)) +
        ∑ s : Fin 4096, lhs m c t (ix2 p s) * rhs m c t (ix2 s q) := by
  have e : (outsAt0 m c n (by omega)).2 = k0_pay2 k0_pay1 (iblk m c 0 ⟨n, by omega⟩) (iblk m c 1 ⟨n, by omega⟩) := by
    rw [outsAt0_A m c ⟨n, by omega⟩ (by dsimp only; omega) (by dsimp only; omega)]
    dsimp only
    rw [first]
  rw [outsAt0_B m c t (by omega) ht]
  dsimp only
  rw [last, pay3_apply, pay2_apply]
  congr 1
  simp only [show t.val - 1 = n by omega, e]
  rw [pay2_apply, pay1_apply, zero_add]

/-- The heads' outputs side by side. -/
abbrev mixed : Fin 8192 → Fin 1024 → EReal :=
  beside (fun r a => m ((c : Thread nD τ).loc main_arg0) (ix2 r a)) (fun r a => m ((c : Thread nD τ).loc main_arg1) (ix2 r a))
    fun r a => m ((c : Thread nD τ).loc main_arg2) (ix2 r a)
/-- The gradient of the product. -/
abbrev dx : Fin 8192 → Fin 1024 → EReal := fun r q => m ((c : Thread nD τ).loc main_arg3) (ix2 r q)

theorem v2_apply (a : Fin 1024) (r : Fin 8192) : V m c main_v2 (ix2 a r) = mixed m c r a := by
  unfold V
  after_reads_at
  rfl

theorem v3_apply (r : Fin 8192) (q : Fin 1024) : V m c main_v3 (ix2 r q) = dx m c r q := by
  unfold V
  after_reads_at

/-- The gradient of the weight, at an index. -/
def result (p : Fin 1024) (q : Fin 1024) : EReal :=
  ∑ r : Fin 8192, mixed m c r p * dx m c r q

theorem final : (dats m 0 c).arrAt 2 cfg0.N = fun i => result m c (i 1) (i 2) := by
  refine (dats m 0 c).arrAt_eq_of_covers 2 _ (by decide +kernel) fun t hf y => ?_
  have ht : t.val % 2 = 1 := (flush0_2 t).mp hf
  obtain ⟨o, p, q, rfl⟩ : ∃ (o : Fin 1) (p : Fin 1024) (q : Fin 1024), y = ix3 o p q := ⟨y 0, y 1, y 2, eq_ix3 y⟩
  obtain rfl : o = 0 := Subsingleton.elim _ _
  have i := idx t
  have e : ((cfg0.win 2).blk t).view.emb (ix3 0 p q) =
      ix3 (⟨t.val / 2, by have := N2 t; omega⟩ : Fin 1) p q := by blk_ext [i]
  rw [e]
  blk_simp
  rw [after0_2]
  show (outsAt0 m c t.val t.isLt).1 (ix3 0 p q) = _
  rw [outs_last m c t (t.val - 1) (by omega) ht]
  show _ = result m c p q
  unfold result
  rw [sum_halves]
  refine congrArg₂ (· + ·) (Finset.sum_congr rfl fun s _ => ?_) (Finset.sum_congr rfl fun s _ => ?_)
  all_goals
    unfold lhs rhs
    rw [blk0, blk1, v2_apply, v3_apply]
    refine congrArg₂ (· * ·) (congrArg₂ (mixed m c) (Fin.ext ?_) (Fin.ext ?_)) (congrArg (dx m c · q) (Fin.ext ?_)) <;>
      (have := N2 t; show (_ : ℕ) = _; dsimp only; omega)

end Cert.KernelOutIdeal.Wgrad

namespace Cert.Proof.Out

open Idealize.ShloMosaic Idealize.ShloMosaic.TcCoe Idealize.SL.Sem Cert.KernelOutIdeal.Wgrad

theorem frame_reference : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem algebraic : Cert.algebraic_KernelOutIdeal_ReferenceOutIdeal := by
  intro m ρ m' ρ' _ hagree
  refine ⟨fun c => fun i => result m c (i 1) (i 2), ?_, ?_⟩
  · exact (θ_run Cert.KernelOutIdeal.defs _ _).mono (fun r h c => ⟨(h c).1.trans (final m c), (h c).2⟩)
      (Cert.KernelOutIdeal.Value.run_blocks (F := Ideal) m ρ)
  · refine (θ_run Cert.ReferenceOutIdeal.defs _ _).mono (fun r h c => ⟨(h c).1.trans ?_, (h c).2⟩)
      (Cert.ReferenceOutIdeal.Value.run (F := Ideal) m' ρ')
    obtain ⟨a0, a1, a2, a3⟩ := hagree c
    rw [a0, a1, a2, a3]
    funext i
    obtain ⟨j, p, q, rfl⟩ : ∃ (j : Fin 1) (p : Fin 1024) (q : Fin 1024), i = ix3 j p q := ⟨i 0, i 1, i 2, eq_ix3 i⟩
    pointwise []
    unfold result
    exact Finset.sum_congr rfl fun r _ => mul_comm (dx m c r q) (mixed m c r p)

end Cert.Proof.Out

end
-- ==== Proof.FfnIn.lean ====
module

public import proofs.«01_k».proof.Proof.Gen.KernelFfnInIdeal.Value
public import proofs.«01_k».proof.Proof.Gen.ReferenceFfnInIdeal.Run
public import proofs.«01_k».proof.Defs
public import proofs.«01_k».proof.Proof.Wgrad

@[expose] public section

set_option maxRecDepth 16384

noncomputable section

/-! The gradient of the feed-forward's first weight: what the kernel leaves, at an index. -/

namespace Cert.KernelFfnInIdeal.Wgrad

open Cert.Wgrad Cert.KernelFfnInIdeal Cert.KernelFfnInIdeal.Gen Cert.KernelFfnInIdeal.Value Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a2 : Memref sig .tc .vmem S704x4096 .bf16) (h2 : a2.IsWhole)
  (a3 : Memref sig .tc .vmem S4096x1024 .bf16) (h3 : a3.IsWhole) (a4 : Memref sig .tc .vmem S1x704x1024 .bf16)
  (h4 : a4.IsWhole) (a5 : Memref sig .tc .vmem S704x1024 .f32) (h5 : a5.IsWhole)
  (x : Vec Ideal S704x4096 .bf16) (y : Vec Ideal S4096x1024 .bf16) (acc : Vec Ideal S704x1024 .f32)

theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S704x1024) hz, View.readCov_unit_zero (S := S704x1024) _ hz]
  simp only [View.readAt_eq_ld, h2.read_unread, h3.read_unread, View.ld_unit_zero (S := S704x4096) hz,
    View.ld_unit_zero (S := S4096x1024) hz]

theorem last (hc0 : ¬cond0_0 i) (hc1 : cond0_1 i) :
    out0_B_2 c i a2 h2 a3 h3 a4 h4 a5 h5 hc0 hc1 x y acc = k0_pay3 (k0_pay2 acc x y) := by
  unfold out0_B_2
  rw [View.read_writes_eq_canon _ _ _ (cover0_B_2 c i a2 h2 a3 h3 a4 h4 a5 h5 hc0 hc1 x y acc)]
  unfold kernelRun0_B
  dsimp only
  sl_unfold_words
  rw [View.canon_unit_zero (S := S1x704x1024) hz3, View.readCov_unit_zero (S := S704x1024) _ hz]
  simp only [View.readAt_eq_ld, h2.read_unread, h3.read_unread, h5.read_unread, View.ld_unit_zero (S := S704x4096) hz,
    View.ld_unit_zero (S := S4096x1024) hz, View.ld_unit_zero (S := S704x1024) hz]

theorem pay2_apply (p : Fin 704) (q : Fin 1024) :
    k0_pay2 acc x y (ix2 p q) = acc (ix2 p q) + ∑ s : Fin 4096, x (ix2 p s) * y (ix2 s q) := by
  pointwise [k0_pay2]
theorem pay1_apply (p : Fin 704) (q : Fin 1024) : k0_pay1 (F := Ideal) (ix2 p q) = (0 : EReal) := by
  pointwise [k0_pay1]
theorem pay3_apply (p : Fin 704) (q : Fin 1024) : k0_pay3 acc (ix3 0 p q) = acc (ix2 p q) := by
  pointwise [k0_pay3]
end body

variable (m : (ℓ : Loc nD τ sig) → Buf (Elt Ideal) ℓ) (c : Dev nD)

theorem N16 (t : Fin cfg0.N) : t.val < 16 := by have := t.isLt; have : cfg0.N = 16 := N_0; omega

theorem idx : ∀ t : Fin cfg0.N, win0_0.index t = ![t.val / 2, t.val % 2] ∧ win0_1.index t = ![t.val % 2, 0] ∧
    win0_2.index t = ![t.val / 2, 0, 0] :=
  (by decide +kernel : ∀ t : Fin grid0.N, win0_0.index t = ![t.val / 2, t.val % 2] ∧ win0_1.index t = ![t.val % 2, 0] ∧
    win0_2.index t = ![t.val / 2, 0, 0])

theorem blk0 (t : Fin cfg0.N) (p : Fin 704) (s : Fin 4096) : iblk m c 0 t (ix2 p s) =
    V m c main_v1 (ix2 (⟨704 * (t.val / 2) + p.val, by have := N16 t; omega⟩ : Fin 5632)
      (⟨4096 * (t.val % 2) + s.val, by omega⟩ : Fin 8192)) := by
  have i := (idx t).1
  unfold iblk
  show V m c main_v1 _ = V m c main_v1 _
  congr 1
  blk_ext [i]

theorem blk1 (t : Fin cfg0.N) (s : Fin 4096) (q : Fin 1024) : iblk m c 1 t (ix2 s q) =
    V m c main_v15 (ix2 (⟨4096 * (t.val % 2) + s.val, by omega⟩ : Fin 8192) q) := by
  have i := (idx t).2.1
  unfold iblk
  show V m c main_v15 _ = V m c main_v15 _
  congr 1
  blk_ext [i]

abbrev lhs (t : Fin cfg0.N) : S704x4096.Idx → EReal := iblk m c 0 t
abbrev rhs (t : Fin cfg0.N) : S4096x1024.Idx → EReal := iblk m c 1 t

theorem outs_last (t : Fin cfg0.N) (n : ℕ) (hn : t.val = n + 1) (ht : t.val % 2 = 1) (p : Fin 704) (q : Fin 1024) :
    (outsAt0 m c t.val t.isLt).1 (ix3 0 p q) =
      (∑ s : Fin 4096, lhs m c ⟨n, by omega⟩ (ix2 p s) * rhs m c ⟨n, by omega⟩ (ix2 s q)) +
        ∑ s : Fin 4096, lhs m c t (ix2 p s) * rhs m c t (ix2 s q) := by
  have e : (outsAt0 m c n (by omega)).2 = k0_pay2 k0_pay1 (iblk m c 0 ⟨n, by omega⟩) (iblk m c 1 ⟨n, by omega⟩) := by
    rw [outsAt0_A m c ⟨n, by omega⟩ (by dsimp only; omega) (by dsimp only; omega)]
    dsimp only
    rw [first]
  rw [outsAt0_B m c t (by omega) ht]
  dsimp only
  rw [last, pay3_apply, pay2_apply]
  congr 1
  simp only [show t.val - 1 = n by omega, e]
  rw [pay2_apply, pay1_apply, zero_add]

/-- The features after the norm, from the arguments. -/
abbrev h2 : Fin 8192 → Fin 1024 → EReal :=
  norm (fun r j => m ((c : Thread nD τ).loc main_arg0) (ix2 r j)) fun j => m ((c : Thread nD τ).loc main_arg1) (ix1 j)
/-- The gradient of the product. -/
abbrev du : Fin 8192 → Fin 5632 → EReal := fun r a => m ((c : Thread nD τ).loc main_arg2) (ix2 r a)

theorem v1_apply (a : Fin 5632) (r : Fin 8192) : V m c main_v1 (ix2 a r) = du m c r a := by
  unfold V
  after_reads_at

theorem v15_apply (r : Fin 8192) (q : Fin 1024) : V m c main_v15 (ix2 r q) = h2 m c r q := by
  unfold V
  after_reads_at
  rfl

/-- The gradient of the weight, at an index of its eight pieces. -/
def result (j : Fin 8) (p : Fin 704) (q : Fin 1024) : EReal :=
  ∑ r : Fin 8192, du m c r ⟨j.val * 704 + p.val, by omega⟩ * h2 m c r q

theorem final : (dats m 0 c).arrAt 2 cfg0.N = fun i => result m c (i 0) (i 1) (i 2) := by
  refine (dats m 0 c).arrAt_eq_of_covers 2 _ (by decide +kernel) fun t hf y => ?_
  have ht : t.val % 2 = 1 := (flush0_2 t).mp hf
  obtain ⟨o, p, q, rfl⟩ : ∃ (o : Fin 1) (p : Fin 704) (q : Fin 1024), y = ix3 o p q := ⟨y 0, y 1, y 2, eq_ix3 y⟩
  obtain rfl : o = 0 := Subsingleton.elim _ _
  have i := idx t
  have e : ((cfg0.win 2).blk t).view.emb (ix3 0 p q) =
      ix3 (⟨t.val / 2, by have := N16 t; omega⟩ : Fin 8) p q := by blk_ext [i]
  rw [e]
  blk_simp
  rw [after0_2]
  show (outsAt0 m c t.val t.isLt).1 (ix3 0 p q) = _
  rw [outs_last m c t (t.val - 1) (by omega) ht]
  show _ = result m c ⟨t.val / 2, by have := N16 t; omega⟩ p q
  unfold result
  rw [sum_halves]
  refine congrArg₂ (· + ·) (Finset.sum_congr rfl fun s _ => ?_) (Finset.sum_congr rfl fun s _ => ?_)
  all_goals
    unfold lhs rhs
    rw [blk0, blk1, v1_apply, v15_apply]
    refine congrArg₂ (· * ·) (congrArg₂ (du m c) (Fin.ext ?_) (Fin.ext ?_)) (congrArg (h2 m c · q) (Fin.ext ?_)) <;>
      (show (_ : ℕ) = _; dsimp only; omega)

end Cert.KernelFfnInIdeal.Wgrad

namespace Cert.Proof.FfnIn

open Idealize.ShloMosaic Idealize.ShloMosaic.TcCoe Idealize.SL.Sem Cert.KernelFfnInIdeal.Wgrad

theorem frame_reference : Cert.quiescent_ReferenceFfnInIdeal := fun m ρ _ =>
  (θ_run Cert.ReferenceFfnInIdeal.defs _ _).mono (fun r h => ⟨fun c => (h c).2, sem_eq_zero_of_no_sems (by decide) r.2⟩)
    (Cert.ReferenceFfnInIdeal.Value.run (F := Ideal) m ρ)

theorem algebraic : Cert.algebraic_KernelFfnInIdeal_ReferenceFfnInIdeal := by
  intro m ρ m' ρ' _ hagree
  refine ⟨fun c => fun i => result m c (i 0) (i 1) (i 2), ?_, ?_⟩
  · exact (θ_run Cert.KernelFfnInIdeal.defs _ _).mono (fun r h c => ⟨(h c).1.trans (final m c), (h c).2⟩)
      (Cert.KernelFfnInIdeal.Value.run_blocks (F := Ideal) m ρ)
  · refine (θ_run Cert.ReferenceFfnInIdeal.defs _ _).mono (fun r h c => ⟨(h c).1.trans ?_, (h c).2⟩)
      (Cert.ReferenceFfnInIdeal.Value.run (F := Ideal) m' ρ')
    obtain ⟨a0, a1, a2⟩ := hagree c
    rw [a0, a1, a2]
    funext i
    obtain ⟨j, p, q, rfl⟩ : ∃ (j : Fin 8) (p : Fin 704) (q : Fin 1024), i = ix3 j p q := ⟨i 0, i 1, i 2, eq_ix3 i⟩
    pointwise []
    unfold result
    rfl

end Cert.Proof.FfnIn

end
-- ==== Proof.FfnOut.lean ====
module

public import proofs.«01_k».proof.Proof.Gen.KernelFfnOutIdeal.Value
public import proofs.«01_k».proof.Proof.Gen.ReferenceFfnOutIdeal.Run
public import proofs.«01_k».proof.Defs
public import proofs.«01_k».proof.Proof.Wgrad

@[expose] public section

set_option maxRecDepth 16384

noncomputable section

/-! The gradient of the feed-forward's second weight: what the kernel leaves, at an index. -/

namespace Cert.KernelFfnOutIdeal.Wgrad

open Cert.Wgrad Cert.KernelFfnOutIdeal Cert.KernelFfnOutIdeal.Gen Cert.KernelFfnOutIdeal.Value Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a2 : Memref sig .tc .vmem S704x4096 .bf16) (h2 : a2.IsWhole)
  (a3 : Memref sig .tc .vmem S4096x1024 .bf16) (h3 : a3.IsWhole) (a4 : Memref sig .tc .vmem S1x704x1024 .bf16)
  (h4 : a4.IsWhole) (a5 : Memref sig .tc .vmem S704x1024 .f32) (h5 : a5.IsWhole)
  (x : Vec Ideal S704x4096 .bf16) (y : Vec Ideal S4096x1024 .bf16) (acc : Vec Ideal S704x1024 .f32)

theorem first (hc0 : cond0_0 i) (hc1 : ¬cond0_1 i) :
    sout0_A_0 c i a2 h2 a3 h3 a4 h4 a5 h5 hc0 hc1 x y = k0_pay2 k0_pay1 x y := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S704x1024) hz, View.readCov_unit_zero (S := S704x1024) _ hz]
  simp only [View.readAt_eq_ld, h2.read_unread, h3.read_unread, View.ld_unit_zero (S := S704x4096) hz,
    View.ld_unit_zero (S := S4096x1024) hz]

theorem last (hc0 : ¬cond0_0 i) (hc1 : cond0_1 i) :
    out0_B_2 c i a2 h2 a3 h3 a4 h4 a5 h5 hc0 hc1 x y acc = k0_pay3 (k0_pay2 acc x y) := by
  unfold out0_B_2
  rw [View.read_writes_eq_canon _ _ _ (cover0_B_2 c i a2 h2 a3 h3 a4 h4 a5 h5 hc0 hc1 x y acc)]
  unfold kernelRun0_B
  dsimp only
  sl_unfold_words
  rw [View.canon_unit_zero (S := S1x704x1024) hz3, View.readCov_unit_zero (S := S704x1024) _ hz]
  simp only [View.readAt_eq_ld, h2.read_unread, h3.read_unread, h5.read_unread, View.ld_unit_zero (S := S704x4096) hz,
    View.ld_unit_zero (S := S4096x1024) hz, View.ld_unit_zero (S := S704x1024) hz]

theorem pay2_apply (p : Fin 704) (q : Fin 1024) :
    k0_pay2 acc x y (ix2 p q) = acc (ix2 p q) + ∑ s : Fin 4096, x (ix2 p s) * y (ix2 s q) := by
  pointwise [k0_pay2]
theorem pay1_apply (p : Fin 704) (q : Fin 1024) : k0_pay1 (F := Ideal) (ix2 p q) = (0 : EReal) := by
  pointwise [k0_pay1]
theorem pay3_apply (p : Fin 704) (q : Fin 1024) : k0_pay3 acc (ix3 0 p q) = acc (ix2 p q) := by
  pointwise [k0_pay3]
end body

variable (m : (ℓ : Loc nD τ sig) → Buf (Elt Ideal) ℓ) (c : Dev nD)

theorem N8 (t : Fin cfg0.N) : t.val < 8 := by have := t.isLt; have : cfg0.N = 8 := N_0; omega

theorem idx : ∀ t : Fin cfg0.N, win0_0.index t = ![t.val / 2, t.val % 2] ∧ win0_1.index t = ![t.val % 2, 0] ∧
    win0_2.index t = ![t.val / 2, 0, 0] :=
  (by decide +kernel : ∀ t : Fin grid0.N, win0_0.index t = ![t.val / 2, t.val % 2] ∧ win0_1.index t = ![t.val % 2, 0] ∧
    win0_2.index t = ![t.val / 2, 0, 0])

theorem blk0 (t : Fin cfg0.N) (p : Fin 704) (s : Fin 4096) : iblk m c 0 t (ix2 p s) =
    V m c main_v3 (ix2 (⟨704 * (t.val / 2) + p.val, by have := N8 t; omega⟩ : Fin 2816)
      (⟨4096 * (t.val % 2) + s.val, by omega⟩ : Fin 8192)) := by
  have i := (idx t).1
  unfold iblk
  show V m c main_v3 _ = V m c main_v3 _
  congr 1
  blk_ext [i]

theorem blk1 (t : Fin cfg0.N) (s : Fin 4096) (q : Fin 1024) : iblk m c 1 t (ix2 s q) =
    V m c main_v4 (ix2 (⟨4096 * (t.val % 2) + s.val, by omega⟩ : Fin 8192) q) := by
  have i := (idx t).2.1
  unfold iblk
  show V m c main_v4 _ = V m c main_v4 _
  congr 1
  blk_ext [i]

abbrev lhs (t : Fin cfg0.N) : S704x4096.Idx → EReal := iblk m c 0 t
abbrev rhs (t : Fin cfg0.N) : S4096x1024.Idx → EReal := iblk m c 1 t

theorem outs_last (t : Fin cfg0.N) (n : ℕ) (hn : t.val = n + 1) (ht : t.val % 2 = 1) (p : Fin 704) (q : Fin 1024) :
    (outsAt0 m c t.val t.isLt).1 (ix3 0 p q) =
      (∑ s : Fin 4096, lhs m c ⟨n, by omega⟩ (ix2 p s) * rhs m c ⟨n, by omega⟩ (ix2 s q)) +
        ∑ s : Fin 4096, lhs m c t (ix2 p s) * rhs m c t (ix2 s q) := by
  have e : (outsAt0 m c n (by omega)).2 = k0_pay2 k0_pay1 (iblk m c 0 ⟨n, by omega⟩) (iblk m c 1 ⟨n, by omega⟩) := by
    rw [outsAt0_A m c ⟨n, by omega⟩ (by dsimp only; omega) (by dsimp only; omega)]
    dsimp only
    rw [first]
  rw [outsAt0_B m c t (by omega) ht]
  dsimp only
  rw [last, pay3_apply, pay2_apply]
  congr 1
  simp only [show t.val - 1 = n by omega, e]
  rw [pay2_apply, pay1_apply, zero_add]

/-- The gated features, from the arguments. -/
abbrev act : Fin 8192 → Fin 2816 → EReal :=
  gated (fun r a => m ((c : Thread nD τ).loc main_arg0) (ix2 r a)) fun r a => m ((c : Thread nD τ).loc main_arg1) (ix2 r a)
/-- The gradient of the product. -/
abbrev dx : Fin 8192 → Fin 1024 → EReal := fun r q => m ((c : Thread nD τ).loc main_arg2) (ix2 r q)

theorem v3_apply (a : Fin 2816) (r : Fin 8192) : V m c main_v3 (ix2 a r) = act m c r a := by
  unfold V
  after_reads_at
  rfl

theorem v4_apply (r : Fin 8192) (q : Fin 1024) : V m c main_v4 (ix2 r q) = dx m c r q := by
  unfold V
  after_reads_at

/-- The gradient of the weight, at an index of its four pieces. -/
def result (j : Fin 4) (p : Fin 704) (q : Fin 1024) : EReal :=
  ∑ r : Fin 8192, act m c r ⟨j.val * 704 + p.val, by omega⟩ * dx m c r q

theorem final : (dats m 0 c).arrAt 2 cfg0.N = fun i => result m c (i 0) (i 1) (i 2) := by
  refine (dats m 0 c).arrAt_eq_of_covers 2 _ (by decide +kernel) fun t hf y => ?_
  have ht : t.val % 2 = 1 := (flush0_2 t).mp hf
  obtain ⟨o, p, q, rfl⟩ : ∃ (o : Fin 1) (p : Fin 704) (q : Fin 1024), y = ix3 o p q := ⟨y 0, y 1, y 2, eq_ix3 y⟩
  obtain rfl : o = 0 := Subsingleton.elim _ _
  have i := idx t
  have e : ((cfg0.win 2).blk t).view.emb (ix3 0 p q) =
      ix3 (⟨t.val / 2, by have := N8 t; omega⟩ : Fin 4) p q := by blk_ext [i]
  rw [e]
  blk_simp
  rw [after0_2]
  show (outsAt0 m c t.val t.isLt).1 (ix3 0 p q) = _
  rw [outs_last m c t (t.val - 1) (by omega) ht]
  show _ = result m c ⟨t.val / 2, by have := N8 t; omega⟩ p q
  unfold result
  rw [sum_halves]
  refine congrArg₂ (· + ·) (Finset.sum_congr rfl fun s _ => ?_) (Finset.sum_congr rfl fun s _ => ?_)
  all_goals
    unfold lhs rhs
    rw [blk0, blk1, v3_apply, v4_apply]
    refine congrArg₂ (· * ·) (congrArg₂ (act m c) (Fin.ext ?_) (Fin.ext ?_)) (congrArg (dx m c · q) (Fin.ext ?_)) <;>
      (show (_ : ℕ) = _; dsimp only; omega)

end Cert.KernelFfnOutIdeal.Wgrad

namespace Cert.Proof.FfnOut

open Idealize.ShloMosaic Idealize.ShloMosaic.TcCoe Idealize.SL.Sem Cert.KernelFfnOutIdeal.Wgrad

theorem frame_reference : Cert.quiescent_ReferenceFfnOutIdeal := fun m ρ _ =>
  (θ_run Cert.ReferenceFfnOutIdeal.defs _ _).mono (fun r h => ⟨fun c => (h c).2, sem_eq_zero_of_no_sems (by decide) r.2⟩)
    (Cert.ReferenceFfnOutIdeal.Value.run (F := Ideal) m ρ)

theorem algebraic : Cert.algebraic_KernelFfnOutIdeal_ReferenceFfnOutIdeal := by
  intro m ρ m' ρ' _ hagree
  refine ⟨fun c => fun i => result m c (i 0) (i 1) (i 2), ?_, ?_⟩
  · exact (θ_run Cert.KernelFfnOutIdeal.defs _ _).mono (fun r h c => ⟨(h c).1.trans (final m c), (h c).2⟩)
      (Cert.KernelFfnOutIdeal.Value.run_blocks (F := Ideal) m ρ)
  · refine (θ_run Cert.ReferenceFfnOutIdeal.defs _ _).mono (fun r h c => ⟨(h c).1.trans ?_, (h c).2⟩)
      (Cert.ReferenceFfnOutIdeal.Value.run (F := Ideal) m' ρ')
    obtain ⟨a0, a1, a2⟩ := hagree c
    rw [a0, a1, a2]
    funext i
    obtain ⟨j, p, q, rfl⟩ : ∃ (j : Fin 4) (p : Fin 704) (q : Fin 1024), i = ix3 j p q := ⟨i 0, i 1, i 2, eq_ix3 i⟩
    pointwise []
    unfold result
    exact Finset.sum_congr rfl fun r _ => mul_comm _ _

end Cert.Proof.FfnOut

end
-- ==== Proof.Rows.lean ====
module

public import Idealize.ShloMosaic.Lib.Pointwise
public import proofs.«01_k».proof.Proof.Wgrad

@[expose] public section

noncomputable section

/-! One token's row through the norm, the projections and the feed-forward. -/

namespace Cert.Rows

open Idealize.ShloMosaic

/-- The reciprocal root of a row's mean square. -/
def scale (x : Fin 1024 → EReal) : EReal :=
  Ideal.rsqrt (Ideal.div (∑ j, x j * x j) (Ideal.ofBits .f32 0x44800000#32) + Ideal.ofBits .f32 0x358637BD#32)

/-- The row over the root of its mean square, times the gains. -/
def unit (x g : Fin 1024 → EReal) (k : Fin 1024) : EReal := x k * scale x * g k

/-- The normed row against the rows of a weight. -/
def proj {n : ℕ} (x g : Fin 1024 → EReal) (w : Fin n → Fin 1024 → EReal) (a : Fin n) : EReal := ∑ k, unit x g k * w a k

/-- Swish of one half, times the other. -/
def swish (z u : EReal) : EReal := z * Ideal.div 1 (1 + Ideal.exp (-z)) * u

/-- The feed-forward's activation. -/
def act (x g : Fin 1024 → EReal) (w : Fin 5632 → Fin 1024 → EReal) (a : Fin 2816) : EReal :=
  swish (proj x g w ⟨a.val, by omega⟩) (proj x g w ⟨2816 + a.val, by omega⟩)

/-- The row after the feed-forward. -/
def ffn (x g : Fin 1024 → EReal) (w : Fin 5632 → Fin 1024 → EReal) (v : Fin 2816 → Fin 1024 → EReal) (q : Fin 1024) : EReal :=
  x q + ∑ a, act x g w a * v a q

/-- A sum over the hidden features is the sum of its four chunks. -/
theorem sum_chunks (f : Fin 2816 → EReal) :
    ∑ a, f a = (∑ s : Fin 768, f ⟨s.val, by omega⟩) + (∑ s : Fin 768, f ⟨768 + s.val, by omega⟩) +
      (∑ s : Fin 768, f ⟨1536 + s.val, by omega⟩) + ∑ s : Fin 512, f ⟨2304 + s.val, by omega⟩ := by
  refine (Fin.sum_univ_add (a := 2304) (b := 512) f).trans (congrArg₂ (· + ·) ?_ rfl)
  refine (Fin.sum_univ_add (a := 1536) (b := 768) _).trans (congrArg₂ (· + ·) ?_ rfl)
  exact Fin.sum_univ_add (a := 768) (b := 768) _

end Cert.Rows

end
-- ==== Proof.Norm.lean ====
module

public import proofs.«01_k».proof.Proof.Rows

@[expose] public section

noncomputable section

/-! The backward of a row's norm, written in two ways. -/

namespace Cert.Rows

open Idealize.ShloMosaic

theorem word_1024 : Ideal.ofBits .f32 0x44800000#32 = ((1024 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_eps : ∃ e : ℝ, 0 < e ∧ Ideal.ofBits .f32 0x358637BD#32 = (e : EReal) :=
  ⟨8796093 / 2 ^ 43, by positivity, by simp [Ideal.ofBits, Ideal.ieee, -EReal.coe_mul]; norm_num⟩

/-- A row's mean square, and a little more. -/
def square (x : Fin 1024 → EReal) : EReal :=
  Ideal.div (∑ j, x j * x j) (Ideal.ofBits .f32 0x44800000#32) + Ideal.ofBits .f32 0x358637BD#32

theorem scale_eq (x : Fin 1024 → EReal) : scale x = Ideal.rsqrt (square x) := rfl

theorem mul_self_nonneg' (a : EReal) : 0 ≤ a * a := by
  induction a with
  | bot => simp
  | top => simp
  | coe r => exact_mod_cast mul_self_nonneg r

theorem sum_real {ι : Type} (t : Finset ι) (f : ι → ℝ) : ∑ j ∈ t, (f j : EReal) = ((∑ j ∈ t, f j : ℝ) : EReal) := by
  classical
  induction t using Finset.induction_on with
  | empty => simp
  | insert a t h e => rw [Finset.sum_insert h, Finset.sum_insert h, e, EReal.coe_add]

/-- The sum of a family's first `n` terms. -/
def upto {N : ℕ} (f : Fin N → EReal) (n : ℕ) : EReal := ∑ r ∈ Finset.range n, if h : r < N then f ⟨r, h⟩ else 0

theorem upto_zero {N : ℕ} (f : Fin N → EReal) : upto f 0 = 0 := Finset.sum_range_zero _
theorem upto_add {N : ℕ} (f : Fin N → EReal) (n k : ℕ) (h : n + k ≤ N) :
    upto f (n + k) = upto f n + ∑ s : Fin k, f ⟨n + s.val, by omega⟩ := by
  unfold upto
  rw [Finset.sum_range_add]
  refine congrArg (_ + ·) ?_
  rw [Finset.sum_range]
  exact Finset.sum_congr rfl fun s _ => dif_pos _
theorem upto_all {N : ℕ} (f : Fin N → EReal) : upto f N = ∑ r, f r := by
  unfold upto
  rw [Finset.sum_range]
  exact Finset.sum_congr rfl fun s _ => dif_pos s.isLt

/-- The sum of a row's squares is a real that is not negative, or the row holds an infinity and it is infinite. -/
theorem squares (x : Fin 1024 → EReal) :
    ((∃ s : ℝ, 0 ≤ s ∧ ∑ j, x j * x j = (s : EReal)) ∧ ∀ j, ∃ r : ℝ, x j = r) ∨ ∑ j, x j * x j = ⊤ := by
  by_cases h : ∀ j, ∃ r : ℝ, x j = r
  · choose f hf using h
    refine Or.inl ⟨⟨∑ j, f j * f j, Finset.sum_nonneg fun j _ => mul_self_nonneg _, ?_⟩, fun j => ⟨f j, hf j⟩⟩
    rw [← sum_real]
    exact Finset.sum_congr rfl fun j _ => by rw [hf j, EReal.coe_mul]
  · obtain ⟨k, hk⟩ := not_forall.mp h
    refine Or.inr (top_le_iff.mp ?_)
    have e : x k * x k = ⊤ := by
      generalize x k = y at hk
      induction y with
      | bot => simp
      | top => simp
      | coe r => exact absurd ⟨r, rfl⟩ hk
    rw [← e]
    exact Finset.single_le_sum (f := fun j => x j * x j) (fun j _ => mul_self_nonneg' (x j)) (Finset.mem_univ k)

/-- Either the row is of reals and its scale a positive real, or the scale is zero. -/
theorem scale_cases (x : Fin 1024 → EReal) :
    (∃ ρ : ℝ, 0 < ρ ∧ scale x = ρ ∧ Ideal.div (scale x) (square x) = ((ρ * ρ * ρ : ℝ) : EReal) ∧ ∀ j, ∃ r : ℝ, x j = r) ∨
      (scale x = 0 ∧ Ideal.div (scale x) (square x) = 0) := by
  obtain ⟨e, he, hw⟩ := word_eps
  rcases squares x with ⟨⟨s, hs, h⟩, hx⟩ | h
  · have hu : square x = ((s * (1 / 1024) + e : ℝ) : EReal) := by
      unfold square
      rw [h, hw, word_1024, Ideal.div_coe (by norm_num), ← EReal.coe_mul, ← EReal.coe_add]
    have hp : 0 < s * (1 / 1024) + e := by positivity
    generalize s * (1 / 1024) + e = u at hu hp
    have hr : scale x = (((Real.sqrt u)⁻¹ : ℝ) : EReal) := by
      rw [scale_eq, hu, Ideal.rsqrt_coe, if_neg (by linarith), if_neg hp.ne']
    refine Or.inl ⟨(Real.sqrt u)⁻¹, by positivity, hr, ?_, hx⟩
    rw [hr, hu, Ideal.div_coe hp.ne', ← EReal.coe_mul]
    congr 1
    have q : Real.sqrt u * Real.sqrt u = u := Real.mul_self_sqrt hp.le
    rw [mul_assoc, ← mul_inv, q, one_div]
  · have hu : square x = ⊤ := by
      unfold square
      rw [h, hw, word_1024, Ideal.div_coe (by norm_num), EReal.top_mul_coe_of_pos (by norm_num), EReal.top_add_coe]
    refine Or.inr ⟨by rw [scale_eq, hu]; rfl, ?_⟩
    rw [scale_eq, hu, Ideal.rsqrt_top]
    simp [Ideal.div]

/-- The gradient through the norm at one feature: from the gradient there, and from the row's sum. -/
def back (x : Fin 1024 → EReal) (k : Fin 1024) (y s : EReal) : EReal :=
  scale x * y - x k * (scale x * scale x * scale x) * Ideal.div s (Ideal.ofBits .f32 0x44800000#32)

/-- Half of the row's part of that gradient, as differentiating the mean square gives it. -/
def slope (x : Fin 1024 → EReal) (s : EReal) : EReal :=
  Ideal.div (s * (Ideal.ofBits .f32 0xBF000000#32 * Ideal.div (scale x) (square x))) (Ideal.ofBits .f32 0x44800000#32)

theorem twice (ρ r : ℝ) (hρ : 0 < ρ) (s : EReal) :
    -((r : EReal) * ((ρ * ρ * ρ : ℝ) : EReal) * (s * ((1 / 1024 : ℝ) : EReal))) =
      r * (s * ((-(1 / 2) : ℝ) * ((ρ * ρ * ρ : ℝ) : EReal)) * ((1 / 1024 : ℝ) : EReal)) +
        s * ((-(1 / 2) : ℝ) * ((ρ * ρ * ρ : ℝ) : EReal)) * ((1 / 1024 : ℝ) : EReal) * r := by
  have h3 : 0 < ρ * ρ * ρ := by positivity
  generalize ρ * ρ * ρ = d at h3
  have hn : -(1 / 2) * d < 0 := by linarith
  rw [← EReal.coe_mul, ← EReal.coe_mul]
  induction s with
  | coe s => norm_cast; ring
  | top =>
    rw [EReal.top_mul_coe_of_pos (by norm_num), EReal.top_mul_coe_of_neg hn, EReal.bot_mul_coe_of_pos (by norm_num)]
    rcases lt_trichotomy r 0 with h | rfl | h
    · rw [EReal.coe_mul_top_of_neg (by nlinarith), EReal.coe_mul_bot_of_neg h, EReal.bot_mul_coe_of_neg h]; rfl
    · simp
    · rw [EReal.coe_mul_top_of_pos (by positivity), EReal.coe_mul_bot_of_pos h, EReal.bot_mul_coe_of_pos h]; rfl
  | bot =>
    rw [EReal.bot_mul_coe_of_pos (by norm_num), EReal.bot_mul_coe_of_neg hn, EReal.top_mul_coe_of_pos (by norm_num)]
    rcases lt_trichotomy r 0 with h | rfl | h
    · rw [EReal.coe_mul_bot_of_neg (by nlinarith), EReal.coe_mul_top_of_neg h, EReal.top_mul_coe_of_neg h]; rfl
    · simp
    · rw [EReal.coe_mul_bot_of_pos (by positivity), EReal.coe_mul_top_of_pos h, EReal.top_mul_coe_of_pos h]; rfl

/-- The two ways agree, whatever the values. -/
theorem back_eq (x : Fin 1024 → EReal) (k : Fin 1024) (a y s : EReal) :
    a + back x k y s = a + y * scale x + x k * slope x s + slope x s * x k := by
  unfold back slope
  rw [word_1024, word_neg_half, sub_eq_add_neg, ← add_assoc, add_assoc (a + _), mul_comm y]
  congr 1
  rw [Ideal.div_coe (by norm_num), Ideal.div_coe (by norm_num)]
  rcases scale_cases x with ⟨ρ, hρ, e, d, hx⟩ | ⟨e, d⟩
  · obtain ⟨r, hr⟩ := hx k
    rw [d, e, hr, ← EReal.coe_mul, ← EReal.coe_mul]
    exact twice ρ r hρ s
  · rw [d, e]; simp

end Cert.Rows

end
-- ==== Proof.InprojBwd.lean ====
module

public import proofs.«01_k».proof.Proof.Gen.KernelInprojBwdIdeal.Value
public import proofs.«01_k».proof.Proof.Gen.ReferenceInprojBwdIdeal.Run
public import proofs.«01_k».proof.Defs
public import proofs.«01_k».proof.Proof.Norm

@[expose] public section

set_option maxRecDepth 16384

noncomputable section

/-! The backward of the first projection: what the kernel leaves, at an index. -/

namespace Cert.KernelInprojBwdIdeal.Leaf

open Cert.Rows Cert.KernelInprojBwdIdeal Cert.KernelInprojBwdIdeal.Gen Cert.KernelInprojBwdIdeal.Value Idealize.ShloMosaic
  Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (x0 x1 x2 x3 x4 x5 : Vec Ideal S512x512 .bf16) (x6 : Vec Ideal S1024x3072 .bf16) (x7 x9 : Vec Ideal S512x1024 .f32)
  (x8 : Vec Ideal S1x1x1024 .f32) (acc : Vec Ideal S1x1024 .f32)

/-- The six blocks, as the body lays them side by side. -/
def six : Vec Ideal S512x3072 .bf16 := View.canon
  [⟨Rect.unit ![0, 2560] ![512, 512] inb_S512x3072_S512x512_0_2560, k0_pay8 x5⟩,
    ⟨Rect.unit ![0, 2048] ![512, 512] inb_S512x3072_S512x512_0_2048, k0_pay7 x4⟩,
    ⟨Rect.unit ![0, 1536] ![512, 512] inb_S512x3072_S512x512_0_1536, k0_pay6 x3⟩,
    ⟨Rect.unit ![0, 1024] ![512, 512] inb_S512x3072_S512x512_0_1024, k0_pay5 x2⟩,
    ⟨Rect.unit ![0, 512] ![512, 512] inb_S512x3072_S512x512_0_512, k0_pay4 x1⟩,
    ⟨Rect.unit ![0, 0] ![512, 512] inb_S512x3072_S512x512_0_0, k0_pay3 x0⟩]

/-- The six blocks, read back. -/
def back9 : FVec Ideal S512x3072 .bf16 :=
  k0_pay9 (View.ld (six x0 x1 x2 x3 x4 x5) (Rect.unit ![0, 0] ![512, 3072] inb_S512x3072_S512x3072_0_0))

theorem back9_eq : back9 x0 x1 x2 x3 x4 x5 = six x0 x1 x2 x3 x4 x5 := by
  unfold back9
  rw [View.ld_unit_zero (S := S512x3072) hz]
  funext j
  obtain ⟨p, a, rfl⟩ : ∃ (p : Fin 512) (a : Fin 3072), j = ix2 p a := ⟨j 0, j 1, eq_ix2 j⟩
  pointwise [k0_pay9]

/-- A row, read back. -/
def row1 (z : Vec Ideal S1x1024 .f32) : Vec Ideal S1x1024 .f32 := View.ld z (Rect.unit ![0, 0] ![1, 1024] inb_S1x1024_S1x1024_0_0)
theorem row1_eq (z : Vec Ideal S1x1024 .f32) : row1 z = z := View.ld_unit_zero (S := S1x1024) hz _ _

section value
variable (D : Fin 512 → Fin 3072 → EReal)
  (H0 : ∀ (p b : Fin 512), x0 (ix2 p b) = D p ⟨b.val, by omega⟩) (H1 : ∀ (p b : Fin 512), x1 (ix2 p b) = D p ⟨512 + b.val, by omega⟩)
  (H2 : ∀ (p b : Fin 512), x2 (ix2 p b) = D p ⟨1024 + b.val, by omega⟩) (H3 : ∀ (p b : Fin 512), x3 (ix2 p b) = D p ⟨1536 + b.val, by omega⟩)
  (H4 : ∀ (p b : Fin 512), x4 (ix2 p b) = D p ⟨2048 + b.val, by omega⟩) (H5 : ∀ (p b : Fin 512), x5 (ix2 p b) = D p ⟨2560 + b.val, by omega⟩)
include H0 H1 H2 H3 H4 H5

theorem six_apply (p : Fin 512) (a : Fin 3072) : six x0 x1 x2 x3 x4 x5 (ix2 p a) = D p a := by
  unfold six
  refine View.canon_eq_of_allAt _ _ _ (View.cover_of_tiled_head _ _ _ (by rfl) (ix2 p a)) ?_
  repeat' refine View.allAt_cons_unit _ _ _ _ _ (fun z hz => ?_) ?_
  rotate_right
  · exact View.allAt_nil _ _
  all_goals
    obtain ⟨r, b, rfl⟩ := (⟨z 0, z 1, eq_ix2 z⟩ : ∃ r b, z = ix2 r b)
    obtain rfl : r = p := Fin.ext ((hz 0).trans (Nat.zero_add _)).symm
    have e : a.val = _ + b.val := hz 1
    simp only [Matrix.cons_val_one, Matrix.cons_val_zero, Matrix.cons_val_fin_one] at e
    pointwise [k0_pay3, k0_pay4, k0_pay5, k0_pay6, k0_pay7, k0_pay8]
    simp only [H0, H1, H2, H3, H4, H5]
    refine congrArg (D r) (Fin.ext ?_)
    show (_ : ℕ) = _
    dsimp only
    omega

/-- The gradient of the normed rows. -/
abbrev head (p : Fin 512) (k : Fin 1024) : EReal := ∑ a, D p a * x6 (ix2 k a)

theorem core11 (p : Fin 512) (q : Fin 1024) : k0_pay1 x9 (k0_pay13 (six x0 x1 x2 x3 x4 x5) x6 x7 x8) (ix2 p q) =
    HAdd.hAdd (α := EReal) (x9 (ix2 p q)) (back (fun k => x7 (ix2 p k)) q (head x6 D p q * x8 (ix3 0 0 q))
      (∑ j, head x6 D p j * x8 (ix3 0 0 j) * x7 (ix2 p j))) := by
  pointwise [k0_pay1, k0_pay13, k0_pay11, k0_pay10]
  simp only [six_apply x0 x1 x2 x3 x4 x5 D H0 H1 H2 H3 H4 H5]
  rfl

theorem core12 (o : Fin 1) (q : Fin 1024) : k0_pay12 (six x0 x1 x2 x3 x4 x5) x6 x7 acc (ix2 o q) =
    HAdd.hAdd (α := EReal) (acc (ix2 o q)) (∑ p : Fin 512, head x6 D p q * x7 (ix2 p q) * scale fun k => x7 (ix2 p k)) := by
  pointwise [k0_pay12, k0_pay11, k0_pay10]
  simp only [six_apply x0 x1 x2 x3 x4 x5 D H0 H1 H2 H3 H4 H5]
  rfl
end value

variable (c : Dev nD) (i : grid0.Coords)
  (a1 : Memref sig .tc .vmem S512x512 .bf16) (h1 : a1.IsWhole) (a2 : Memref sig .tc .vmem S512x512 .bf16) (h2 : a2.IsWhole)
  (a3 : Memref sig .tc .vmem S512x512 .bf16) (h3 : a3.IsWhole) (a4 : Memref sig .tc .vmem S512x512 .bf16) (h4 : a4.IsWhole)
  (a5 : Memref sig .tc .vmem S512x512 .bf16) (h5 : a5.IsWhole) (a6 : Memref sig .tc .vmem S512x512 .bf16) (h6 : a6.IsWhole)
  (a7 : Memref sig .tc .vmem S1024x3072 .bf16) (h7 : a7.IsWhole) (a8 : Memref sig .tc .vmem S512x1024 .f32) (h8 : a8.IsWhole)
  (a9 : Memref sig .tc .vmem S1x1x1024 .f32) (h9 : a9.IsWhole) (a10 : Memref sig .tc .vmem S512x1024 .f32) (h10 : a10.IsWhole)
  (a11 : Memref sig .tc .vmem S512x3072 .bf16) (h11 : a11.IsWhole) (a12 : Memref sig .tc .vmem S512x1024 .f32) (h12 : a12.IsWhole)
  (a13 : Memref sig .tc .vmem S1x1024 .f32) (h13 : a13.IsWhole)

theorem outA10 (hc0 : cond0_0 i) :
    out0_A_10 c i a1 h1 a2 h2 a3 h3 a4 h4 a5 h5 a6 h6 a7 h7 a8 h8
      a9 h9 a10 h10 a11 h11 a12 h12 a13 h13 hc0 x0 x1 x2 x3 x4 x5 x6 x7 x8 x9 =
      six x0 x1 x2 x3 x4 x5 := by
  unfold out0_A_10
  rw [View.read_writes_eq_canon _ _ _ (cover0_A_10 c i a1 h1 a2 h2 a3 h3 a4 h4 a5 h5 a6 h6 a7 h7 a8 h8
      a9 h9 a10 h10 a11 h11 a12 h12 a13 h13 hc0 x0 x1 x2 x3 x4 x5 x6 x7 x8 x9)]
  unfold kernelRun0_A
  dsimp only
  sl_unfold_words
  simp only [View.readCov_eq_canon', View.canon_unit_zero (S := S1x1024) hz]
  simp only [View.readAt_eq_ld, h1.read_unread, h2.read_unread, h3.read_unread, h4.read_unread, h5.read_unread, h6.read_unread,
    h7.read_unread, h8.read_unread, h9.read_unread, h10.read_unread, h13.read_unread,
    View.ld_unit_zero (S := S512x1024) hz, View.ld_unit_zero (S := S1x1x1024) hz3,
    View.ld_unit_zero (S := S512x512) hz, View.ld_unit_zero (S := S1024x3072) hz, View.ld_unit_zero (S := S1x1024) hz]
  rfl

theorem outA11 (hc0 : cond0_0 i) :
    out0_A_11 c i a1 h1 a2 h2 a3 h3 a4 h4 a5 h5 a6 h6 a7 h7 a8 h8
      a9 h9 a10 h10 a11 h11 a12 h12 a13 h13 hc0 x0 x1 x2 x3 x4 x5 x6 x7 x8 x9 =
      k0_pay1 x9 (k0_pay13 (six x0 x1 x2 x3 x4 x5) x6 x7 x8) := by
  unfold out0_A_11
  rw [View.read_writes_eq_canon _ _ _ (cover0_A_11 c i a1 h1 a2 h2 a3 h3 a4 h4 a5 h5 a6 h6 a7 h7 a8 h8
      a9 h9 a10 h10 a11 h11 a12 h12 a13 h13 hc0 x0 x1 x2 x3 x4 x5 x6 x7 x8 x9)]
  unfold kernelRun0_A
  dsimp only
  sl_unfold_words
  rw [View.canon_unit_zero (S := S512x1024) hz]
  simp only [View.readCov_eq_canon', View.canon_unit_zero (S := S1x1024) hz]
  simp only [View.readAt_eq_ld, h1.read_unread, h2.read_unread, h3.read_unread, h4.read_unread, h5.read_unread, h6.read_unread,
    h7.read_unread, h8.read_unread, h9.read_unread, h10.read_unread, h13.read_unread,
    View.ld_unit_zero (S := S512x1024) hz, View.ld_unit_zero (S := S1x1x1024) hz3,
    View.ld_unit_zero (S := S512x512) hz, View.ld_unit_zero (S := S1024x3072) hz, View.ld_unit_zero (S := S1x1024) hz]
  rw [← back9_eq]
  unfold back9 View.ld six
  with_reducible rfl

theorem outA12 (hc0 : cond0_0 i) :
    out0_A_12 c i a1 h1 a2 h2 a3 h3 a4 h4 a5 h5 a6 h6 a7 h7 a8 h8
      a9 h9 a10 h10 a11 h11 a12 h12 a13 h13 hc0 x0 x1 x2 x3 x4 x5 x6 x7 x8 x9 =
      k0_pay12 (six x0 x1 x2 x3 x4 x5) x6 x7 (k0_pay2 (F := Ideal)) := by
  unfold out0_A_12
  rw [View.read_writes_eq_canon _ _ _ (cover0_A_12 c i a1 h1 a2 h2 a3 h3 a4 h4 a5 h5 a6 h6 a7 h7 a8 h8
      a9 h9 a10 h10 a11 h11 a12 h12 a13 h13 hc0 x0 x1 x2 x3 x4 x5 x6 x7 x8 x9)]
  unfold kernelRun0_A
  dsimp only
  sl_unfold_words
  rw [View.canon_cons_unit_zero (S := S1x1024) hz]
  simp only [View.readCov_eq_canon', View.canon_unit_zero (S := S1x1024) hz]
  simp only [View.readAt_eq_ld, h1.read_unread, h2.read_unread, h3.read_unread, h4.read_unread, h5.read_unread, h6.read_unread,
    h7.read_unread, h8.read_unread, h9.read_unread, h10.read_unread, h13.read_unread,
    View.ld_unit_zero (S := S512x1024) hz, View.ld_unit_zero (S := S1x1x1024) hz3,
    View.ld_unit_zero (S := S512x512) hz, View.ld_unit_zero (S := S1024x3072) hz, View.ld_unit_zero (S := S1x1024) hz]
  rw [← row1_eq (k0_pay2 (F := Ideal)), ← back9_eq]
  conv_lhs => rw [row1_eq]
  conv_rhs => unfold back9 row1 View.ld six

theorem outB10 (hc0 : ¬cond0_0 i) :
    out0_B_10 c i a1 h1 a2 h2 a3 h3 a4 h4 a5 h5 a6 h6 a7 h7 a8 h8
      a9 h9 a10 h10 a11 h11 a12 h12 a13 h13 hc0 x0 x1 x2 x3 x4 x5 x6 x7 x8 x9 acc =
      six x0 x1 x2 x3 x4 x5 := by
  unfold out0_B_10
  rw [View.read_writes_eq_canon _ _ _ (cover0_B_10 c i a1 h1 a2 h2 a3 h3 a4 h4 a5 h5 a6 h6 a7 h7 a8 h8
      a9 h9 a10 h10 a11 h11 a12 h12 a13 h13 hc0 x0 x1 x2 x3 x4 x5 x6 x7 x8 x9 acc)]
  unfold kernelRun0_B
  dsimp only
  sl_unfold_words
  simp only [View.readCov_eq_canon', View.canon_unit_zero (S := S1x1024) hz]
  simp only [View.readAt_eq_ld, h1.read_unread, h2.read_unread, h3.read_unread, h4.read_unread, h5.read_unread, h6.read_unread,
    h7.read_unread, h8.read_unread, h9.read_unread, h10.read_unread, h13.read_unread,
    View.ld_unit_zero (S := S512x1024) hz, View.ld_unit_zero (S := S1x1x1024) hz3,
    View.ld_unit_zero (S := S512x512) hz, View.ld_unit_zero (S := S1024x3072) hz, View.ld_unit_zero (S := S1x1024) hz]
  rfl

theorem outB11 (hc0 : ¬cond0_0 i) :
    out0_B_11 c i a1 h1 a2 h2 a3 h3 a4 h4 a5 h5 a6 h6 a7 h7 a8 h8
      a9 h9 a10 h10 a11 h11 a12 h12 a13 h13 hc0 x0 x1 x2 x3 x4 x5 x6 x7 x8 x9 acc =
      k0_pay1 x9 (k0_pay13 (six x0 x1 x2 x3 x4 x5) x6 x7 x8) := by
  unfold out0_B_11
  rw [View.read_writes_eq_canon _ _ _ (cover0_B_11 c i a1 h1 a2 h2 a3 h3 a4 h4 a5 h5 a6 h6 a7 h7 a8 h8
      a9 h9 a10 h10 a11 h11 a12 h12 a13 h13 hc0 x0 x1 x2 x3 x4 x5 x6 x7 x8 x9 acc)]
  unfold kernelRun0_B
  dsimp only
  sl_unfold_words
  rw [View.canon_unit_zero (S := S512x1024) hz]
  simp only [View.readCov_eq_canon', View.canon_unit_zero (S := S1x1024) hz]
  simp only [View.readAt_eq_ld, h1.read_unread, h2.read_unread, h3.read_unread, h4.read_unread, h5.read_unread, h6.read_unread,
    h7.read_unread, h8.read_unread, h9.read_unread, h10.read_unread, h13.read_unread,
    View.ld_unit_zero (S := S512x1024) hz, View.ld_unit_zero (S := S1x1x1024) hz3,
    View.ld_unit_zero (S := S512x512) hz, View.ld_unit_zero (S := S1024x3072) hz, View.ld_unit_zero (S := S1x1024) hz]
  rw [← back9_eq]
  unfold back9 View.ld six
  with_reducible rfl

theorem outB12 (hc0 : ¬cond0_0 i) :
    out0_B_12 c i a1 h1 a2 h2 a3 h3 a4 h4 a5 h5 a6 h6 a7 h7 a8 h8
      a9 h9 a10 h10 a11 h11 a12 h12 a13 h13 hc0 x0 x1 x2 x3 x4 x5 x6 x7 x8 x9 acc =
      k0_pay12 (six x0 x1 x2 x3 x4 x5) x6 x7 acc := by
  unfold out0_B_12
  rw [View.read_writes_eq_canon _ _ _ (cover0_B_12 c i a1 h1 a2 h2 a3 h3 a4 h4 a5 h5 a6 h6 a7 h7 a8 h8
      a9 h9 a10 h10 a11 h11 a12 h12 a13 h13 hc0 x0 x1 x2 x3 x4 x5 x6 x7 x8 x9 acc)]
  unfold kernelRun0_B
  dsimp only
  sl_unfold_words
  rw [View.canon_unit_zero (S := S1x1024) hz]
  simp only [View.readCov_eq_canon', View.canon_unit_zero (S := S1x1024) hz]
  simp only [View.readAt_eq_ld, h1.read_unread, h2.read_unread, h3.read_unread, h4.read_unread, h5.read_unread, h6.read_unread,
    h7.read_unread, h8.read_unread, h9.read_unread, h10.read_unread, h13.read_unread,
    View.ld_unit_zero (S := S512x1024) hz, View.ld_unit_zero (S := S1x1x1024) hz3,
    View.ld_unit_zero (S := S512x512) hz, View.ld_unit_zero (S := S1024x3072) hz, View.ld_unit_zero (S := S1x1024) hz]
  rw [← back9_eq]
  unfold back9 View.ld six
  with_reducible rfl

end body

section spec
variable (A0 A1 A6 A7 : FVec Ideal S8192x256 .f32) (A2 A3 A4 A5 : FVec Ideal S8192x512 .f32) (A8 : FVec Ideal S1024x3072 .f32)
  (A9 A11 : FVec Ideal S8192x1024 .f32) (A10 : FVec Ideal S2x1024 .f32)

/-- The eight gradients, one beside the other. -/
def cols (r : Fin 8192) (a : Fin 3072) : EReal :=
  if h : a.val < 256 then A0 (ix2 r ⟨a.val, h⟩)
  else if h : a.val - 256 < 256 then A1 (ix2 r ⟨a.val - 256, h⟩)
  else if h : a.val - 256 - 256 < 512 then A2 (ix2 r ⟨a.val - 256 - 256, h⟩)
  else if h : a.val - 256 - 256 - 512 < 512 then A3 (ix2 r ⟨a.val - 256 - 256 - 512, h⟩)
  else if h : a.val - 256 - 256 - 512 - 512 < 512 then A4 (ix2 r ⟨a.val - 256 - 256 - 512 - 512, h⟩)
  else if h : a.val - 256 - 256 - 512 - 512 - 512 < 512 then A5 (ix2 r ⟨a.val - 256 - 256 - 512 - 512 - 512, h⟩)
  else if h : a.val - 256 - 256 - 512 - 512 - 512 - 512 < 256 then A6 (ix2 r ⟨a.val - 256 - 256 - 512 - 512 - 512 - 512, h⟩)
  else A7 (ix2 r ⟨a.val - 256 - 256 - 512 - 512 - 512 - 512 - 256, by omega⟩)

/-- A block of columns of the eight side by side. -/
theorem cols0 (r : Fin 8192) (b : Fin 512) : cols A0 A1 A6 A7 A2 A3 A4 A5 r ⟨b.val, by omega⟩ =
    if h : b.val < 256 then A0 (ix2 r ⟨b.val, h⟩) else A1 (ix2 r ⟨b.val - 256, by omega⟩) := by
  unfold cols
  dsimp only
  split_ifs <;> first | omega | rfl
theorem cols1 (r : Fin 8192) (b : Fin 512) : cols A0 A1 A6 A7 A2 A3 A4 A5 r ⟨512 + b.val, by omega⟩ = A2 (ix2 r b) := by
  unfold cols
  dsimp only
  split_ifs <;> first | omega | exact congrArg A2 (congrArg (ix2 r) (Fin.ext (by dsimp only; try omega)))
theorem cols2 (r : Fin 8192) (b : Fin 512) : cols A0 A1 A6 A7 A2 A3 A4 A5 r ⟨1024 + b.val, by omega⟩ = A3 (ix2 r b) := by
  unfold cols
  dsimp only
  split_ifs <;> first | omega | exact congrArg A3 (congrArg (ix2 r) (Fin.ext (by dsimp only; try omega)))
theorem cols3 (r : Fin 8192) (b : Fin 512) : cols A0 A1 A6 A7 A2 A3 A4 A5 r ⟨1536 + b.val, by omega⟩ = A4 (ix2 r b) := by
  unfold cols
  dsimp only
  split_ifs <;> first | omega | exact congrArg A4 (congrArg (ix2 r) (Fin.ext (by dsimp only; try omega)))
theorem cols4 (r : Fin 8192) (b : Fin 512) : cols A0 A1 A6 A7 A2 A3 A4 A5 r ⟨2048 + b.val, by omega⟩ = A5 (ix2 r b) := by
  unfold cols
  dsimp only
  split_ifs <;> first | omega | exact congrArg A5 (congrArg (ix2 r) (Fin.ext (by dsimp only; try omega)))
theorem cols5 (r : Fin 8192) (b : Fin 512) : cols A0 A1 A6 A7 A2 A3 A4 A5 r ⟨2560 + b.val, by omega⟩ =
    if h : b.val < 256 then A6 (ix2 r ⟨b.val, h⟩) else A7 (ix2 r ⟨b.val - 256, by omega⟩) := by
  unfold cols
  dsimp only
  split_ifs <;> first
    | omega
    | exact congrArg A6 (congrArg (ix2 r) (Fin.ext (by dsimp only; try omega)))
    | exact congrArg A7 (congrArg (ix2 r) (Fin.ext (by dsimp only; try omega)))

/-- The gradient of the normed rows. -/
def heads (r : Fin 8192) (k : Fin 1024) : EReal := ∑ a, cols A0 A1 A6 A7 A2 A3 A4 A5 r a * A8 (ix2 k a)

/-- The gradient of the rows. -/
def dx (r : Fin 8192) (k : Fin 1024) : EReal := A11 (ix2 r k) +
  back (fun k => A9 (ix2 r k)) k (heads A0 A1 A6 A7 A2 A3 A4 A5 A8 r k * A10 (ix2 1 k))
    (∑ j, heads A0 A1 A6 A7 A2 A3 A4 A5 A8 r j * A10 (ix2 1 j) * A9 (ix2 r j))

/-- One row's part of the gradient of the gains. -/
def dn (k : Fin 1024) (r : Fin 8192) : EReal :=
  heads A0 A1 A6 A7 A2 A3 A4 A5 A8 r k * A9 (ix2 r k) * scale fun k => A9 (ix2 r k)
end spec

variable (m : (ℓ : Loc nD τ sig) → Buf (Elt Ideal) ℓ) (c : Dev nD)

/-- The three results, of the arguments. -/
def dproj : Fin 8192 → Fin 3072 → EReal :=
  cols (m ((c : Thread nD τ).loc main_arg0)) (m ((c : Thread nD τ).loc main_arg1)) (m ((c : Thread nD τ).loc main_arg6))
    (m ((c : Thread nD τ).loc main_arg7)) (m ((c : Thread nD τ).loc main_arg2)) (m ((c : Thread nD τ).loc main_arg3))
    (m ((c : Thread nD τ).loc main_arg4)) (m ((c : Thread nD τ).loc main_arg5))
def dxm : Fin 8192 → Fin 1024 → EReal :=
  dx (m ((c : Thread nD τ).loc main_arg0)) (m ((c : Thread nD τ).loc main_arg1)) (m ((c : Thread nD τ).loc main_arg6))
    (m ((c : Thread nD τ).loc main_arg7)) (m ((c : Thread nD τ).loc main_arg2)) (m ((c : Thread nD τ).loc main_arg3))
    (m ((c : Thread nD τ).loc main_arg4)) (m ((c : Thread nD τ).loc main_arg5)) (m ((c : Thread nD τ).loc main_arg8))
    (m ((c : Thread nD τ).loc main_arg9)) (m ((c : Thread nD τ).loc main_arg11)) (m ((c : Thread nD τ).loc main_arg10))
def dnm : Fin 1024 → Fin 8192 → EReal :=
  dn (m ((c : Thread nD τ).loc main_arg0)) (m ((c : Thread nD τ).loc main_arg1)) (m ((c : Thread nD τ).loc main_arg6))
    (m ((c : Thread nD τ).loc main_arg7)) (m ((c : Thread nD τ).loc main_arg2)) (m ((c : Thread nD τ).loc main_arg3))
    (m ((c : Thread nD τ).loc main_arg4)) (m ((c : Thread nD τ).loc main_arg5)) (m ((c : Thread nD τ).loc main_arg8))
    (m ((c : Thread nD τ).loc main_arg9))

theorem N16 (t : Fin cfg0.N) : t.val < 16 := by have := t.isLt; have : cfg0.N = 16 := N_0; omega

theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![t.val, 0] ∧
    win0_8.index t = ![1, 0, 0] ∧ win0_9.index t = ![t.val, 0] ∧ win0_10.index t = ![t.val, 0] ∧ win0_11.index t = ![t.val, 0]
    ∧ win0_12.index t = ![0, 0] :=
  (by decide +kernel : ∀ t : Fin grid0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![t.val, 0] ∧
    win0_8.index t = ![1, 0, 0] ∧ win0_9.index t = ![t.val, 0] ∧ win0_10.index t = ![t.val, 0] ∧ win0_11.index t = ![t.val, 0]
    ∧ win0_12.index t = ![0, 0])

/-- Row `p` of block `t`. -/
abbrev at' (t : Fin cfg0.N) (p : Fin 512) : Fin 8192 := ⟨512 * t.val + p.val, by have := N16 t; omega⟩

theorem blk0 (t : Fin cfg0.N) (p b : Fin 512) : iblk m c 0 t (ix2 p b) = dproj m c (at' t p) ⟨b.val, by omega⟩ := by
  have i := (idx t).1
  have e : V m c main_v1 (ix2 (at' t p) b) = if h : b.val < 256 then m ((c : Thread nD τ).loc main_arg0) (ix2 (at' t p) ⟨b.val, h⟩)
      else m ((c : Thread nD τ).loc main_arg1) (ix2 (at' t p) ⟨b.val - 256, by omega⟩) := by
    unfold V
    after_reads_at
    split_ifs <;> after_reads_at
  unfold dproj
  rw [cols0, ← e]
  unfold iblk
  show V m c main_v1 _ = V m c main_v1 _
  congr 1
  blk_ext [i]

theorem blk1 (t : Fin cfg0.N) (p b : Fin 512) : iblk m c 1 t (ix2 p b) = dproj m c (at' t p) ⟨512 + b.val, by omega⟩ := by
  have i := (idx t).2.1
  have e : V m c main_v4 (ix2 (at' t p) b) = m ((c : Thread nD τ).loc main_arg2) (ix2 (at' t p) b) := by
    unfold V
    after_reads_at
  unfold dproj
  rw [cols1, ← e]
  unfold iblk
  show V m c main_v4 _ = V m c main_v4 _
  congr 1
  blk_ext [i]

theorem blk2 (t : Fin cfg0.N) (p b : Fin 512) : iblk m c 2 t (ix2 p b) = dproj m c (at' t p) ⟨1024 + b.val, by omega⟩ := by
  have i := (idx t).2.2.1
  have e : V m c main_v5 (ix2 (at' t p) b) = m ((c : Thread nD τ).loc main_arg3) (ix2 (at' t p) b) := by
    unfold V
    after_reads_at
  unfold dproj
  rw [cols2, ← e]
  unfold iblk
  show V m c main_v5 _ = V m c main_v5 _
  congr 1
  blk_ext [i]

theorem blk3 (t : Fin cfg0.N) (p b : Fin 512) : iblk m c 3 t (ix2 p b) = dproj m c (at' t p) ⟨1536 + b.val, by omega⟩ := by
  have i := (idx t).2.2.2.1
  have e : V m c main_v6 (ix2 (at' t p) b) = m ((c : Thread nD τ).loc main_arg4) (ix2 (at' t p) b) := by
    unfold V
    after_reads_at
  unfold dproj
  rw [cols3, ← e]
  unfold iblk
  show V m c main_v6 _ = V m c main_v6 _
  congr 1
  blk_ext [i]

theorem blk4 (t : Fin cfg0.N) (p b : Fin 512) : iblk m c 4 t (ix2 p b) = dproj m c (at' t p) ⟨2048 + b.val, by omega⟩ := by
  have i := (idx t).2.2.2.2.1
  have e : V m c main_v7 (ix2 (at' t p) b) = m ((c : Thread nD τ).loc main_arg5) (ix2 (at' t p) b) := by
    unfold V
    after_reads_at
  unfold dproj
  rw [cols4, ← e]
  unfold iblk
  show V m c main_v7 _ = V m c main_v7 _
  congr 1
  blk_ext [i]

theorem blk5 (t : Fin cfg0.N) (p b : Fin 512) : iblk m c 5 t (ix2 p b) = dproj m c (at' t p) ⟨2560 + b.val, by omega⟩ := by
  have i := (idx t).2.2.2.2.2.1
  have e : V m c main_v3 (ix2 (at' t p) b) = if h : b.val < 256 then m ((c : Thread nD τ).loc main_arg6) (ix2 (at' t p) ⟨b.val, h⟩)
      else m ((c : Thread nD τ).loc main_arg7) (ix2 (at' t p) ⟨b.val - 256, by omega⟩) := by
    unfold V
    after_reads_at
    split_ifs <;> after_reads_at
  unfold dproj
  rw [cols5, ← e]
  unfold iblk
  show V m c main_v3 _ = V m c main_v3 _
  congr 1
  blk_ext [i]

theorem blk6 (t : Fin cfg0.N) (k : Fin 1024) (a : Fin 3072) : iblk m c 6 t (ix2 k a) = m ((c : Thread nD τ).loc main_arg8) (ix2 k a) := by
  have i := (idx t).2.2.2.2.2.2.1
  have e : V m c main_v8 (ix2 k a) = m ((c : Thread nD τ).loc main_arg8) (ix2 k a) := by
    unfold V
    after_reads_at
  rw [← e]
  unfold iblk
  show V m c main_v8 _ = V m c main_v8 _
  congr 1
  blk_ext [i]

theorem blk7 (t : Fin cfg0.N) (p : Fin 512) (k : Fin 1024) : iblk m c 7 t (ix2 p k) = m ((c : Thread nD τ).loc main_arg9) (ix2 (at' t p) k) := by
  have i := (idx t).2.2.2.2.2.2.2.1
  rw [← V_main_arg9 m c]
  unfold iblk
  show V m c main_arg9 _ = V m c main_arg9 _
  congr 1
  blk_ext [i]

theorem blk8 (t : Fin cfg0.N) (k : Fin 1024) : iblk m c 8 t (ix3 0 0 k) = m ((c : Thread nD τ).loc main_arg10) (ix2 1 k) := by
  have i := (idx t).2.2.2.2.2.2.2.2.1
  have e : V m c main_v9 (ix3 1 0 k) = m ((c : Thread nD τ).loc main_arg10) (ix2 1 k) := by
    unfold V
    after_reads_at
  rw [← e]
  unfold iblk
  show V m c main_v9 _ = V m c main_v9 _
  congr 1
  blk_ext [i]

theorem blk9 (t : Fin cfg0.N) (p : Fin 512) (k : Fin 1024) : iblk m c 9 t (ix2 p k) = m ((c : Thread nD τ).loc main_arg11) (ix2 (at' t p) k) := by
  have i := (idx t).2.2.2.2.2.2.2.2.2.1
  rw [← V_main_arg11 m c]
  unfold iblk
  show V m c main_arg11 _ = V m c main_arg11 _
  congr 1
  blk_ext [i]

/-- The point's block of the product's gradient. -/
abbrev Dt (t : Fin cfg0.N) (p : Fin 512) (a : Fin 3072) : EReal := dproj m c (at' t p) a

theorem outs10 (t : Fin cfg0.N) (p : Fin 512) (a : Fin 3072) : (outsAt0 m c t.val t.isLt).1 (ix2 p a) = dproj m c (at' t p) a := by
  by_cases h0 : t.val % 16 = 0
  · rw [outsAt0_A m c t h0]
    dsimp only
    rw [outA10, six_apply _ _ _ _ _ _ (Dt m c t) (blk0 m c t) (blk1 m c t) (blk2 m c t) (blk3 m c t) (blk4 m c t) (blk5 m c t)]
  · rw [outsAt0_B m c t h0]
    dsimp only
    rw [outB10, six_apply _ _ _ _ _ _ (Dt m c t) (blk0 m c t) (blk1 m c t) (blk2 m c t) (blk3 m c t) (blk4 m c t) (blk5 m c t)]

theorem point11 (t : Fin cfg0.N) (p : Fin 512) (q : Fin 1024) :
    k0_pay1 (iblk m c 9 t) (k0_pay13 (six (iblk m c 0 t) (iblk m c 1 t) (iblk m c 2 t) (iblk m c 3 t) (iblk m c 4 t) (iblk m c 5 t))
      (iblk m c 6 t) (iblk m c 7 t) (iblk m c 8 t)) (ix2 p q) = dxm m c (at' t p) q := by
  rw [core11 _ _ _ _ _ _ _ _ _ _ (Dt m c t) (blk0 m c t) (blk1 m c t) (blk2 m c t) (blk3 m c t) (blk4 m c t) (blk5 m c t)]
  unfold head
  simp only [blk6, blk7, blk8, blk9]
  rfl

theorem point12 (t : Fin cfg0.N) (acc : Vec Ideal S1x1024 .f32) (o : Fin 1) (q : Fin 1024) :
    k0_pay12 (six (iblk m c 0 t) (iblk m c 1 t) (iblk m c 2 t) (iblk m c 3 t) (iblk m c 4 t) (iblk m c 5 t))
      (iblk m c 6 t) (iblk m c 7 t) acc (ix2 o q) = HAdd.hAdd (α := EReal) (acc (ix2 o q)) (∑ p, dnm m c q (at' t p)) := by
  rw [core12 _ _ _ _ _ _ _ _ _ (Dt m c t) (blk0 m c t) (blk1 m c t) (blk2 m c t) (blk3 m c t) (blk4 m c t) (blk5 m c t)]
  unfold head
  simp only [blk6, blk7]
  rfl

theorem outs11 (t : Fin cfg0.N) (p : Fin 512) (q : Fin 1024) : (outsAt0 m c t.val t.isLt).2.1 (ix2 p q) = dxm m c (at' t p) q := by
  by_cases h0 : t.val % 16 = 0
  · rw [outsAt0_A m c t h0]
    dsimp only
    rw [outA11, point11]
  · rw [outsAt0_B m c t h0]
    dsimp only
    rw [outB11, point11]

/-- After a point, the gains' gradient holds the rows so far. -/
theorem outs12 (n : ℕ) (hn : n < cfg0.N) (o : Fin 1) (q : Fin 1024) :
    (outsAt0 m c n hn).2.2 (ix2 o q) = upto (dnm m c q) (512 * n + 512) := by
  induction n with
  | zero =>
    have h0 : (⟨0, hn⟩ : Fin cfg0.N).val % 16 = 0 := rfl
    rw [show outsAt0 m c 0 hn = outsAt0 m c (⟨0, hn⟩ : Fin cfg0.N).val (⟨0, hn⟩ : Fin cfg0.N).isLt from rfl, outsAt0_A m c _ h0]
    dsimp only
    rw [outA12, point12, upto_add _ (512 * 0) 512 (by omega), upto_zero]
    refine congrArg₂ (· + ·) ?_ rfl
    pointwise [k0_pay2]
  | succ n ih =>
    have hN : n + 1 < 16 := N16 ⟨n + 1, hn⟩
    have h0 : ¬(⟨n + 1, hn⟩ : Fin cfg0.N).val % 16 = 0 := by dsimp only; omega
    rw [show outsAt0 m c (n + 1) hn = outsAt0 m c (⟨n + 1, hn⟩ : Fin cfg0.N).val (⟨n + 1, hn⟩ : Fin cfg0.N).isLt from rfl,
      outsAt0_B m c _ h0]
    dsimp only
    rw [outB12, point12, upto_add _ (512 * (n + 1)) 512 (by omega)]
    exact congrArg₂ (· + ·) (ih (Nat.lt_of_succ_lt hn)) rfl

theorem final10 : (dats m 0 c).arrAt 10 cfg0.N = fun i => dproj m c (i 0) (i 1) := by
  refine (dats m 0 c).arrAt_eq_of_covers 10 _ (by decide +kernel) fun t hf y => ?_
  obtain ⟨p, q, rfl⟩ : ∃ (p : Fin 512) (q : Fin 3072), y = ix2 p q := ⟨y 0, y 1, eq_ix2 y⟩
  have i := (idx t).2.2.2.2.2.2.2.2.2.2.1
  have e : ((cfg0.win 10).blk t).view.emb (ix2 p q) = ix2 (at' t p) q := by
    blk_ext [i]
  rw [e]
  blk_simp
  rw [after0_10]
  exact outs10 m c t p q

theorem final11 : (dats m 0 c).arrAt 11 cfg0.N = fun i => dxm m c (i 0) (i 1) := by
  refine (dats m 0 c).arrAt_eq_of_covers 11 _ (by decide +kernel) fun t hf y => ?_
  obtain ⟨p, q, rfl⟩ : ∃ (p : Fin 512) (q : Fin 1024), y = ix2 p q := ⟨y 0, y 1, eq_ix2 y⟩
  have i := (idx t).2.2.2.2.2.2.2.2.2.2.2.1
  have e : ((cfg0.win 11).blk t).view.emb (ix2 p q) = ix2 (at' t p) q := by
    blk_ext [i]
  rw [e]
  blk_simp
  rw [after0_11]
  exact outs11 m c t p q

theorem final12 : (dats m 0 c).arrAt 12 cfg0.N = fun i => ∑ r, dnm m c (i 1) r := by
  refine (dats m 0 c).arrAt_eq_of_covers 12 _ (by decide +kernel) fun t hf y => ?_
  obtain ⟨p, q, rfl⟩ : ∃ (p : Fin 1) (q : Fin 1024), y = ix2 p q := ⟨y 0, y 1, eq_ix2 y⟩
  have i := (idx t).2.2.2.2.2.2.2.2.2.2.2.2
  have e : ((cfg0.win 12).blk t).view.emb (ix2 p q) = ix2 (p : Fin 1) q := by
    blk_ext [i]
  rw [e]
  blk_simp
  rw [after0_12]
  have ht : t.val = 15 := (by decide +kernel : ∀ t : Fin cfg0.N, (cfg0.win 12).flush t = true → t.val = 15) t hf
  exact (outs12 m c t.val t.isLt p q).trans (by rw [ht]; exact upto_all _)

end Cert.KernelInprojBwdIdeal.Leaf

namespace Cert.ReferenceInprojBwdIdeal.Leaf
open Cert.Rows Cert.ReferenceInprojBwdIdeal Cert.ReferenceInprojBwdIdeal.Gen Cert.ReferenceInprojBwdIdeal.Value Idealize.ShloMosaic Idealize.ShloMosaic.TcCoe
  Idealize.SL.Sem
variable (m : (ℓ : Loc nD τ sig) → Buf (Elt Ideal) ℓ) (c : Dev nD)

section arrays
variable (D : FVec Ideal S8192x3072 .f32) (W : FVec Ideal S1024x3072 .f32) (x y : FVec Ideal S8192x1024 .f32)
  (g : FVec Ideal S2x1024 .f32) (u : FVec Ideal S8192x1 .f32)

/-- The mean squares, the gradient past the gains, and half the rows' part, as arrays. -/
def squares' : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def heads' : FVec Ideal S8192x1024 .f32 :=
  Host.dotGeneral dot_S8192x3072_S1024x3072_S8192x1024_1_1_0_0_n_n none D W
def gained' : FVec Ideal S8192x1024 .f32 :=
  mulf y (broadcastInDim S8192x1024 ![0, 1] bcast_S1x1024_S8192x1024_0_1 (broadcastInDim S1x1024 ![1] bcast_S1024_S1x1024_1 (shapeCast _ (extractStridedSlice S1x1024 ![1, 0] g slices_S2x1024_S1x1024_1_0) shapeCasts_S1x1024_S1024)))
def slopes' : FVec Ideal S8192x1024 .f32 :=
  broadcastInDim S8192x1024 ![0] bcast_S8192_S8192x1024_0 (Host.reduceAdd (Host.divf (mulf (shapeCast _ (Host.reduceAdd (mulf x y) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt u) u))) (broadcastInDim S8192x1 ![] bcast_S_S8192x1 (constant S_ .f32 0x44800000#32))) (constant S_ .f32 0x00000000#32) reducesTo_S8192x1_S8192_d1 h_S_)

def gains' (h : FVec Ideal S8192x1024 .f32) : FVec Ideal S1x1024 .f32 :=
  shapeCast _ (Host.reduceAdd (shapeCast _ (Host.reduceAdd (mulf (mulf x (broadcastInDim S8192x1024 ![0, 1]
    bcast_S8192x1_S8192x1024_0_1 (Host.rsqrt (squares' x)))) h) (constant S_ .f32 0x00000000#32) reducesTo_S8192x1024_S1024_d0 h_S_)
    shapeCasts_S1024_S1x1024) (constant S_ .f32 0x00000000#32) reducesTo_S1x1024_S1024_d0 h_S_) shapeCasts_S1024_S1x1024

theorem squares_apply (r : Fin 8192) : squares' x (ix2 r 0) = square fun k => x (ix2 r k) := by
  pointwise [squares']
  rfl
theorem heads_apply (r : Fin 8192) (k : Fin 1024) : heads' D W (ix2 r k) = ∑ a : Fin 3072, D (ix2 r a) * W (ix2 k a) := by
  pointwise [heads']
theorem gained_apply (r : Fin 8192) (k : Fin 1024) : gained' y g (ix2 r k) = y (ix2 r k) * g (ix2 1 k) := by
  pointwise [gained']
theorem slopes_apply (r : Fin 8192) (k : Fin 1024) : slopes' x y (squares' x) (ix2 r k) =
    slope (fun k => x (ix2 r k)) (∑ k, x (ix2 r k) * y (ix2 r k)) := by
  pointwise [slopes']
  rw [Fin.sum_univ_one, squares_apply]
  rfl
theorem gains_apply (h : FVec Ideal S8192x1024 .f32) (o : Fin 1) (k : Fin 1024) : gains' x h (ix2 o k) =
    ∑ r : Fin 8192, HMul.hMul (α := EReal) (HMul.hMul (α := EReal) (h (ix2 r k)) (x (ix2 r k))) (scale fun k => x (ix2 r k)) := by
  pointwise [gains']
  rw [Fin.sum_univ_one]
  simp only [squares_apply, ← scale_eq]
  exact Finset.sum_congr rfl fun r _ => by rw [mul_comm, mul_assoc]
end arrays

/-- The gradient of the product: the eight gradients side by side. -/
def cat : FVec Ideal S8192x3072 .f32 := concatenate S8192x3072 1
  [⟨S8192x256, m ((c.tc : Thread nD τ).loc main_arg0)⟩, ⟨S8192x256, m ((c.tc : Thread nD τ).loc main_arg1)⟩,
   ⟨S8192x512, m ((c.tc : Thread nD τ).loc main_arg2)⟩, ⟨S8192x512, m ((c.tc : Thread nD τ).loc main_arg3)⟩,
   ⟨S8192x512, m ((c.tc : Thread nD τ).loc main_arg4)⟩, ⟨S8192x512, m ((c.tc : Thread nD τ).loc main_arg5)⟩,
   ⟨S8192x256, m ((c.tc : Thread nD τ).loc main_arg6)⟩, ⟨S8192x256, m ((c.tc : Thread nD τ).loc main_arg7)⟩]
  concatenates_S8192x256_S8192x256_S8192x512_S8192x512_S8192x512_S8192x512_S8192x256_S8192x256_S8192x3072_d1

abbrev X : FVec Ideal S8192x1024 .f32 := m ((c.tc : Thread nD τ).loc main_arg9)
abbrev G : FVec Ideal S2x1024 .f32 := m ((c.tc : Thread nD τ).loc main_arg10)
def dh : FVec Ideal S8192x1024 .f32 := heads' (cat m c) (m ((c.tc : Thread nD τ).loc main_arg8))
def dy : FVec Ideal S8192x1024 .f32 := gained' (dh m c) (G m c)

theorem dx_eq : res_main_v50 m c = addf (addf (addf (m ((c.tc : Thread nD τ).loc main_arg11))
    (mulf (dy m c) (broadcastInDim S8192x1024 ![0, 1] bcast_S8192x1_S8192x1024_0_1 (Host.rsqrt (squares' (X m c))))))
    (mulf (X m c) (slopes' (X m c) (dy m c) (squares' (X m c))))) (mulf (slopes' (X m c) (dy m c) (squares' (X m c))) (X m c)) := rfl

theorem dx_apply (r : Fin 8192) (k : Fin 1024) : res_main_v50 m c (ix2 r k) =
    HAdd.hAdd (α := EReal) (m ((c.tc : Thread nD τ).loc main_arg11) (ix2 r k)) (back (fun k => X m c (ix2 r k)) k
      (HMul.hMul (α := EReal) (dh m c (ix2 r k)) (G m c (ix2 1 k))) (∑ j, HMul.hMul (α := EReal) (HMul.hMul (α := EReal) (dh m c (ix2 r j)) (G m c (ix2 1 j))) (X m c (ix2 r j)))) := by
  rw [dx_eq, back_eq]
  pointwise []
  simp only [slopes_apply, squares_apply, ← scale_eq]
  unfold dy
  simp only [gained_apply, mul_comm (X m c _)]

theorem cat_apply (r : Fin 8192) (a : Fin 3072) : cat m c (ix2 r a) =
    Cert.KernelInprojBwdIdeal.Leaf.cols (m ((c.tc : Thread nD τ).loc main_arg0)) (m ((c.tc : Thread nD τ).loc main_arg1)) (m
      ((c.tc : Thread nD τ).loc main_arg6)) (m ((c.tc : Thread nD τ).loc main_arg7)) (m ((c.tc : Thread nD τ).loc main_arg2))
      (m ((c.tc : Thread nD τ).loc main_arg3)) (m ((c.tc : Thread nD τ).loc main_arg4)) (m ((c.tc : Thread nD τ).loc
      main_arg5)) r a := by
  pointwise [cat]
  rfl
theorem dh_apply (r : Fin 8192) (k : Fin 1024) : dh m c (ix2 r k) =
    Cert.KernelInprojBwdIdeal.Leaf.heads (m ((c.tc : Thread nD τ).loc main_arg0)) (m ((c.tc : Thread nD τ).loc main_arg1)) (m
      ((c.tc : Thread nD τ).loc main_arg6)) (m ((c.tc : Thread nD τ).loc main_arg7)) (m ((c.tc : Thread nD τ).loc main_arg2))
      (m ((c.tc : Thread nD τ).loc main_arg3)) (m ((c.tc : Thread nD τ).loc main_arg4)) (m ((c.tc : Thread nD τ).loc
      main_arg5)) (m ((c.tc : Thread nD τ).loc main_arg8)) r k := by
  unfold dh
  rw [heads_apply]
  simp only [cat_apply]
  rfl
theorem dx_fun : res_main_v50 m c = fun i =>
    Cert.KernelInprojBwdIdeal.Leaf.dx (m ((c.tc : Thread nD τ).loc main_arg0)) (m ((c.tc : Thread nD τ).loc main_arg1)) (m
      ((c.tc : Thread nD τ).loc main_arg6)) (m ((c.tc : Thread nD τ).loc main_arg7)) (m ((c.tc : Thread nD τ).loc main_arg2))
      (m ((c.tc : Thread nD τ).loc main_arg3)) (m ((c.tc : Thread nD τ).loc main_arg4)) (m ((c.tc : Thread nD τ).loc
      main_arg5)) (m ((c.tc : Thread nD τ).loc main_arg8)) (m ((c.tc : Thread nD τ).loc main_arg9)) (m ((c.tc : Thread nD
      τ).loc main_arg11)) (m ((c.tc : Thread nD τ).loc main_arg10)) (i 0) (i 1) := by
  funext i
  obtain ⟨r, k, rfl⟩ : ∃ (r : Fin 8192) (k : Fin 1024), i = ix2 r k := ⟨i 0, i 1, eq_ix2 i⟩
  rw [dx_apply]
  simp only [dh_apply]
  rfl
theorem dn_fun : gains' (X m c) (dh m c) = fun i => ∑ r : Fin 8192,
    Cert.KernelInprojBwdIdeal.Leaf.dn (m ((c.tc : Thread nD τ).loc main_arg0)) (m ((c.tc : Thread nD τ).loc main_arg1)) (m
      ((c.tc : Thread nD τ).loc main_arg6)) (m ((c.tc : Thread nD τ).loc main_arg7)) (m ((c.tc : Thread nD τ).loc main_arg2))
      (m ((c.tc : Thread nD τ).loc main_arg3)) (m ((c.tc : Thread nD τ).loc main_arg4)) (m ((c.tc : Thread nD τ).loc
      main_arg5)) (m ((c.tc : Thread nD τ).loc main_arg8)) (m ((c.tc : Thread nD τ).loc main_arg9)) (i 1) r := by
  funext i
  obtain ⟨o, k, rfl⟩ : ∃ (o : Fin 1) (k : Fin 1024), i = ix2 o k := ⟨i 0, i 1, eq_ix2 i⟩
  rw [gains_apply]
  simp only [dh_apply]
  rfl
theorem cat_fun : truncf .bf16 (cat m c) bitsLt_bf16_f32 = fun i =>
    Cert.KernelInprojBwdIdeal.Leaf.cols (m ((c.tc : Thread nD τ).loc main_arg0)) (m ((c.tc : Thread nD τ).loc main_arg1)) (m
      ((c.tc : Thread nD τ).loc main_arg6)) (m ((c.tc : Thread nD τ).loc main_arg7)) (m ((c.tc : Thread nD τ).loc main_arg2))
      (m ((c.tc : Thread nD τ).loc main_arg3)) (m ((c.tc : Thread nD τ).loc main_arg4)) (m ((c.tc : Thread nD τ).loc
      main_arg5)) (i 0) (i 1) := by
  funext i
  obtain ⟨r, a, rfl⟩ : ∃ (r : Fin 8192) (a : Fin 3072), i = ix2 r a := ⟨i 0, i 1, eq_ix2 i⟩
  pointwise []
  exact cat_apply m c r a

end Cert.ReferenceInprojBwdIdeal.Leaf

namespace Cert.Proof.InprojBwd

open Cert.Rows Idealize.ShloMosaic Idealize.ShloMosaic.TcCoe Idealize.SL.Sem Cert.KernelInprojBwdIdeal.Leaf

theorem frame_reference : Cert.quiescent_ReferenceInprojBwdIdeal := fun m ρ _ =>
  (θ_run Cert.ReferenceInprojBwdIdeal.defs _ _).mono
    (fun r h => ⟨fun c => (h c).2.2.2, sem_eq_zero_of_no_sems (by decide) r.2⟩)
    (Cert.ReferenceInprojBwdIdeal.Value.run (F := Ideal) m ρ)

theorem algebraic : Cert.algebraic_KernelInprojBwdIdeal_ReferenceInprojBwdIdeal := by
  intro m ρ m' ρ' _ hagree
  refine ⟨fun c => fun i => dproj m c (i 0) (i 1), fun c => fun i => dxm m c (i 0) (i 1),
    fun c => fun i => (∑ r : Fin 8192, dnm m c (i 1) r : EReal), ?_, ?_⟩
  · exact (θ_run Cert.KernelInprojBwdIdeal.defs _ _).mono (fun r h c => ⟨(h c).1.trans (final10 m c),
      (h c).2.1.trans (final11 m c), (h c).2.2.1.trans (final12 m c), (h c).2.2.2⟩)
      (Cert.KernelInprojBwdIdeal.Value.run_blocks (F := Ideal) m ρ)
  · refine (θ_run Cert.ReferenceInprojBwdIdeal.defs _ _).mono (fun r h c =>
      ⟨(h c).1.trans ((Cert.ReferenceInprojBwdIdeal.Leaf.cat_fun m' c).trans ?_),
        (h c).2.1.trans ((Cert.ReferenceInprojBwdIdeal.Leaf.dx_fun m' c).trans ?_),
        (h c).2.2.1.trans ((Cert.ReferenceInprojBwdIdeal.Leaf.dn_fun m' c).trans ?_), (h c).2.2.2⟩)
      (Cert.ReferenceInprojBwdIdeal.Value.run (F := Ideal) m' ρ')
    all_goals
      obtain ⟨a0, a1, a2, a3, a4, a5, a6, a7, a8, a9, a10, a11⟩ := hagree c
      simp only [a0, a1, a2, a3, a4, a5, a6, a7, a8, a9, a10, a11]
      rfl

end Cert.Proof.InprojBwd

end
-- ==== Proof.Ffn.lean ====
module

public import proofs.«01_k».proof.Proof.Gen.KernelFfnIdeal.Value
public import proofs.«01_k».proof.Proof.Gen.ReferenceFfnIdeal.Run
public import proofs.«01_k».proof.Defs
public import proofs.«01_k».proof.Proof.Rows

@[expose] public section

set_option maxRecDepth 16384

noncomputable section

/-! The feed-forward: what the kernel leaves, at an index. -/

namespace Cert.KernelFfnIdeal.Leaf

open Cert.Rows Cert.KernelFfnIdeal Cert.KernelFfnIdeal.Gen Cert.KernelFfnIdeal.Value Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (c : Dev nD) (i : grid0.Coords) (a1 : Memref sig .tc .vmem S512x1024 .f32) (h1 : a1.IsWhole)
  (a2 : Memref sig .tc .vmem S1x1x1024 .f32) (h2 : a2.IsWhole) (a3 : Memref sig .tc .vmem S5632x1024 .bf16) (h3 : a3.IsWhole)
  (a4 : Memref sig .tc .vmem S2816x1024 .bf16) (h4 : a4.IsWhole) (a5 : Memref sig .tc .vmem S512x1024 .f32) (h5 : a5.IsWhole)
  (a6 : Memref sig .tc .vmem S512x1024 .bf16) (h6 : a6.IsWhole) (a7 : Memref sig .tc .vmem S512x5632 .bf16) (h7 : a7.IsWhole)
  (a8 : Memref sig .tc .vmem S2816x512 .bf16) (h8 : a8.IsWhole)
  (x : Vec Ideal S512x1024 .f32) (g : Vec Ideal S1x1x1024 .f32) (w : Vec Ideal S5632x1024 .bf16) (v : Vec Ideal S2816x1024 .bf16)

/-- The block's rows, and the weights' and gains' as functions. -/
abbrev row (p : Fin 512) : Fin 1024 → EReal := fun k => x (ix2 p k)
abbrev gain : Fin 1024 → EReal := fun k => g (ix3 0 0 k)
abbrev wf : Fin 5632 → Fin 1024 → EReal := fun a k => w (ix2 a k)
abbrev vf : Fin 2816 → Fin 1024 → EReal := fun a k => v (ix2 a k)

theorem pay7_apply (p : Fin 512) (q : Fin 1024) : k0_pay7 x g (ix2 p q) = unit (row x p) (gain g) q := by
  pointwise [k0_pay7]
  rfl

theorem out5 (p : Fin 512) (q : Fin 1024) :
    out0_A_5 c i a1 h1 a2 h2 a3 h3 a4 h4 a5 h5 a6 h6 a7 h7 a8 h8 x g w v (ix2 p q) = unit (row x p) (gain g) q := by
  unfold out0_A_5
  rw [View.read_writes_eq_canon _ _ _ (cover0_A_5 c i a1 h1 a2 h2 a3 h3 a4 h4 a5 h5 a6 h6 a7 h7 a8 h8 x g w v)]
  unfold kernelRun0_A
  dsimp only
  sl_unfold_words
  rw [View.canon_unit_zero (S := S512x1024) hz]
  simp only [View.readAt_eq_ld, h1.read_unread, h2.read_unread, View.ld_unit_zero (S := S512x1024) hz,
    View.ld_unit_zero (S := S1x1x1024) hz3]
  exact pay7_apply x g p q

theorem act_at (x' g' : Fin 1024 → EReal) (a : Fin 2816) (b d : Fin 5632) (hb : b.val = a.val) (hd : d.val = 2816 + a.val) :
    (∑ k, unit x' g' k * w (ix2 b k)) * Ideal.div 1 (1 + Ideal.exp (-∑ k, unit x' g' k * w (ix2 b k))) *
      ∑ k, unit x' g' k * w (ix2 d k) = act x' g' (wf w) a := by
  show swish (proj x' g' (wf w) b) (proj x' g' (wf w) d) = _
  exact congrArg₂ (fun b d => swish (proj x' g' (wf w) b) (proj x' g' (wf w) d)) (Fin.ext hb) (Fin.ext hd)

theorem out6 (p : Fin 512) (a : Fin 5632) :
    out0_A_6 c i a1 h1 a2 h2 a3 h3 a4 h4 a5 h5 a6 h6 a7 h7 a8 h8 x g w v (ix2 p a) = proj (row x p) (gain g) (wf w) a := by
  unfold out0_A_6
  rw [View.read_writes_eq_canon _ _ _ (cover0_A_6 c i a1 h1 a2 h2 a3 h3 a4 h4 a5 h5 a6 h6 a7 h7 a8 h8 x g w v)]
  refine View.canon_eq_of_allAt _ _ _ (cover0_A_6 c i a1 h1 a2 h2 a3 h3 a4 h4 a5 h5 a6 h6 a7 h7 a8 h8 x g w v (ix2 p a)) ?_
  unfold kernelRun0_A
  dsimp only
  sl_unfold_words
  simp only [View.readAt_eq_ld, h1.read_unread, h2.read_unread, h3.read_unread, View.ld_unit_zero (S := S512x1024) hz,
    View.ld_unit_zero (S := S1x1x1024) hz3]
  repeat' refine View.allAt_cons_unit _ _ _ _ _ (fun z hz => ?_) ?_
  rotate_right
  · exact View.allAt_nil _ _
  all_goals
    obtain ⟨r, b, rfl⟩ := (⟨z 0, z 1, eq_ix2 z⟩ : ∃ r b, z = ix2 r b)
    obtain rfl : r = p := Fin.ext ((hz 0).trans (Nat.zero_add _)).symm
    have e : a.val = _ + b.val := hz 1
    simp only [Matrix.cons_val_one, Matrix.cons_val_zero, Matrix.cons_val_fin_one] at e
    pointwise [k0_pay1, k0_pay2, k0_pay3, k0_pay8, k0_pay9, k0_pay10, k0_pay11, k0_pay17, k0_pay18, k0_pay19, k0_pay20, k0_pay24,
      k0_pay25, k0_pay26, k0_pay27, k0_pay31, k0_pay32]
    simp only [pay7_apply]
    refine Finset.sum_congr rfl fun k _ => congrArg (fun a => _ * w (ix2 a k)) (Fin.ext ?_)
    show (_ : ℕ) = _
    dsimp only
    omega

theorem out7 (a : Fin 2816) (p : Fin 512) :
    out0_A_7 c i a1 h1 a2 h2 a3 h3 a4 h4 a5 h5 a6 h6 a7 h7 a8 h8 x g w v (ix2 a p) = act (row x p) (gain g) (wf w) a := by
  unfold out0_A_7
  rw [View.read_writes_eq_canon _ _ _ (cover0_A_7 c i a1 h1 a2 h2 a3 h3 a4 h4 a5 h5 a6 h6 a7 h7 a8 h8 x g w v)]
  refine View.canon_eq_of_allAt _ _ _ (cover0_A_7 c i a1 h1 a2 h2 a3 h3 a4 h4 a5 h5 a6 h6 a7 h7 a8 h8 x g w v (ix2 a p)) ?_
  unfold kernelRun0_A
  dsimp only
  sl_unfold_words
  simp only [View.readAt_eq_ld, h1.read_unread, h2.read_unread, h3.read_unread, View.ld_unit_zero (S := S512x1024) hz,
    View.ld_unit_zero (S := S1x1x1024) hz3]
  repeat' refine View.allAt_cons_unit _ _ _ _ _ (fun z hz => ?_) ?_
  rotate_right
  · exact View.allAt_nil _ _
  all_goals
    obtain ⟨b, r, rfl⟩ := (⟨z 0, z 1, eq_ix2 z⟩ : ∃ b r, z = ix2 b r)
    obtain rfl : r = p := Fin.ext ((hz 1).trans (Nat.zero_add _)).symm
    have e : a.val = _ + b.val := hz 0
    simp only [Matrix.cons_val_one, Matrix.cons_val_zero, Matrix.cons_val_fin_one] at e
    pointwise [k0_pay1, k0_pay4, k0_pay5, k0_pay8, k0_pay9, k0_pay12, k0_pay13, k0_pay14, k0_pay15, k0_pay17, k0_pay18, k0_pay21, k0_pay22,
      k0_pay24, k0_pay25, k0_pay28, k0_pay29, k0_pay31, k0_pay32]
    simp only [pay7_apply, zero_sub]
    apply act_at <;> (show (_ : ℕ) = _; dsimp only; omega)

theorem out4 (p : Fin 512) (q : Fin 1024) :
    out0_A_4 c i a1 h1 a2 h2 a3 h3 a4 h4 a5 h5 a6 h6 a7 h7 a8 h8 x g w v (ix2 p q) =
      ffn (row x p) (gain g) (wf w) (vf v) q := by
  unfold out0_A_4
  rw [View.read_writes_eq_canon _ _ _ (cover0_A_4 c i a1 h1 a2 h2 a3 h3 a4 h4 a5 h5 a6 h6 a7 h7 a8 h8 x g w v)]
  unfold kernelRun0_A
  dsimp only
  sl_unfold_words
  rw [View.canon_unit_zero (S := S512x1024) hz]
  simp only [View.readAt_eq_ld, h1.read_unread, h2.read_unread, h3.read_unread, h4.read_unread,
    View.ld_unit_zero (S := S512x1024) hz, View.ld_unit_zero (S := S1x1x1024) hz3]
  unfold ffn
  rw [sum_chunks, ← add_assoc, ← add_assoc, ← add_assoc]
  pointwise [k0_pay1, k0_pay4, k0_pay6, k0_pay8, k0_pay9, k0_pay12, k0_pay13, k0_pay14, k0_pay16, k0_pay17, k0_pay18, k0_pay21, k0_pay23,
    k0_pay24, k0_pay25, k0_pay28, k0_pay30, k0_pay31, k0_pay32]
  simp only [pay7_apply, zero_sub]
  refine congrArg₂ (· + ·) (congrArg₂ (· + ·) (congrArg₂ (· + ·) (congrArg₂ (· + ·) rfl ?_) ?_) ?_) ?_
  all_goals
    refine Finset.sum_congr rfl fun s _ => congrArg (· * _) (act_at w _ _ _ _ _ ?_ ?_) <;>
      (show (_ : ℕ) = _; dsimp only; try omega)
end body
variable (m : (ℓ : Loc nD τ sig) → Buf (Elt Ideal) ℓ) (c : Dev nD)

theorem N16 (t : Fin cfg0.N) : t.val < 16 := by have := t.isLt; have : cfg0.N = 16 := N_0; omega

theorem idx : ∀ t : Fin cfg0.N, win0_0.index t = ![t.val, 0] ∧ win0_1.index t = ![1, 0, 0] ∧ win0_2.index t = ![0, 0] ∧
    win0_3.index t = ![0, 0] ∧ win0_4.index t = ![t.val, 0] ∧ win0_5.index t = ![t.val, 0] ∧ win0_6.index t = ![t.val, 0] ∧
    win0_7.index t = ![0, t.val] :=
  (by decide +kernel : ∀ t : Fin grid0.N, win0_0.index t = ![t.val, 0] ∧ win0_1.index t = ![1, 0, 0] ∧
    win0_2.index t = ![0, 0] ∧ win0_3.index t = ![0, 0] ∧ win0_4.index t = ![t.val, 0] ∧ win0_5.index t = ![t.val, 0] ∧
    win0_6.index t = ![t.val, 0] ∧ win0_7.index t = ![0, t.val])

/-- The features, gains and weights, from the arguments. -/
abbrev X (r : Fin 8192) : Fin 1024 → EReal := fun k => m ((c : Thread nD τ).loc main_arg0) (ix2 r k)
abbrev G : Fin 1024 → EReal := fun k => m ((c : Thread nD τ).loc main_arg1) (ix2 1 k)
abbrev W : Fin 5632 → Fin 1024 → EReal := fun a k => m ((c : Thread nD τ).loc main_arg2) (ix2 k a)
abbrev W2 : Fin 2816 → Fin 1024 → EReal := fun a k => m ((c : Thread nD τ).loc main_arg3) (ix2 a k)

theorem blk0 (t : Fin cfg0.N) (p : Fin 512) :
    row (iblk m c 0 t) p = X m c ⟨512 * t.val + p.val, by have := N16 t; omega⟩ := by
  funext s
  have i := (idx t).1
  unfold row iblk X
  rw [← V_main_arg0 m c]
  show V m c main_arg0 _ = V m c main_arg0 _
  congr 1
  blk_ext [i]

theorem blk1 (t : Fin cfg0.N) : gain (iblk m c 1 t) = G m c := by
  funext s
  have i := (idx t).2.1
  have e : V m c main_v0 (ix3 1 0 s) = G m c s := by
    unfold V
    after_reads_at
  rw [← e]
  unfold gain iblk
  show V m c main_v0 _ = V m c main_v0 _
  congr 1
  blk_ext [i]

theorem blk2 (t : Fin cfg0.N) : wf (iblk m c 2 t) = W m c := by
  funext a s
  have i := (idx t).2.2.1
  have e : V m c main_v2 (ix2 a s) = W m c a s := by
    unfold V
    after_reads_at
  rw [← e]
  unfold wf iblk
  show V m c main_v2 _ = V m c main_v2 _
  congr 1
  blk_ext [i]

theorem blk3 (t : Fin cfg0.N) : vf (iblk m c 3 t) = W2 m c := by
  funext a s
  have i := (idx t).2.2.2.1
  have e : V m c main_v3 (ix2 a s) = W2 m c a s := by
    unfold V
    after_reads_at
  rw [← e]
  unfold vf iblk
  show V m c main_v3 _ = V m c main_v3 _
  congr 1
  blk_ext [i]

theorem final4 : (dats m 0 c).arrAt 4 cfg0.N = fun i => ffn (X m c (i 0)) (G m c) (W m c) (W2 m c) (i 1) := by
  refine (dats m 0 c).arrAt_eq_of_covers 4 _ (by decide +kernel) fun t hf y => ?_
  obtain ⟨p, q, rfl⟩ : ∃ (p : Fin 512) (q : Fin 1024), y = ix2 p q := ⟨y 0, y 1, eq_ix2 y⟩
  have i := idx t
  have e : ((cfg0.win 4).blk t).view.emb (ix2 p q) = ix2 (⟨512 * t.val + p.val, by have := N16 t; omega⟩ : Fin 8192) q := by
    blk_ext [i]
  rw [e]
  blk_simp
  rw [after0_4]
  unfold outsAt0
  dsimp only
  rw [out4, blk0, blk1, blk2, blk3]
  rfl

theorem final5 : (dats m 0 c).arrAt 5 cfg0.N = fun i => unit (X m c (i 0)) (G m c) (i 1) := by
  refine (dats m 0 c).arrAt_eq_of_covers 5 _ (by decide +kernel) fun t hf y => ?_
  obtain ⟨p, q, rfl⟩ : ∃ (p : Fin 512) (q : Fin 1024), y = ix2 p q := ⟨y 0, y 1, eq_ix2 y⟩
  have i := idx t
  have e : ((cfg0.win 5).blk t).view.emb (ix2 p q) = ix2 (⟨512 * t.val + p.val, by have := N16 t; omega⟩ : Fin 8192) q := by
    blk_ext [i]
  rw [e]
  blk_simp
  rw [after0_5]
  unfold outsAt0
  dsimp only
  rw [out5, blk0, blk1]
  rfl

theorem final6 : (dats m 0 c).arrAt 6 cfg0.N = fun i => proj (X m c (i 0)) (G m c) (W m c) (i 1) := by
  refine (dats m 0 c).arrAt_eq_of_covers 6 _ (by decide +kernel) fun t hf y => ?_
  obtain ⟨p, q, rfl⟩ : ∃ (p : Fin 512) (q : Fin 5632), y = ix2 p q := ⟨y 0, y 1, eq_ix2 y⟩
  have i := idx t
  have e : ((cfg0.win 6).blk t).view.emb (ix2 p q) = ix2 (⟨512 * t.val + p.val, by have := N16 t; omega⟩ : Fin 8192) q := by
    blk_ext [i]
  rw [e]
  blk_simp
  rw [after0_6]
  unfold outsAt0
  dsimp only
  rw [out6, blk0, blk1, blk2]
  rfl

theorem final7 : (dats m 0 c).arrAt 7 cfg0.N = fun i => act (X m c (i 1)) (G m c) (W m c) (i 0) := by
  refine (dats m 0 c).arrAt_eq_of_covers 7 _ (by decide +kernel) fun t hf y => ?_
  obtain ⟨q, p, rfl⟩ : ∃ (q : Fin 2816) (p : Fin 512), y = ix2 q p := ⟨y 0, y 1, eq_ix2 y⟩
  have i := idx t
  have e : ((cfg0.win 7).blk t).view.emb (ix2 q p) = ix2 q (⟨512 * t.val + p.val, by have := N16 t; omega⟩ : Fin 8192) := by
    blk_ext [i]
  rw [e]
  blk_simp
  rw [after0_7]
  unfold outsAt0
  dsimp only
  rw [out7, blk0, blk1, blk2]
  rfl

end Cert.KernelFfnIdeal.Leaf

namespace Cert.Proof.Ffn

open Cert.Rows Idealize.ShloMosaic Idealize.ShloMosaic.TcCoe Idealize.SL.Sem Cert.KernelFfnIdeal.Leaf

theorem frame_reference : Cert.quiescent_ReferenceFfnIdeal := fun m ρ _ =>
  (θ_run Cert.ReferenceFfnIdeal.defs _ _).mono
    (fun r h => ⟨fun c => (h c).2.2.2.2, sem_eq_zero_of_no_sems (by decide) r.2⟩)
    (Cert.ReferenceFfnIdeal.Value.run (F := Ideal) m ρ)

theorem algebraic : Cert.algebraic_KernelFfnIdeal_ReferenceFfnIdeal := by
  intro m ρ m' ρ' _ hagree
  refine ⟨fun c => fun i => ffn (X m c (i 0)) (G m c) (W m c) (W2 m c) (i 1),
    fun c => fun i => unit (X m c (i 0)) (G m c) (i 1), fun c => fun i => proj (X m c (i 0)) (G m c) (W m c) (i 1),
    fun c => fun i => act (X m c (i 1)) (G m c) (W m c) (i 0), ?_, ?_⟩
  · exact (θ_run Cert.KernelFfnIdeal.defs _ _).mono (fun r h c => ⟨(h c).1.trans (final4 m c), (h c).2.1.trans (final5 m c),
      (h c).2.2.1.trans (final6 m c), (h c).2.2.2.1.trans (final7 m c), (h c).2.2.2.2⟩)
      (Cert.KernelFfnIdeal.Value.run_blocks (F := Ideal) m ρ)
  · refine (θ_run Cert.ReferenceFfnIdeal.defs _ _).mono (fun r h c => ⟨(h c).1.trans ?_, (h c).2.1.trans ?_,
      (h c).2.2.1.trans ?_, (h c).2.2.2.1.trans ?_, (h c).2.2.2.2⟩)
      (Cert.ReferenceFfnIdeal.Value.run (F := Ideal) m' ρ')
    all_goals
      obtain ⟨a0, a1, a2, a3⟩ := hagree c
      simp only [a0, a1, a2, a3]
      funext i
      obtain ⟨p, q, rfl⟩ := (⟨i 0, i 1, eq_ix2 i⟩ : ∃ p q, i = ix2 p q)
      pointwise []
      rfl

end Cert.Proof.Ffn

end
-- ==== Proof.Glu.lean ====
module

public import proofs.«01_k».proof.Proof.Norm

@[expose] public section

noncomputable section

/-! The gradients of one token's row: of the loss, through the last norm, and through the gated half. -/

namespace Cert.Rows

open Idealize.ShloMosaic

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_1024th : Ideal.ofBits .f32 0x3A800000#32 = ((1 / 1024 : ℝ) : EReal) := by
  simp [Ideal.ofBits, Ideal.ieee, -EReal.coe_mul]; norm_num
theorem word_2048th : Ideal.ofBits .f32 0x3A000000#32 = ((1 / 2048 : ℝ) : EReal) := by
  simp [Ideal.ofBits, Ideal.ieee, -EReal.coe_mul]; norm_num

/-! The loss and its gradient. -/

section loss
variable (o f t : Fin 1024 → EReal)

/-- How far the normed row is from its target. -/
def miss (k : Fin 1024) : EReal := o k * scale o * f k - t k
/-- The row's loss, before it is scaled. -/
def toll : EReal := ∑ k, miss o f t k * miss o f t k
/-- The gradient of the normed row. -/
def pull (k : Fin 1024) : EReal := miss o f t k * Ideal.ofBits .f32 0x3A800000#32
/-- The gradient of the row. -/
def top (k : Fin 1024) : EReal := back o k (pull o f t k * f k) (∑ j, pull o f t j * f j * o j)

theorem pull_eq (k : Fin 1024) :
    Ideal.div (Ideal.ofBits .f32 0x3F000000#32 * 1) (Ideal.ofBits .f32 0x44800000#32) *
      (Ideal.ofBits .f32 0x40000000#32 * miss o f t k) = pull o f t k := by
  unfold pull
  rw [mul_one, word_half, word_two, word_1024, word_1024th, Ideal.div_coe (by norm_num), ← mul_assoc, ← EReal.coe_mul, ← EReal.coe_mul,
    mul_comm]
  norm_num

theorem top_eq (k : Fin 1024) : top o f t k =
    pull o f t k * f k * scale o + o k * slope o (∑ j, o j * (pull o f t j * f j)) + slope o (∑ j, o j * (pull o f t j * f j)) * o k := by
  have h := back_eq o k 0 (pull o f t k * f k) (∑ j, pull o f t j * f j * o j)
  rw [zero_add, zero_add] at h
  unfold top
  rw [h]
  simp only [mul_comm (o _) (pull o f t _ * f _)]

theorem mul_sum_real {ι : Type} (s : Finset ι) (c : ℝ) (hc : 0 ≤ c) (g : ι → EReal) : (c : EReal) * ∑ i ∈ s, g i = ∑ i ∈ s, (c : EReal) * g i := by
  classical
  induction s using Finset.induction_on with
  | empty => simp
  | insert a s h e =>
    rw [Finset.sum_insert h, Finset.sum_insert h, EReal.left_distrib_of_nonneg_of_ne_top (by exact_mod_cast hc) (EReal.coe_ne_top _), e]

/-- A part of the loss. -/
def part (o f t : Fin 1024 → EReal) : EReal := Ideal.ofBits .f32 0x3A000000#32 * toll o f t

theorem part_sum {n : ℕ} (g : Fin n → EReal) :
    Ideal.ofBits .f32 0x3A000000#32 * ∑ i, g i = ∑ i, Ideal.ofBits .f32 0x3A000000#32 * g i := by
  rw [word_2048th]
  exact mul_sum_real _ _ (by norm_num) _
theorem half_sum {n : ℕ} (g : Fin n → EReal) :
    Ideal.ofBits .f32 0x3F000000#32 * ∑ i, Ideal.div (g i) (Ideal.ofBits .f32 0x44800000#32) =
      ∑ i, Ideal.ofBits .f32 0x3A000000#32 * g i := by
  rw [word_half, word_1024, word_2048th, mul_sum_real _ _ (by norm_num)]
  refine Finset.sum_congr rfl fun i _ => ?_
  rw [Ideal.div_coe (by norm_num), mul_comm (g i), ← mul_assoc, ← EReal.coe_mul]
  norm_num
end loss

/-! The gated half. -/

/-- The logistic function. -/
def sig (z : EReal) : EReal := Ideal.div 1 (1 + Ideal.exp (-z))
/-- The gradient of a gate `z`, of the gradient `d` of its product with `u`. -/
def dgate (z u d : EReal) : EReal := d * u * (sig z * (1 + z * (1 - sig z)))
/-- The gradient of the other half. -/
def dup (z d : EReal) : EReal := d * (z * sig z)
/-- The two gradients side by side. -/
def glu (gu : Fin 5632 → EReal) (d : Fin 2816 → EReal) (a : Fin 5632) : EReal :=
  if h : a.val < 2816 then dgate (gu ⟨a.val, by omega⟩) (gu ⟨2816 + a.val, by omega⟩) (d ⟨a.val, h⟩)
  else dup (gu ⟨a.val - 2816, by omega⟩) (d ⟨a.val - 2816, by omega⟩)

theorem glu_left (gu : Fin 5632 → EReal) (d : Fin 2816 → EReal) (a : Fin 2816) :
    glu gu d ⟨a.val, by omega⟩ = dgate (gu ⟨a.val, by omega⟩) (gu ⟨2816 + a.val, by omega⟩) (d a) := dif_pos a.isLt
theorem glu_right (gu : Fin 5632 → EReal) (d : Fin 2816 → EReal) (a : Fin 2816) :
    glu gu d ⟨2816 + a.val, by omega⟩ = dup (gu ⟨a.val, by omega⟩) (d a) := by
  unfold glu
  rw [dif_neg (by dsimp only; omega)]
  refine congrArg₂ dup (congrArg gu (Fin.ext ?_)) (congrArg d (Fin.ext ?_)) <;> (dsimp only; omega)

/-! One row, from the last norm's output down to the gradient of the row before the feed-forward: `o` the features before the last norm, `f` its
gains, `t` the target, `x` the features before the feed-forward, `g` the gains there, `gu` the two halves before the activation, `w` and `v` the
weights. -/

section row
variable (o f t x g : Fin 1024 → EReal) (gu : Fin 5632 → EReal) (w : Fin 5632 → Fin 1024 → EReal) (v : Fin 2816 → Fin 1024 → EReal)

/-- The gradient of the two halves. -/
def hid (a : Fin 5632) : EReal := glu gu (fun b => ∑ k, top o f t k * v b k) a
/-- The gradient of the normed row. -/
def down (k : Fin 1024) : EReal := ∑ a, hid o f t gu v a * w a k
/-- The gradient of the row before the feed-forward. -/
def along (k : Fin 1024) : EReal :=
  top o f t k + back x k (down o f t gu w v k * g k) (∑ j, down o f t gu w v j * g j * x j)
/-- The row's part of the gradient of the gains there. -/
def gained (k : Fin 1024) : EReal := down o f t gu w v k * x k * scale x
/-- The row's part of the gradient of the last gains. -/
def last (k : Fin 1024) : EReal := pull o f t k * (o k * scale o)

theorem hid_gate (a : Fin 5632) (b : Fin 2816) (d e : Fin 5632) (hb : b.val = a.val) (hd : d.val = a.val) (he : e.val = 2816 + a.val) :
    (∑ k, top o f t k * v b k) * gu e * (Ideal.div 1 (1 + Ideal.exp (-gu d)) * (1 + gu d * (1 - Ideal.div 1 (1 + Ideal.exp (-gu d))))) =
      hid o f t gu v a := by
  obtain ⟨a, _⟩ := a
  obtain ⟨d, _⟩ := d
  obtain ⟨e, _⟩ := e
  dsimp only at hb hd he
  subst hb hd he
  exact (glu_left gu (fun b => ∑ k, top o f t k * v b k) b).symm
theorem hid_up (a : Fin 5632) (b : Fin 2816) (d : Fin 5632) (hb : 2816 + b.val = a.val) (hd : 2816 + d.val = a.val) :
    (∑ k, top o f t k * v b k) * (gu d * Ideal.div 1 (1 + Ideal.exp (-gu d))) = hid o f t gu v a := by
  obtain ⟨a, _⟩ := a
  obtain ⟨d, _⟩ := d
  obtain ⟨b, _⟩ := b
  dsimp only at hb hd
  obtain rfl : d = b := by omega
  subst hb
  exact (glu_right gu (fun b => ∑ k, top o f t k * v b k) ⟨d, _⟩).symm
end row

/-- A sum over both halves, as the sums of four chunks of each. -/
theorem sum_halves (f : Fin 5632 → EReal) : ∑ a, f a =
    (∑ s : Fin 768, f ⟨s.val, by omega⟩) + (∑ s : Fin 768, f ⟨2816 + s.val, by omega⟩) +
    (∑ s : Fin 768, f ⟨768 + s.val, by omega⟩) + (∑ s : Fin 768, f ⟨2816 + (768 + s.val), by omega⟩) +
    (∑ s : Fin 768, f ⟨1536 + s.val, by omega⟩) + (∑ s : Fin 768, f ⟨2816 + (1536 + s.val), by omega⟩) +
    (∑ s : Fin 512, f ⟨2304 + s.val, by omega⟩) + ∑ s : Fin 512, f ⟨2816 + (2304 + s.val), by omega⟩ := by
  have h : ∑ a, f a = (∑ a : Fin 2816, f ⟨a.val, by omega⟩) + ∑ a : Fin 2816, f ⟨2816 + a.val, by omega⟩ :=
    Fin.sum_univ_add (a := 2816) (b := 2816) f
  rw [h, sum_chunks, sum_chunks]
  abel

/-! Reals stay reals. -/

/-- A real, and no infinity. -/
def IsReal (x : EReal) : Prop := ∃ r : ℝ, x = r

theorem IsReal.add {x y : EReal} : IsReal x → IsReal y → IsReal (x + y) := fun ⟨r, hr⟩ ⟨s, hs⟩ => ⟨r + s, by rw [hr, hs, EReal.coe_add]⟩
theorem IsReal.sub {x y : EReal} : IsReal x → IsReal y → IsReal (x - y) := fun ⟨r, hr⟩ ⟨s, hs⟩ => ⟨r - s, by rw [hr, hs, EReal.coe_sub]⟩
theorem IsReal.mul {x y : EReal} : IsReal x → IsReal y → IsReal (x * y) := fun ⟨r, hr⟩ ⟨s, hs⟩ => ⟨r * s, by rw [hr, hs, EReal.coe_mul]⟩
theorem IsReal.sum {n : ℕ} {f : Fin n → EReal} (h : ∀ i, IsReal (f i)) : IsReal (∑ i, f i) := by
  choose g hg using h
  exact ⟨∑ i, g i, by rw [← sum_real]; exact Finset.sum_congr rfl fun i _ => hg i⟩
theorem IsReal.mean {x : EReal} : IsReal x → IsReal (Ideal.div x (Ideal.ofBits .f32 0x44800000#32)) := fun ⟨r, hr⟩ =>
  ⟨r * (1 / 1024), by rw [word_1024, hr, Ideal.div_coe (by norm_num), EReal.coe_mul]⟩
theorem IsReal.scale (x : Fin 1024 → EReal) : IsReal (scale x) := by
  rcases scale_cases x with ⟨ρ, -, e, -⟩ | ⟨e, -⟩
  · exact ⟨ρ, e⟩
  · exact ⟨0, e⟩
/-- A row over its root mean square is of reals, even where the row is not. -/
theorem IsReal.over (x : Fin 1024 → EReal) (k : Fin 1024) : IsReal (x k * Rows.scale x) := by
  rcases scale_cases x with ⟨ρ, -, e, -, h⟩ | ⟨e, -⟩
  · exact .mul (h k) ⟨ρ, e⟩
  · exact ⟨0, by rw [e, mul_zero]; rfl⟩
theorem IsReal.back (x : Fin 1024 → EReal) (y : Fin 1024 → EReal) (hy : ∀ k, IsReal (y k)) (k : Fin 1024) :
    IsReal (back x k (y k) (∑ j, y j * x j)) := by
  unfold Rows.back
  refine .sub ((IsReal.scale x).mul (hy k)) ?_
  rcases scale_cases x with ⟨ρ, -, e, -, h⟩ | ⟨e, -⟩
  · rw [e]
    exact .mul (.mul (h k) (.mul (.mul ⟨ρ, rfl⟩ ⟨ρ, rfl⟩) ⟨ρ, rfl⟩)) (.mean (.sum fun j => .mul (hy j) (h j)))
  · exact ⟨0, by rw [e, mul_zero, mul_zero, zero_mul]; rfl⟩
theorem IsReal.proj {n : ℕ} (x : Fin 1024 → EReal) {g : Fin 1024 → EReal} {w : Fin n → Fin 1024 → EReal} (hg : ∀ k, IsReal (g k))
    (hw : ∀ a k, IsReal (w a k)) (a : Fin n) : IsReal (proj x g w a) :=
  .sum fun k => ((IsReal.over x k).mul (hg k)).mul (hw a k)
theorem IsReal.top (o : Fin 1024 → EReal) {f t : Fin 1024 → EReal} (hf : ∀ k, IsReal (f k)) (ht : ∀ k, IsReal (t k)) (k : Fin 1024) :
    IsReal (top o f t k) :=
  .back o (fun k => pull o f t k * f k)
    (fun j => ((((IsReal.over o j).mul (hf j)).sub (ht j)).mul ⟨1 / 1024, word_1024th⟩).mul (hf j)) k

/-- The gate's gradient, as the product rule gives it. -/
theorem dgate_eq {z u d : EReal} : IsReal z → IsReal u → IsReal d →
    d * u * sig z + z * (d * u) * (sig z * (1 - sig z)) = dgate z u d := by
  rintro ⟨z, rfl⟩ ⟨u, rfl⟩ ⟨d, rfl⟩
  have hs : sig z = ((1 / (1 + Real.exp (-z)) : ℝ) : EReal) := by
    unfold sig
    rw [← EReal.coe_neg, Ideal.exp_coe, ← EReal.coe_one, ← EReal.coe_add, Ideal.div_coe (by positivity), ← EReal.coe_mul, one_mul]
  unfold dgate
  rw [hs]
  generalize (1 / (1 + Real.exp (-z)) : ℝ) = s
  rw [← EReal.coe_one]
  norm_cast
  ring

end Cert.Rows

end
-- ==== Proof.Finite.lean ====
module

public import proofs.«01_k».proof.Pre_finite
public import proofs.«01_k».proof.Proof.Glu

@[expose] public section

set_option maxRecDepth 16384

noncomputable section

/-! Where the precondition holds, the gains, the target and the weights are of reals. -/

namespace Cert.Rows

open Idealize.ShloMosaic Cert.Pre_finite

theorem word_inf : Ideal.ofBits .f32 0x7F800000#32 = ⊤ := by
  simp [Ideal.ofBits, Ideal.ieee]

theorem real_of_lt {x : EReal} (h : max x (-x) < ⊤) : IsReal x := by
  induction x using EReal.rec with
  | bot => simp at h
  | top => simp at h
  | coe r => exact ⟨r, rfl⟩

variable [Facts] (A0 A2 A3 : FVec Ideal S8192x1024 .f32) (A1 : FVec Ideal S1024 .f32) (A4 : FVec Ideal S2x1024 .f32)
  (A5 : FVec Ideal S1024x5632 .f32) (A6 : FVec Ideal S2816x1024 .f32)

/-- The rows that the precondition reads. -/
def stack (r : Fin 16642) (k : Fin 1024) : EReal :=
  if h : r.val < 1 then A1 (ix1 k)
  else if h : r.val - 1 < 1 then A4 (ix2 ⟨1 + (r.val - 1), by omega⟩ k)
  else if h : r.val - 1 - 1 < 8192 then A2 (ix2 ⟨r.val - 1 - 1, h⟩ k)
  else if h : r.val - 1 - 1 - 8192 < 5632 then A5 (ix2 k ⟨r.val - 1 - 1 - 8192, h⟩)
  else A6 (ix2 ⟨r.val - 1 - 1 - 8192 - 5632, by omega⟩ k)

theorem finite_apply (r : Fin 16642) (k : Fin 1024) : fn A0 A1 A2 A3 A4 A5 A6 (ix2 r k) =
    BitVec.ofBool (decide (max (stack A2 A1 A4 A5 A6 r k) (-stack A2 A1 A4 A5 A6 r k) < ⊤)) := by
  pointwise [fn]
  rw [word_inf]
  rfl

instance facts : Facts where
  bcast_S1024_S1x1024_1 := by decide
  slices_S2x1024_S1x1024_1_0 := by decide
  transposes_S1024x5632_S5632x1024_1_0 := by decide
  concatenates_S1x1024_S1x1024_S8192x1024_S5632x1024_S2816x1024_S16642x1024_d0 := by decide
  bcast_S_S16642x1024 := by decide

section reals
variable {A0 A1 A2 A3 A4 A5 A6} (h : fn A0 A1 A2 A3 A4 A5 A6 = fun _ => 1#1)
include h

theorem stack_real (r : Fin 16642) (k : Fin 1024) : IsReal (stack A2 A1 A4 A5 A6 r k) := by
  have e := congrFun h (ix2 r k)
  rw [finite_apply] at e
  by_contra hn
  rw [decide_eq_false fun l => hn (real_of_lt l)] at e
  exact absurd e (by decide)

theorem reals : (∀ k, IsReal (A1 (ix1 k))) ∧ (∀ k, IsReal (A4 (ix2 1 k))) ∧ (∀ r k, IsReal (A2 (ix2 r k))) ∧
    (∀ a k, IsReal (A5 (ix2 k a))) ∧ ∀ a k, IsReal (A6 (ix2 a k)) := by
  refine ⟨fun k => ?_, fun k => ?_, fun r k => ?_, fun a k => ?_, fun a k => ?_⟩
  · exact stack_real h ⟨0, by omega⟩ k
  · exact stack_real h ⟨1, by omega⟩ k
  · have e := stack_real h ⟨2 + r.val, by omega⟩ k
    unfold stack at e
    rw [dif_neg (by dsimp only; omega), dif_neg (by dsimp only; omega), dif_pos (by dsimp only; omega)] at e
    refine (congrArg IsReal (congrArg (fun b => A2 (ix2 b k)) (Fin.ext ?_))).mp e
    dsimp only
    omega
  · have e := stack_real h ⟨8194 + a.val, by omega⟩ k
    unfold stack at e
    rw [dif_neg (by dsimp only; omega), dif_neg (by dsimp only; omega), dif_neg (by dsimp only; omega),
      dif_pos (by dsimp only; omega)] at e
    refine (congrArg IsReal (congrArg (fun b => A5 (ix2 k b)) (Fin.ext ?_))).mp e
    dsimp only
    omega
  · have e := stack_real h ⟨13826 + a.val, by omega⟩ k
    unfold stack at e
    rw [dif_neg (by dsimp only; omega), dif_neg (by dsimp only; omega), dif_neg (by dsimp only; omega),
      dif_neg (by dsimp only; omega)] at e
    refine (congrArg IsReal (congrArg (fun b => A6 (ix2 b k)) (Fin.ext ?_))).mp e
    dsimp only
    omega
end reals

section spec
variable (A0 A2 A3 : FVec Ideal S8192x1024 .f32) (A1 : FVec Ideal S1024 .f32) (A4 : FVec Ideal S2x1024 .f32)
  (A5 : FVec Ideal S1024x5632 .f32) (A6 : FVec Ideal S2816x1024 .f32)

/-- The arguments' rows, gains and weights, as functions. -/
abbrev line (A : FVec Ideal S8192x1024 .f32) (r : Fin 8192) : Fin 1024 → EReal := fun k => A (ix2 r k)
abbrev ends : Fin 1024 → EReal := fun k => A1 (ix1 k)
abbrev gains : Fin 1024 → EReal := fun k => A4 (ix2 1 k)
abbrev first : Fin 5632 → Fin 1024 → EReal := fun a k => A5 (ix2 k a)
abbrev second : Fin 2816 → Fin 1024 → EReal := fun a k => A6 (ix2 a k)

/-- The two halves before the activation, and the six results or their parts, at a row. -/
def halves (r : Fin 8192) : Fin 5632 → EReal := proj (line A3 r) (gains A4) (first A5)
def rHid (r : Fin 8192) (a : Fin 5632) : EReal := hid (line A0 r) (ends A1) (line A2 r) (halves A3 A4 A5 r) (second A6) a
def rAlong (r : Fin 8192) (k : Fin 1024) : EReal :=
  along (line A0 r) (ends A1) (line A2 r) (line A3 r) (gains A4) (halves A3 A4 A5 r) (first A5) (second A6) k
def rTop (r : Fin 8192) (k : Fin 1024) : EReal := top (line A0 r) (ends A1) (line A2 r) k
def rGained (k : Fin 1024) (r : Fin 8192) : EReal :=
  gained (line A0 r) (ends A1) (line A2 r) (line A3 r) (halves A3 A4 A5 r) (first A5) (second A6) k
def rPart (r : Fin 8192) : EReal := part (line A0 r) (ends A1) (line A2 r)
def rLast (k : Fin 1024) (r : Fin 8192) : EReal := last (line A0 r) (ends A1) (line A2 r) k
end spec

end Cert.Rows

end
-- ==== Proof.FfnBwdPay.lean ====
module

public import proofs.«01_k».proof.Proof.Gen.KernelFfnBwdIdeal.Skeleton
public import proofs.«01_k».proof.Proof.Finite

@[expose] public section

set_option maxRecDepth 16384

noncomputable section

/-! The backward of the loss and of the feed-forward: what the kernel leaves, at an index. -/

namespace Cert.KernelFfnBwdIdeal.Leaf

open Cert.Rows Cert.KernelFfnBwdIdeal Cert.KernelFfnBwdIdeal.Gen Idealize.ShloMosaic
  Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

section body
variable (x0 x2 x3 : Vec Ideal S256x1024 .f32) (x1 : Vec Ideal S1x1024 .f32) (x4 : Vec Ideal S1x1x1024 .f32)
  (x5 : Vec Ideal S256x5632 .bf16) (x6 : Vec Ideal S5632x1024 .bf16) (x7 : Vec Ideal S2816x1024 .bf16)
  (y11 y13 : Vec Ideal S1x1024 .f32) (y12 : Vec Ideal S1x1 .f32)

/-- The block's rows, and the gains and weights, as functions. -/
abbrev row (x : Vec Ideal S256x1024 .f32) (p : Fin 256) : Fin 1024 → EReal := fun k => x (ix2 p k)
abbrev fin1 : Fin 1024 → EReal := fun k => x1 (ix2 0 k)
abbrev gain : Fin 1024 → EReal := fun k => x4 (ix3 0 0 k)
abbrev both (p : Fin 256) : Fin 5632 → EReal := fun a => x5 (ix2 p a)
abbrev wf : Fin 5632 → Fin 1024 → EReal := fun a k => x6 (ix2 a k)
abbrev vf : Fin 2816 → Fin 1024 → EReal := fun a k => x7 (ix2 a k)

theorem pay8_apply (p : Fin 256) (k : Fin 1024) : k0_pay8 x0 x1 x2 (ix2 p k) = pull (row x0 p) (fin1 x1) (row x2 p) k := by
  pointwise [k0_pay8, k0_pay6, k0_pay5, k0_pay4]
  rfl
theorem pay10_apply (p : Fin 256) (k : Fin 1024) : k0_pay10 x0 (k0_pay4 x0) (k0_pay8 x0 x1 x2) x1 (ix2 p k) =
    top (row x0 p) (fin1 x1) (row x2 p) k := by
  pointwise [k0_pay10, k0_pay4]
  simp only [pay8_apply]
  rfl
theorem pay11_apply (p : Fin 256) (k : Fin 1024) : k0_pay11 x0 (k0_pay4 x0) (k0_pay8 x0 x1 x2) x1 (ix2 p k) =
    top (row x0 p) (fin1 x1) (row x2 p) k := by
  pointwise [k0_pay11]
  exact pay10_apply x0 x2 x1 p k
theorem pay7_apply (o p : Fin 1) : k0_pay7 x0 x1 x2 y12 (ix2 o p) = HAdd.hAdd (α := EReal) (y12 (ix2 o p))
    (Ideal.ofBits .f32 0x3A000000#32 * ∑ p, toll (row x0 p) (fin1 x1) (row x2 p)) := by
  pointwise [k0_pay7, k0_pay6, k0_pay5, k0_pay4]
  rfl
theorem pay9_apply (o : Fin 1) (k : Fin 1024) : k0_pay9 (k0_pay5 x0) (k0_pay8 x0 x1 x2) y13 (ix2 o k) = HAdd.hAdd (α := EReal) (y13 (ix2 o k))
    (∑ p, last (row x0 p) (fin1 x1) (row x2 p) k) := by
  pointwise [k0_pay9, k0_pay5, k0_pay4]
  simp only [pay8_apply]
  rfl

/-- The gradient of the normed rows, as the body sums it up. -/
def sum4 : FVec Ideal S256x1024 .f32 :=
  k0_pay47 (k0_pay39 (k0_pay31 (k0_pay22 (k0_pay12 (F := Ideal))
      (k0_pay13 x0 (k0_pay4 x0) (k0_pay8 x0 x1 x2) x1 (View.ld x7 (Rect.unit ![0, 0] ![768, 1024] inb_S2816x1024_S768x1024_0_0)))
      (k0_pay14 (View.ld x5 (Rect.unit ![0, 0] ![256, 768] inb_S256x5632_S256x768_0_0)))
      (k0_pay15 (View.ld x5 (Rect.unit ![0, 2816] ![256, 768] inb_S256x5632_S256x768_0_2816)))
      (k0_pay16 (View.ld x5 (Rect.unit ![0, 0] ![256, 768] inb_S256x5632_S256x768_0_0)))
      (View.ld x6 (Rect.unit ![0, 0] ![768, 1024] inb_S5632x1024_S768x1024_0_0))
      (View.ld x6 (Rect.unit ![2816, 0] ![768, 1024] inb_S5632x1024_S768x1024_2816_0)))
      (k0_pay23 (k0_pay11 x0 (k0_pay4 x0) (k0_pay8 x0 x1 x2) x1) (View.ld x7 (Rect.unit ![768, 0] ![768, 1024] inb_S2816x1024_S768x1024_768_0)))
      (k0_pay24 (View.ld x5 (Rect.unit ![0, 768] ![256, 768] inb_S256x5632_S256x768_0_768)))
      (k0_pay25 (View.ld x5 (Rect.unit ![0, 3584] ![256, 768] inb_S256x5632_S256x768_0_3584)))
      (View.ld x6 (Rect.unit ![768, 0] ![768, 1024] inb_S5632x1024_S768x1024_768_0))
      (View.ld x6 (Rect.unit ![3584, 0] ![768, 1024] inb_S5632x1024_S768x1024_3584_0)))
      (k0_pay32 (k0_pay11 x0 (k0_pay4 x0) (k0_pay8 x0 x1 x2) x1) (View.ld x7 (Rect.unit ![1536, 0] ![768, 1024] inb_S2816x1024_S768x1024_1536_0)))
      (k0_pay33 (View.ld x5 (Rect.unit ![0, 1536] ![256, 768] inb_S256x5632_S256x768_0_1536)))
      (View.ld x5 (Rect.unit ![0, 4352] ![256, 768] inb_S256x5632_S256x768_0_4352))
      (View.ld x6 (Rect.unit ![1536, 0] ![768, 1024] inb_S5632x1024_S768x1024_1536_0))
      (View.ld x6 (Rect.unit ![4352, 0] ![768, 1024] inb_S5632x1024_S768x1024_4352_0)))
      (k0_pay40 (k0_pay11 x0 (k0_pay4 x0) (k0_pay8 x0 x1 x2) x1) (View.ld x7 (Rect.unit ![2304, 0] ![512, 1024] inb_S2816x1024_S512x1024_2304_0)))
      (View.ld x5 (Rect.unit ![0, 2304] ![256, 512] inb_S256x5632_S256x512_0_2304))
      (View.ld x5 (Rect.unit ![0, 5120] ![256, 512] inb_S256x5632_S256x512_0_5120))
      (View.ld x6 (Rect.unit ![2304, 0] ![512, 1024] inb_S5632x1024_S512x1024_2304_0))
      (View.ld x6 (Rect.unit ![5120, 0] ![512, 1024] inb_S5632x1024_S512x1024_5120_0))

theorem sum4_apply (p : Fin 256) (k : Fin 1024) : sum4 x0 x2 x1 x5 x6 x7 (ix2 p k) =
    down (row x0 p) (fin1 x1) (row x2 p) (both x5 p) (wf x6) (vf x7) k := by
  unfold down
  rw [sum_halves]
  pointwise [sum4, k0_pay47, k0_pay39, k0_pay31, k0_pay22, k0_pay12, k0_pay13, k0_pay14, k0_pay15, k0_pay16, k0_pay17, k0_pay18, k0_pay19,
    k0_pay23, k0_pay24, k0_pay25, k0_pay26, k0_pay27, k0_pay28, k0_pay32, k0_pay33, k0_pay34, k0_pay35, k0_pay36, k0_pay40, k0_pay41,
    k0_pay42, k0_pay43, k0_pay44]
  simp only [pay11_apply, zero_sub, zero_add]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine Finset.sum_congr rfl fun s _ => congrArg₂ (· * ·) ?_ (congrArg (fun a => x6 (ix2 a k)) (Fin.ext ?_))
    · first
        | exact hid_gate _ _ _ (both x5 p) (vf x7) _ _ _ _ (by dsimp only; try omega) (by dsimp only; try omega) (by dsimp only; try omega)
        | exact hid_up _ _ _ (both x5 p) (vf x7) _ _ _ (by dsimp only; try omega) (by dsimp only; try omega)
    · show (_ : ℕ) = _
      dsimp only
      try omega

theorem pay49_apply (o : Fin 1) (k : Fin 1024) : k0_pay49 (sum4 x0 x2 x1 x5 x6 x7) x3 y11 (ix2 o k) = HAdd.hAdd (α := EReal) (y11 (ix2 o k))
    (∑ p, gained (row x0 p) (fin1 x1) (row x2 p) (row x3 p) (both x5 p) (wf x6) (vf x7) k) := by
  pointwise [k0_pay49, k0_pay48]
  simp only [sum4_apply]
  rfl
theorem pay50_apply (p : Fin 256) (k : Fin 1024) :
    k0_pay50 (k0_pay10 x0 (k0_pay4 x0) (k0_pay8 x0 x1 x2) x1) (sum4 x0 x2 x1 x5 x6 x7) x3 x4 (ix2 p k) =
      along (row x0 p) (fin1 x1) (row x2 p) (row x3 p) (gain x4) (both x5 p) (wf x6) (vf x7) k := by
  pointwise [k0_pay50, k0_pay48]
  simp only [sum4_apply, pay10_apply]
  rfl

end body

end Cert.KernelFfnBwdIdeal.Leaf

end
-- ==== Proof.FfnBwdBody.lean ====
module

public import proofs.«01_k».proof.Proof.Gen.KernelFfnBwdIdeal.Value
public import proofs.«01_k».proof.Proof.FfnBwdPay

@[expose] public section

set_option maxRecDepth 16384

noncomputable section

/-! The backward of the loss and of the feed-forward: what the kernel leaves, at an index. -/

namespace Cert.KernelFfnBwdIdeal.Leaf

open Cert.Rows Cert.KernelFfnBwdIdeal Cert.KernelFfnBwdIdeal.Gen Cert.KernelFfnBwdIdeal.Value Idealize.ShloMosaic
  Idealize.ShloMosaic.TcCoe

section body
variable (x0 x2 x3 : Vec Ideal S256x1024 .f32) (x1 : Vec Ideal S1x1024 .f32) (x4 : Vec Ideal S1x1x1024 .f32)
  (x5 : Vec Ideal S256x5632 .bf16) (x6 : Vec Ideal S5632x1024 .bf16) (x7 : Vec Ideal S2816x1024 .bf16)
  (y11 y13 : Vec Ideal S1x1024 .f32) (y12 : Vec Ideal S1x1 .f32)

/-- A row and a number, read back. -/
def row1 (z : Vec Ideal S1x1024 .f32) : Vec Ideal S1x1024 .f32 := View.ld z (Rect.unit ![0, 0] ![1, 1024] inb_S1x1024_S1x1024_0_0)
theorem row1_eq (z : Vec Ideal S1x1024 .f32) : row1 z = z := View.ld_unit_zero (S := S1x1024) hz _ _
def one1 (z : Vec Ideal S1x1 .f32) : Vec Ideal S1x1 .f32 := View.ld z (Rect.unit ![0, 0] ![1, 1] inb_S1x1_S1x1_0_0)
theorem one1_eq (z : Vec Ideal S1x1 .f32) : one1 z = z := View.ld_unit_zero (S := S1x1) hz _ _

variable (c : Dev nD) (i : grid0.Coords)
  (a1 : Memref sig .tc .vmem S256x1024 .f32) (h1 : a1.IsWhole) (a2 : Memref sig .tc .vmem S1x1024 .f32) (h2 : a2.IsWhole)
  (a3 : Memref sig .tc .vmem S256x1024 .f32) (h3 : a3.IsWhole) (a4 : Memref sig .tc .vmem S256x1024 .f32) (h4 : a4.IsWhole)
  (a5 : Memref sig .tc .vmem S1x1x1024 .f32) (h5 : a5.IsWhole) (a6 : Memref sig .tc .vmem S256x5632 .bf16) (h6 : a6.IsWhole)
  (a7 : Memref sig .tc .vmem S5632x1024 .bf16) (h7 : a7.IsWhole) (a8 : Memref sig .tc .vmem S2816x1024 .bf16) (h8 : a8.IsWhole)
  (a9 : Memref sig .tc .vmem S5632x256 .bf16) (h9 : a9.IsWhole) (a10 : Memref sig .tc .vmem S256x1024 .f32) (h10 : a10.IsWhole)
  (a11 : Memref sig .tc .vmem S256x1024 .bf16) (h11 : a11.IsWhole) (a12 : Memref sig .tc .vmem S1x1024 .f32) (h12 : a12.IsWhole)
  (a13 : Memref sig .tc .vmem S1x1 .f32) (h13 : a13.IsWhole) (a14 : Memref sig .tc .vmem S1x1024 .f32) (h14 : a14.IsWhole)

theorem outA8 (hc0 : cond0_0 i) (hc1 : cond0_1 i) (a : Fin 5632) (p : Fin 256) :
    out0_A_8 c i a1 h1 a2 h2 a3 h3 a4 h4 a5 h5 a6 h6 a7 h7 a8 h8 a9 h9 a10 h10 a11 h11
      a12 h12 a13 h13 a14 h14 hc0 hc1 x0 x1 x2 x3 x4 x5 x6 x7 (ix2 a p) =
      hid (row x0 p) (fin1 x1) (row x2 p) (both x5 p) (vf x7) a := by
  unfold out0_A_8
  rw [View.read_writes_eq_canon _ _ _ (cover0_A_8 c i a1 h1 a2 h2 a3 h3 a4 h4 a5 h5 a6 h6 a7 h7 a8 h8 a9 h9 a10 h10 a11 h11
      a12 h12 a13 h13 a14 h14 hc0 hc1 x0 x1 x2 x3 x4 x5 x6 x7)]
  refine View.canon_eq_of_allAt _ _ _ (cover0_A_8 c i a1 h1 a2 h2 a3 h3 a4 h4 a5 h5 a6 h6 a7 h7 a8 h8 a9 h9 a10 h10 a11 h11
      a12 h12 a13 h13 a14 h14 hc0 hc1 x0 x1 x2 x3 x4 x5 x6 x7 (ix2 a p)) ?_
  unfold kernelRun0_A
  dsimp only
  sl_unfold_words
  simp only [View.readCov_eq_canon', View.canon_unit_zero (S := S1x1024) hz, View.canon_unit_zero (S := S1x1) hz]
  simp only [View.readAt_eq_ld, h1.read_unread, h2.read_unread, h3.read_unread, h4.read_unread, h5.read_unread, h6.read_unread, h7.read_unread, h8.read_unread,
    View.ld_unit_zero (S := S256x1024) hz, View.ld_unit_zero (S := S1x1x1024) hz3, View.ld_unit_zero (S := S1x1024) hz,
    View.ld_unit_zero (S := S1x1) hz]
  repeat' refine View.allAt_cons_unit _ _ _ _ _ (fun z hz => ?_) ?_
  rotate_right
  · exact View.allAt_nil _ _
  all_goals
    obtain ⟨b, r, rfl⟩ := (⟨z 0, z 1, eq_ix2 z⟩ : ∃ b r, z = ix2 b r)
    obtain rfl : r = p := Fin.ext ((hz 1).trans (Nat.zero_add _)).symm
    have e : a.val = _ + b.val := hz 0
    simp only [Matrix.cons_val_one, Matrix.cons_val_zero, Matrix.cons_val_fin_one] at e
    pointwise [k0_pay13, k0_pay14, k0_pay15, k0_pay16, k0_pay17, k0_pay18, k0_pay19, k0_pay20, k0_pay21,
      k0_pay23, k0_pay24, k0_pay25, k0_pay26, k0_pay27, k0_pay28, k0_pay29, k0_pay30, k0_pay32, k0_pay33, k0_pay34, k0_pay35, k0_pay36,
      k0_pay37, k0_pay38, k0_pay40, k0_pay41, k0_pay42, k0_pay43, k0_pay44, k0_pay45, k0_pay46]
    simp only [pay11_apply, zero_sub]
    first
      | exact hid_gate _ _ _ (both x5 r) (vf x7) _ _ _ _ (by dsimp only; omega) (by dsimp only; omega) (by dsimp only; omega)
      | exact hid_up _ _ _ (both x5 r) (vf x7) _ _ _ (by dsimp only; omega) (by dsimp only; omega)

theorem outA9 (hc0 : cond0_0 i) (hc1 : cond0_1 i) :
    out0_A_9 c i a1 h1 a2 h2 a3 h3 a4 h4 a5 h5 a6 h6 a7 h7 a8 h8 a9 h9 a10 h10 a11 h11
      a12 h12 a13 h13 a14 h14 hc0 hc1 x0 x1 x2 x3 x4 x5 x6 x7 =
      k0_pay50 (k0_pay10 x0 (k0_pay4 x0) (k0_pay8 x0 x1 x2) x1) (sum4 x0 x2 x1 x5 x6 x7) x3 x4 := by
  unfold out0_A_9
  rw [View.read_writes_eq_canon _ _ _ (cover0_A_9 c i a1 h1 a2 h2 a3 h3 a4 h4 a5 h5 a6 h6 a7 h7 a8 h8 a9 h9 a10 h10 a11 h11
      a12 h12 a13 h13 a14 h14 hc0 hc1 x0 x1 x2 x3 x4 x5 x6 x7)]
  unfold kernelRun0_A
  dsimp only
  sl_unfold_words
  rw [View.canon_unit_zero (S := S256x1024) hz]
  simp only [View.readCov_eq_canon', View.canon_unit_zero (S := S1x1024) hz, View.canon_unit_zero (S := S1x1) hz]
  simp only [View.readAt_eq_ld, h1.read_unread, h2.read_unread, h3.read_unread, h4.read_unread, h5.read_unread, h6.read_unread, h7.read_unread, h8.read_unread,
    View.ld_unit_zero (S := S256x1024) hz, View.ld_unit_zero (S := S1x1x1024) hz3, View.ld_unit_zero (S := S1x1024) hz,
    View.ld_unit_zero (S := S1x1) hz]
  unfold sum4
  with_reducible rfl

theorem outA10 (hc0 : cond0_0 i) (hc1 : cond0_1 i) :
    out0_A_10 c i a1 h1 a2 h2 a3 h3 a4 h4 a5 h5 a6 h6 a7 h7 a8 h8 a9 h9 a10 h10 a11 h11
      a12 h12 a13 h13 a14 h14 hc0 hc1 x0 x1 x2 x3 x4 x5 x6 x7 =
      k0_pay11 x0 (k0_pay4 x0) (k0_pay8 x0 x1 x2) x1 := by
  unfold out0_A_10
  rw [View.read_writes_eq_canon _ _ _ (cover0_A_10 c i a1 h1 a2 h2 a3 h3 a4 h4 a5 h5 a6 h6 a7 h7 a8 h8 a9 h9 a10 h10 a11 h11
      a12 h12 a13 h13 a14 h14 hc0 hc1 x0 x1 x2 x3 x4 x5 x6 x7)]
  unfold kernelRun0_A
  dsimp only
  sl_unfold_words
  rw [View.canon_unit_zero (S := S256x1024) hz]
  simp only [View.readCov_eq_canon', View.canon_unit_zero (S := S1x1024) hz, View.canon_unit_zero (S := S1x1) hz]
  simp only [View.readAt_eq_ld, h1.read_unread, h2.read_unread, h3.read_unread, h4.read_unread, h5.read_unread, h6.read_unread, h7.read_unread, h8.read_unread,
    View.ld_unit_zero (S := S256x1024) hz, View.ld_unit_zero (S := S1x1x1024) hz3, View.ld_unit_zero (S := S1x1024) hz,
    View.ld_unit_zero (S := S1x1) hz]

theorem outA11 (hc0 : cond0_0 i) (hc1 : cond0_1 i) :
    out0_A_11 c i a1 h1 a2 h2 a3 h3 a4 h4 a5 h5 a6 h6 a7 h7 a8 h8 a9 h9 a10 h10 a11 h11
      a12 h12 a13 h13 a14 h14 hc0 hc1 x0 x1 x2 x3 x4 x5 x6 x7 =
      k0_pay49 (sum4 x0 x2 x1 x5 x6 x7) x3 (k0_pay1 (F := Ideal)) := by
  unfold out0_A_11
  rw [View.read_writes_eq_canon _ _ _ (cover0_A_11 c i a1 h1 a2 h2 a3 h3 a4 h4 a5 h5 a6 h6 a7 h7 a8 h8 a9 h9 a10 h10 a11 h11
      a12 h12 a13 h13 a14 h14 hc0 hc1 x0 x1 x2 x3 x4 x5 x6 x7)]
  unfold kernelRun0_A
  dsimp only
  sl_unfold_words
  rw [View.canon_cons_unit_zero (S := S1x1024) hz]
  simp only [View.readCov_eq_canon', View.canon_unit_zero (S := S1x1024) hz, View.canon_unit_zero (S := S1x1) hz]
  simp only [View.readAt_eq_ld, h1.read_unread, h2.read_unread, h3.read_unread, h4.read_unread, h5.read_unread, h6.read_unread, h7.read_unread, h8.read_unread,
    View.ld_unit_zero (S := S256x1024) hz, View.ld_unit_zero (S := S1x1x1024) hz3, View.ld_unit_zero (S := S1x1024) hz,
    View.ld_unit_zero (S := S1x1) hz]
  rw [← row1_eq (k0_pay1 (F := Ideal))]
  conv_lhs => rw [row1_eq]
  conv_rhs => unfold row1 sum4

theorem outA12 (hc0 : cond0_0 i) (hc1 : cond0_1 i) :
    out0_A_12 c i a1 h1 a2 h2 a3 h3 a4 h4 a5 h5 a6 h6 a7 h7 a8 h8 a9 h9 a10 h10 a11 h11
      a12 h12 a13 h13 a14 h14 hc0 hc1 x0 x1 x2 x3 x4 x5 x6 x7 =
      k0_pay7 x0 x1 x2 (k0_pay2 (F := Ideal)) := by
  unfold out0_A_12
  rw [View.read_writes_eq_canon _ _ _ (cover0_A_12 c i a1 h1 a2 h2 a3 h3 a4 h4 a5 h5 a6 h6 a7 h7 a8 h8 a9 h9 a10 h10 a11 h11
      a12 h12 a13 h13 a14 h14 hc0 hc1 x0 x1 x2 x3 x4 x5 x6 x7)]
  unfold kernelRun0_A
  dsimp only
  sl_unfold_words
  rw [View.canon_cons_unit_zero (S := S1x1) hz]
  simp only [View.readCov_eq_canon', View.canon_unit_zero (S := S1x1024) hz, View.canon_unit_zero (S := S1x1) hz]
  simp only [View.readAt_eq_ld, h1.read_unread, h2.read_unread, h3.read_unread, h4.read_unread, h5.read_unread, h6.read_unread, h7.read_unread, h8.read_unread,
    View.ld_unit_zero (S := S256x1024) hz, View.ld_unit_zero (S := S1x1x1024) hz3, View.ld_unit_zero (S := S1x1024) hz,
    View.ld_unit_zero (S := S1x1) hz]
  rw [← one1_eq (k0_pay2 (F := Ideal))]
  conv_lhs => rw [one1_eq]
  conv_rhs => unfold one1

theorem outA13 (hc0 : cond0_0 i) (hc1 : cond0_1 i) :
    out0_A_13 c i a1 h1 a2 h2 a3 h3 a4 h4 a5 h5 a6 h6 a7 h7 a8 h8 a9 h9 a10 h10 a11 h11
      a12 h12 a13 h13 a14 h14 hc0 hc1 x0 x1 x2 x3 x4 x5 x6 x7 =
      k0_pay9 (k0_pay5 x0) (k0_pay8 x0 x1 x2) (k0_pay3 (F := Ideal)) := by
  unfold out0_A_13
  rw [View.read_writes_eq_canon _ _ _ (cover0_A_13 c i a1 h1 a2 h2 a3 h3 a4 h4 a5 h5 a6 h6 a7 h7 a8 h8 a9 h9 a10 h10 a11 h11
      a12 h12 a13 h13 a14 h14 hc0 hc1 x0 x1 x2 x3 x4 x5 x6 x7)]
  unfold kernelRun0_A
  dsimp only
  sl_unfold_words
  rw [View.canon_cons_unit_zero (S := S1x1024) hz]
  simp only [View.readCov_eq_canon', View.canon_unit_zero (S := S1x1024) hz, View.canon_unit_zero (S := S1x1) hz]
  simp only [View.readAt_eq_ld, h1.read_unread, h2.read_unread, h3.read_unread, h4.read_unread, h5.read_unread, h6.read_unread, h7.read_unread, h8.read_unread,
    View.ld_unit_zero (S := S256x1024) hz, View.ld_unit_zero (S := S1x1x1024) hz3, View.ld_unit_zero (S := S1x1024) hz,
    View.ld_unit_zero (S := S1x1) hz]
  rw [← row1_eq (k0_pay3 (F := Ideal))]
  conv_lhs => rw [row1_eq]
  conv_rhs => unfold row1

theorem outB8 (hc0 : ¬cond0_0 i) (hc1 : ¬cond0_1 i) (a : Fin 5632) (p : Fin 256) :
    out0_B_8 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 (ix2 a p) =
      hid (row x0 p) (fin1 x1) (row x2 p) (both x5 p) (vf x7) a := by
  unfold out0_B_8
  rw [View.read_writes_eq_canon _ _ _ (cover0_B_8 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13)]
  refine View.canon_eq_of_allAt _ _ _ (cover0_B_8 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 (ix2 a p)) ?_
  unfold kernelRun0_B
  dsimp only
  sl_unfold_words
  simp only [View.readAt_eq_ld, h1.read_unread, h2.read_unread, h3.read_unread, h4.read_unread, h5.read_unread, h6.read_unread, h7.read_unread, h8.read_unread, h12.read_unread, h13.read_unread, h14.read_unread,
    View.ld_unit_zero (S := S256x1024) hz, View.ld_unit_zero (S := S1x1x1024) hz3, View.ld_unit_zero (S := S1x1024) hz,
    View.ld_unit_zero (S := S1x1) hz]
  repeat' refine View.allAt_cons_unit _ _ _ _ _ (fun z hz => ?_) ?_
  rotate_right
  · exact View.allAt_nil _ _
  all_goals
    obtain ⟨b, r, rfl⟩ := (⟨z 0, z 1, eq_ix2 z⟩ : ∃ b r, z = ix2 b r)
    obtain rfl : r = p := Fin.ext ((hz 1).trans (Nat.zero_add _)).symm
    have e : a.val = _ + b.val := hz 0
    simp only [Matrix.cons_val_one, Matrix.cons_val_zero, Matrix.cons_val_fin_one] at e
    pointwise [k0_pay13, k0_pay14, k0_pay15, k0_pay16, k0_pay17, k0_pay18, k0_pay19, k0_pay20, k0_pay21,
      k0_pay23, k0_pay24, k0_pay25, k0_pay26, k0_pay27, k0_pay28, k0_pay29, k0_pay30, k0_pay32, k0_pay33, k0_pay34, k0_pay35, k0_pay36,
      k0_pay37, k0_pay38, k0_pay40, k0_pay41, k0_pay42, k0_pay43, k0_pay44, k0_pay45, k0_pay46]
    simp only [pay11_apply, zero_sub]
    first
      | exact hid_gate _ _ _ (both x5 r) (vf x7) _ _ _ _ (by dsimp only; omega) (by dsimp only; omega) (by dsimp only; omega)
      | exact hid_up _ _ _ (both x5 r) (vf x7) _ _ _ (by dsimp only; omega) (by dsimp only; omega)

theorem outB9 (hc0 : ¬cond0_0 i) (hc1 : ¬cond0_1 i) :
    out0_B_9 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 =
      k0_pay50 (k0_pay10 x0 (k0_pay4 x0) (k0_pay8 x0 x1 x2) x1) (sum4 x0 x2 x1 x5 x6 x7) x3 x4 := by
  unfold out0_B_9
  rw [View.read_writes_eq_canon _ _ _ (cover0_B_9 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13)]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h12.read_unread, h13.read_unread, h14.read_unread,
    View.ld_unit_zero (S := S256x1024) hz, View.ld_unit_zero (S := S1x1x1024) hz3, View.ld_unit_zero (S := S1x1024) hz,
    View.ld_unit_zero (S := S1x1) hz]
  unfold sum4
  with_reducible rfl

theorem outB10 (hc0 : ¬cond0_0 i) (hc1 : ¬cond0_1 i) :
    out0_B_10 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 =
      k0_pay11 x0 (k0_pay4 x0) (k0_pay8 x0 x1 x2) x1 := by
  unfold out0_B_10
  rw [View.read_writes_eq_canon _ _ _ (cover0_B_10 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13)]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h12.read_unread, h13.read_unread, h14.read_unread,
    View.ld_unit_zero (S := S256x1024) hz, View.ld_unit_zero (S := S1x1x1024) hz3, View.ld_unit_zero (S := S1x1024) hz,
    View.ld_unit_zero (S := S1x1) hz]

theorem outB11 (hc0 : ¬cond0_0 i) (hc1 : ¬cond0_1 i) :
    out0_B_11 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 =
      k0_pay49 (sum4 x0 x2 x1 x5 x6 x7) x3 y11 := by
  unfold out0_B_11
  rw [View.read_writes_eq_canon _ _ _ (cover0_B_11 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h12.read_unread, h13.read_unread, h14.read_unread,
    View.ld_unit_zero (S := S256x1024) hz, View.ld_unit_zero (S := S1x1x1024) hz3, View.ld_unit_zero (S := S1x1024) hz,
    View.ld_unit_zero (S := S1x1) hz]
  unfold sum4
  with_reducible rfl

theorem outB12 (hc0 : ¬cond0_0 i) (hc1 : ¬cond0_1 i) :
    out0_B_12 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 =
      k0_pay7 x0 x1 x2 y12 := by
  unfold out0_B_12
  rw [View.read_writes_eq_canon _ _ _ (cover0_B_12 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13)]
  unfold kernelRun0_B
  dsimp only
  sl_unfold_words
  rw [View.canon_unit_zero (S := S1x1) hz]
  simp only [View.readAt_eq_ld, h1.read_unread, h2.read_unread, h3.read_unread, h4.read_unread, h5.read_unread, h6.read_unread, h7.read_unread, h8.read_unread, h12.read_unread, h13.read_unread, h14.read_unread,
    View.ld_unit_zero (S := S256x1024) hz, View.ld_unit_zero (S := S1x1x1024) hz3, View.ld_unit_zero (S := S1x1024) hz,
    View.ld_unit_zero (S := S1x1) hz]

theorem outB13 (hc0 : ¬cond0_0 i) (hc1 : ¬cond0_1 i) :
    out0_B_13 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13 =
      k0_pay9 (k0_pay5 x0) (k0_pay8 x0 x1 x2) y13 := by
  unfold out0_B_13
  rw [View.read_writes_eq_canon _ _ _ (cover0_B_13 c i a1 h1 a2 h2 a3 h3 a4 h4 a5 h5 a6 h6 a7 h7 a8 h8 a9 h9 a10 h10 a11 h11
      a12 h12 a13 h13 a14 h14 hc0 hc1 x0 x1 x2 x3 x4 x5 x6 x7 y11 y12 y13)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h12.read_unread, h13.read_unread, h14.read_unread,
    View.ld_unit_zero (S := S256x1024) hz, View.ld_unit_zero (S := S1x1x1024) hz3, View.ld_unit_zero (S := S1x1024) hz,
    View.ld_unit_zero (S := S1x1) hz]

end body

end Cert.KernelFfnBwdIdeal.Leaf

end
-- ==== Proof.FfnBwdArrays.lean ====
module

public import proofs.«01_k».proof.Proof.FfnBwdBody

@[expose] public section

set_option maxRecDepth 16384

noncomputable section

/-! The backward of the loss and of the feed-forward: the kernel's arrays. -/

namespace Cert.KernelFfnBwdIdeal.Leaf

open Cert.Rows Cert.KernelFfnBwdIdeal Cert.KernelFfnBwdIdeal.Gen Cert.KernelFfnBwdIdeal.Value Idealize.ShloMosaic
  Idealize.ShloMosaic.TcCoe

variable (m : (ℓ : Loc nD τ sig) → Buf (Elt Ideal) ℓ) (c : Dev nD)

/-- The six results, of the arguments. -/
def hidM : Fin 8192 → Fin 5632 → EReal := rHid (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (m ((c : Thread nD τ).loc main_arg6))
def alongM : Fin 8192 → Fin 1024 → EReal := rAlong (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (m ((c : Thread nD τ).loc main_arg6))
def topM : Fin 8192 → Fin 1024 → EReal := rTop (m ((c : Thread nD τ).loc main_arg0)) (m ((c : Thread nD τ).loc main_arg2)) (m ((c : Thread nD τ).loc main_arg1))
def gainedM : Fin 1024 → Fin 8192 → EReal := rGained (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (m ((c : Thread nD τ).loc main_arg6))
def partM : Fin 8192 → EReal := rPart (m ((c : Thread nD τ).loc main_arg0)) (m ((c : Thread nD τ).loc main_arg2)) (m ((c : Thread nD τ).loc main_arg1))
def lastM : Fin 1024 → Fin 8192 → EReal := rLast (m ((c : Thread nD τ).loc main_arg0)) (m ((c : Thread nD τ).loc main_arg2)) (m ((c : Thread nD τ).loc main_arg1))

theorem N32 (t : Fin cfg0.N) : t.val < 32 := by have := t.isLt; have : cfg0.N = 32 := N_0; omega

theorem idx : ∀ t : Fin cfg0.N,
    win0_0.index t = ![t.val, 0] ∧
    win0_1.index t = ![0, 0] ∧
    win0_2.index t = ![t.val, 0] ∧
    win0_3.index t = ![t.val, 0] ∧
    win0_4.index t = ![1, 0, 0] ∧
    win0_5.index t = ![t.val, 0] ∧
    win0_6.index t = ![0, 0] ∧
    win0_7.index t = ![0, 0] ∧
    win0_8.index t = ![0, t.val] ∧
    win0_9.index t = ![t.val, 0] ∧
    win0_10.index t = ![t.val, 0] ∧
    win0_11.index t = ![0, 0] ∧
    win0_12.index t = ![0, 0] ∧
    win0_13.index t = ![0, 0] :=
  (by decide +kernel : ∀ t : Fin grid0.N,
    win0_0.index t = ![t.val, 0] ∧
    win0_1.index t = ![0, 0] ∧
    win0_2.index t = ![t.val, 0] ∧
    win0_3.index t = ![t.val, 0] ∧
    win0_4.index t = ![1, 0, 0] ∧
    win0_5.index t = ![t.val, 0] ∧
    win0_6.index t = ![0, 0] ∧
    win0_7.index t = ![0, 0] ∧
    win0_8.index t = ![0, t.val] ∧
    win0_9.index t = ![t.val, 0] ∧
    win0_10.index t = ![t.val, 0] ∧
    win0_11.index t = ![0, 0] ∧
    win0_12.index t = ![0, 0] ∧
    win0_13.index t = ![0, 0])

/-- Row `p` of block `t`. -/
abbrev at' (t : Fin cfg0.N) (p : Fin 256) : Fin 8192 := ⟨256 * t.val + p.val, by have := N32 t; omega⟩

theorem blk0 (t : Fin cfg0.N) (p : Fin 256) : row (iblk m c 0 t) p = line (m ((c : Thread nD τ).loc main_arg0)) (at' t p) := by
  funext k
  have i := (idx t).1
  show iblk m c 0 t (ix2 p k) = m ((c : Thread nD τ).loc main_arg0) (ix2 (at' t p) k)
  rw [← V_main_arg0 m c]
  unfold iblk
  show V m c main_arg0 _ = V m c main_arg0 _
  congr 1
  blk_ext [i]

theorem blk2 (t : Fin cfg0.N) (p : Fin 256) : row (iblk m c 2 t) p = line (m ((c : Thread nD τ).loc main_arg2)) (at' t p) := by
  funext k
  have i := (idx t).2.2.1
  show iblk m c 2 t (ix2 p k) = m ((c : Thread nD τ).loc main_arg2) (ix2 (at' t p) k)
  rw [← V_main_arg2 m c]
  unfold iblk
  show V m c main_arg2 _ = V m c main_arg2 _
  congr 1
  blk_ext [i]

theorem blk3 (t : Fin cfg0.N) (p : Fin 256) : row (iblk m c 3 t) p = line (m ((c : Thread nD τ).loc main_arg3)) (at' t p) := by
  funext k
  have i := (idx t).2.2.2.1
  show iblk m c 3 t (ix2 p k) = m ((c : Thread nD τ).loc main_arg3) (ix2 (at' t p) k)
  rw [← V_main_arg3 m c]
  unfold iblk
  show V m c main_arg3 _ = V m c main_arg3 _
  congr 1
  blk_ext [i]

theorem blk1 (t : Fin cfg0.N) : fin1 (iblk m c 1 t) = ends (m ((c : Thread nD τ).loc main_arg1)) := by
  funext k
  have i := (idx t).2.1
  show iblk m c 1 t (ix2 0 k) = m ((c : Thread nD τ).loc main_arg1) (ix1 k)
  have e : V m c main_v17 (ix2 0 k) = m ((c : Thread nD τ).loc main_arg1) (ix1 k) := by
    unfold V
    after_reads_at
  rw [← e]
  unfold iblk
  show V m c main_v17 _ = V m c main_v17 _
  congr 1
  blk_ext [i]

theorem blk4 (t : Fin cfg0.N) : gain (iblk m c 4 t) = gains (m ((c : Thread nD τ).loc main_arg4)) := by
  funext k
  have i := (idx t).2.2.2.2.1
  show iblk m c 4 t (ix3 0 0 k) = m ((c : Thread nD τ).loc main_arg4) (ix2 1 k)
  have e : V m c main_v18 (ix3 1 0 k) = m ((c : Thread nD τ).loc main_arg4) (ix2 1 k) := by
    unfold V
    after_reads_at
  rw [← e]
  unfold iblk
  show V m c main_v18 _ = V m c main_v18 _
  congr 1
  blk_ext [i]

theorem blk5 (t : Fin cfg0.N) (p : Fin 256) : both (iblk m c 5 t) p = halves (m ((c : Thread nD τ).loc main_arg3)) (m ((c : Thread nD τ).loc main_arg4)) (m ((c : Thread nD τ).loc main_arg5)) (at' t p) := by
  funext a
  have i := (idx t).2.2.2.2.2.1
  show iblk m c 5 t (ix2 p a) = halves (m ((c : Thread nD τ).loc main_arg3)) (m ((c : Thread nD τ).loc main_arg4)) (m ((c : Thread nD τ).loc main_arg5)) (at' t p) a
  have e : V m c main_v16 (ix2 (at' t p) a) = halves (m ((c : Thread nD τ).loc main_arg3)) (m ((c : Thread nD τ).loc main_arg4)) (m ((c : Thread nD τ).loc main_arg5)) (at' t p) a := by
    unfold V
    after_reads_at
    rfl
  rw [← e]
  unfold iblk
  show V m c main_v16 _ = V m c main_v16 _
  congr 1
  blk_ext [i]

theorem blk6 (t : Fin cfg0.N) : wf (iblk m c 6 t) = first (m ((c : Thread nD τ).loc main_arg5)) := by
  funext a k
  have i := (idx t).2.2.2.2.2.2.1
  show iblk m c 6 t (ix2 a k) = m ((c : Thread nD τ).loc main_arg5) (ix2 k a)
  have e : V m c main_v20 (ix2 a k) = m ((c : Thread nD τ).loc main_arg5) (ix2 k a) := by
    unfold V
    after_reads_at
  rw [← e]
  unfold iblk
  show V m c main_v20 _ = V m c main_v20 _
  congr 1
  blk_ext [i]

theorem blk7 (t : Fin cfg0.N) : vf (iblk m c 7 t) = second (m ((c : Thread nD τ).loc main_arg6)) := by
  funext a k
  have i := (idx t).2.2.2.2.2.2.2.1
  show iblk m c 7 t (ix2 a k) = m ((c : Thread nD τ).loc main_arg6) (ix2 a k)
  have e : V m c main_v21 (ix2 a k) = m ((c : Thread nD τ).loc main_arg6) (ix2 a k) := by
    unfold V
    after_reads_at
  rw [← e]
  unfold iblk
  show V m c main_v21 _ = V m c main_v21 _
  congr 1
  blk_ext [i]

theorem point9 (t : Fin cfg0.N) (p : Fin 256) (k : Fin 1024) :
    k0_pay50 (k0_pay10 (iblk m c 0 t) (k0_pay4 (iblk m c 0 t)) (k0_pay8 (iblk m c 0 t) (iblk m c 1 t) (iblk m c 2 t)) (iblk m c 1 t))
      (sum4 (iblk m c 0 t) (iblk m c 2 t) (iblk m c 1 t) (iblk m c 5 t) (iblk m c 6 t) (iblk m c 7 t)) (iblk m c 3 t) (iblk m c 4 t) (ix2 p k) = alongM m c (at' t p) k := by
  rw [pay50_apply, blk0, blk1, blk2, blk3, blk4, blk5, blk6, blk7]
  rfl
theorem point10 (t : Fin cfg0.N) (p : Fin 256) (k : Fin 1024) :
    k0_pay11 (iblk m c 0 t) (k0_pay4 (iblk m c 0 t)) (k0_pay8 (iblk m c 0 t) (iblk m c 1 t) (iblk m c 2 t)) (iblk m c 1 t) (ix2 p k) = topM m c (at' t p) k := by
  rw [pay11_apply, blk0, blk1, blk2]
  rfl
theorem point11 (t : Fin cfg0.N) (acc : Vec Ideal S1x1024 .f32) (o : Fin 1) (k : Fin 1024) :
    k0_pay49 (sum4 (iblk m c 0 t) (iblk m c 2 t) (iblk m c 1 t) (iblk m c 5 t) (iblk m c 6 t) (iblk m c 7 t)) (iblk m c 3 t) acc (ix2 o k) =
      HAdd.hAdd (α := EReal) (acc (ix2 o k)) (∑ p, gainedM m c k (at' t p)) := by
  rw [pay49_apply]
  simp only [blk0, blk1, blk2, blk3, blk5, blk6, blk7]
  rfl
theorem point12 (t : Fin cfg0.N) (acc : Vec Ideal S1x1 .f32) (o p : Fin 1) :
    k0_pay7 (iblk m c 0 t) (iblk m c 1 t) (iblk m c 2 t) acc (ix2 o p) = HAdd.hAdd (α := EReal) (acc (ix2 o p)) (∑ p, partM m c (at' t p)) := by
  rw [pay7_apply, part_sum]
  simp only [blk0, blk1, blk2]
  rfl
theorem point13 (t : Fin cfg0.N) (acc : Vec Ideal S1x1024 .f32) (o : Fin 1) (k : Fin 1024) :
    k0_pay9 (k0_pay5 (iblk m c 0 t)) (k0_pay8 (iblk m c 0 t) (iblk m c 1 t) (iblk m c 2 t)) acc (ix2 o k) =
      HAdd.hAdd (α := EReal) (acc (ix2 o k)) (∑ p, lastM m c k (at' t p)) := by
  rw [pay9_apply]
  simp only [blk0, blk1, blk2]
  rfl

theorem outs8 (t : Fin cfg0.N) (p : Fin 256) (a : Fin 5632) : (outsAt0 m c t.val t.isLt).1 (ix2 a p) = hidM m c (at' t p) a := by
  by_cases h0 : t.val % 32 = 0
  · rw [outsAt0_A m c t h0 h0]
    dsimp only
    rw [outA8, blk0, blk1, blk2, blk5, blk7]
    rfl
  · rw [outsAt0_B m c t h0 h0]
    dsimp only
    rw [outB8, blk0, blk1, blk2, blk5, blk7]
    rfl

theorem outs9 (t : Fin cfg0.N) (p : Fin 256) (k : Fin 1024) : (outsAt0 m c t.val t.isLt).2.1 (ix2 p k) = alongM m c (at' t p) k := by
  by_cases h0 : t.val % 32 = 0
  · rw [outsAt0_A m c t h0 h0]
    dsimp only
    rw [outA9, point9]
  · rw [outsAt0_B m c t h0 h0]
    dsimp only
    rw [outB9, point9]

theorem outs10 (t : Fin cfg0.N) (p : Fin 256) (k : Fin 1024) : (outsAt0 m c t.val t.isLt).2.2.1 (ix2 p k) = topM m c (at' t p) k := by
  by_cases h0 : t.val % 32 = 0
  · rw [outsAt0_A m c t h0 h0]
    dsimp only
    rw [outA10, point10]
  · rw [outsAt0_B m c t h0 h0]
    dsimp only
    rw [outB10, point10]

theorem outs11 (n : ℕ) (hn : n < cfg0.N) (o : Fin 1) (k : Fin 1024) :
    (outsAt0 m c n hn).2.2.2.1 (ix2 o k) = upto (gainedM m c k) (256 * n + 256) := by
  induction n with
  | zero =>
    have h0 : (⟨0, hn⟩ : Fin cfg0.N).val % 32 = 0 := rfl
    rw [show outsAt0 m c 0 hn = outsAt0 m c (⟨0, hn⟩ : Fin cfg0.N).val (⟨0, hn⟩ : Fin cfg0.N).isLt from rfl, outsAt0_A m c _ h0 h0]
    dsimp only
    rw [outA11, point11, upto_add _ (256 * 0) 256 (by omega), upto_zero]
    refine congrArg₂ (· + ·) ?_ rfl
    pointwise [k0_pay1]
  | succ n ih =>
    have hN : n + 1 < 32 := N32 ⟨n + 1, hn⟩
    have h0 : ¬(⟨n + 1, hn⟩ : Fin cfg0.N).val % 32 = 0 := by dsimp only; omega
    rw [show outsAt0 m c (n + 1) hn = outsAt0 m c (⟨n + 1, hn⟩ : Fin cfg0.N).val (⟨n + 1, hn⟩ : Fin cfg0.N).isLt from rfl,
      outsAt0_B m c _ h0 h0]
    dsimp only
    rw [outB11, point11, upto_add _ (256 * (n + 1)) 256 (by omega)]
    exact congrArg₂ (· + ·) (ih (Nat.lt_of_succ_lt hn)) rfl

theorem outs12 (n : ℕ) (hn : n < cfg0.N) (o p : Fin 1) :
    (outsAt0 m c n hn).2.2.2.2.1 (ix2 o p) = upto (partM m c) (256 * n + 256) := by
  induction n with
  | zero =>
    have h0 : (⟨0, hn⟩ : Fin cfg0.N).val % 32 = 0 := rfl
    rw [show outsAt0 m c 0 hn = outsAt0 m c (⟨0, hn⟩ : Fin cfg0.N).val (⟨0, hn⟩ : Fin cfg0.N).isLt from rfl, outsAt0_A m c _ h0 h0]
    dsimp only
    rw [outA12, point12, upto_add _ (256 * 0) 256 (by omega), upto_zero]
    refine congrArg₂ (· + ·) ?_ rfl
    pointwise [k0_pay2]
  | succ n ih =>
    have hN : n + 1 < 32 := N32 ⟨n + 1, hn⟩
    have h0 : ¬(⟨n + 1, hn⟩ : Fin cfg0.N).val % 32 = 0 := by dsimp only; omega
    rw [show outsAt0 m c (n + 1) hn = outsAt0 m c (⟨n + 1, hn⟩ : Fin cfg0.N).val (⟨n + 1, hn⟩ : Fin cfg0.N).isLt from rfl,
      outsAt0_B m c _ h0 h0]
    dsimp only
    rw [outB12, point12, upto_add _ (256 * (n + 1)) 256 (by omega)]
    exact congrArg₂ (· + ·) (ih (Nat.lt_of_succ_lt hn)) rfl

theorem outs13 (n : ℕ) (hn : n < cfg0.N) (o : Fin 1) (k : Fin 1024) :
    (outsAt0 m c n hn).2.2.2.2.2 (ix2 o k) = upto (lastM m c k) (256 * n + 256) := by
  induction n with
  | zero =>
    have h0 : (⟨0, hn⟩ : Fin cfg0.N).val % 32 = 0 := rfl
    rw [show outsAt0 m c 0 hn = outsAt0 m c (⟨0, hn⟩ : Fin cfg0.N).val (⟨0, hn⟩ : Fin cfg0.N).isLt from rfl, outsAt0_A m c _ h0 h0]
    dsimp only
    rw [outA13, point13, upto_add _ (256 * 0) 256 (by omega), upto_zero]
    refine congrArg₂ (· + ·) ?_ rfl
    pointwise [k0_pay3]
  | succ n ih =>
    have hN : n + 1 < 32 := N32 ⟨n + 1, hn⟩
    have h0 : ¬(⟨n + 1, hn⟩ : Fin cfg0.N).val % 32 = 0 := by dsimp only; omega
    rw [show outsAt0 m c (n + 1) hn = outsAt0 m c (⟨n + 1, hn⟩ : Fin cfg0.N).val (⟨n + 1, hn⟩ : Fin cfg0.N).isLt from rfl,
      outsAt0_B m c _ h0 h0]
    dsimp only
    rw [outB13, point13, upto_add _ (256 * (n + 1)) 256 (by omega)]
    exact congrArg₂ (· + ·) (ih (Nat.lt_of_succ_lt hn)) rfl

theorem final8 : (dats m 0 c).arrAt 8 cfg0.N = fun i => hidM m c (i 1) (i 0) := by
  refine (dats m 0 c).arrAt_eq_of_covers 8 _ (by decide +kernel) fun t hf y => ?_
  obtain ⟨p, q, rfl⟩ : ∃ (p : Fin 5632) (q : Fin 256), y = ix2 p q := ⟨y 0, y 1, eq_ix2 y⟩
  have i := (idx t).2.2.2.2.2.2.2.2.1
  have e : ((cfg0.win 8).blk t).view.emb (ix2 p q) = ix2 p (at' t q) := by
    blk_ext [i]
  rw [e]
  blk_simp
  rw [after0_8]
  exact outs8 m c t q p

theorem final9 : (dats m 0 c).arrAt 9 cfg0.N = fun i => alongM m c (i 0) (i 1) := by
  refine (dats m 0 c).arrAt_eq_of_covers 9 _ (by decide +kernel) fun t hf y => ?_
  obtain ⟨p, q, rfl⟩ : ∃ (p : Fin 256) (q : Fin 1024), y = ix2 p q := ⟨y 0, y 1, eq_ix2 y⟩
  have i := (idx t).2.2.2.2.2.2.2.2.2.1
  have e : ((cfg0.win 9).blk t).view.emb (ix2 p q) = ix2 (at' t p) q := by
    blk_ext [i]
  rw [e]
  blk_simp
  rw [after0_9]
  exact outs9 m c t p q

theorem final10 : (dats m 0 c).arrAt 10 cfg0.N = fun i => topM m c (i 0) (i 1) := by
  refine (dats m 0 c).arrAt_eq_of_covers 10 _ (by decide +kernel) fun t hf y => ?_
  obtain ⟨p, q, rfl⟩ : ∃ (p : Fin 256) (q : Fin 1024), y = ix2 p q := ⟨y 0, y 1, eq_ix2 y⟩
  have i := (idx t).2.2.2.2.2.2.2.2.2.2.1
  have e : ((cfg0.win 10).blk t).view.emb (ix2 p q) = ix2 (at' t p) q := by
    blk_ext [i]
  rw [e]
  blk_simp
  rw [after0_10]
  exact outs10 m c t p q

theorem final11 : (dats m 0 c).arrAt 11 cfg0.N = fun i => ∑ r, gainedM m c (i 1) r := by
  refine (dats m 0 c).arrAt_eq_of_covers 11 _ (by decide +kernel) fun t hf y => ?_
  obtain ⟨p, q, rfl⟩ : ∃ (p : Fin 1) (q : Fin 1024), y = ix2 p q := ⟨y 0, y 1, eq_ix2 y⟩
  have i := (idx t).2.2.2.2.2.2.2.2.2.2.2.1
  have e : ((cfg0.win 11).blk t).view.emb (ix2 p q) = ix2 (p : Fin 1) q := by
    blk_ext [i]
  rw [e]
  blk_simp
  rw [after0_11]
  have ht : t.val = 31 := (by decide +kernel : ∀ t : Fin cfg0.N, (cfg0.win 11).flush t = true → t.val = 31) t hf
  exact (outs11 m c t.val t.isLt p q).trans (by rw [ht]; exact upto_all _)

theorem final12 : (dats m 0 c).arrAt 12 cfg0.N = fun _ => ∑ r, partM m c r := by
  refine (dats m 0 c).arrAt_eq_of_covers 12 _ (by decide +kernel) fun t hf y => ?_
  obtain ⟨p, q, rfl⟩ : ∃ (p : Fin 1) (q : Fin 1), y = ix2 p q := ⟨y 0, y 1, eq_ix2 y⟩
  blk_simp
  rw [after0_12]
  have ht : t.val = 31 := (by decide +kernel : ∀ t : Fin cfg0.N, (cfg0.win 12).flush t = true → t.val = 31) t hf
  exact (outs12 m c t.val t.isLt p q).trans (by rw [ht]; exact upto_all _)

theorem final13 : (dats m 0 c).arrAt 13 cfg0.N = fun i => ∑ r, lastM m c (i 1) r := by
  refine (dats m 0 c).arrAt_eq_of_covers 13 _ (by decide +kernel) fun t hf y => ?_
  obtain ⟨p, q, rfl⟩ : ∃ (p : Fin 1) (q : Fin 1024), y = ix2 p q := ⟨y 0, y 1, eq_ix2 y⟩
  have i := (idx t).2.2.2.2.2.2.2.2.2.2.2.2.2
  have e : ((cfg0.win 13).blk t).view.emb (ix2 p q) = ix2 (p : Fin 1) q := by
    blk_ext [i]
  rw [e]
  blk_simp
  rw [after0_13]
  have ht : t.val = 31 := (by decide +kernel : ∀ t : Fin cfg0.N, (cfg0.win 13).flush t = true → t.val = 31) t hf
  exact (outs13 m c t.val t.isLt p q).trans (by rw [ht]; exact upto_all _)

end Cert.KernelFfnBwdIdeal.Leaf

end
-- ==== Proof.FfnBwdRef.lean ====
module

public import proofs.«01_k».proof.Proof.Gen.ReferenceFfnBwdIdeal.Run
public import proofs.«01_k».proof.Proof.InprojBwd
public import proofs.«01_k».proof.Proof.Finite

@[expose] public section

set_option maxRecDepth 16384

noncomputable section

/-! The backward of the loss and of the feed-forward: what the reference gives, at an index. -/

namespace Cert.ReferenceFfnBwdIdeal.Leaf

open Cert.Rows Cert.ReferenceFfnBwdIdeal Cert.ReferenceFfnBwdIdeal.Gen Cert.ReferenceFfnBwdIdeal.Value Idealize.ShloMosaic
  Idealize.ShloMosaic.TcCoe Idealize.SL.Sem
open Cert.ReferenceInprojBwdIdeal.Leaf (squares' slopes' gained' gains' squares_apply slopes_apply gained_apply gains_apply)

variable (V0 : Valuation τ sig (Elt Ideal))

theorem v6_apply (r : Fin 8192) : res_main_v6 V0 (ix2 r 0) = square (line (V0 (Proc.devRef .tc main_arg0)) r) :=
  squares_apply (V0 (Proc.devRef .tc main_arg0)) r
theorem v60_apply (r : Fin 8192) : res_main_v60 V0 (ix2 r 0) = square (line (V0 (Proc.devRef .tc main_arg3)) r) :=
  squares_apply (V0 (Proc.devRef .tc main_arg3)) r
theorem v16_apply (r : Fin 8192) (k : Fin 1024) : res_main_v16 V0 (ix2 r k) = miss (line (V0 (Proc.devRef .tc main_arg0)) r) (ends (V0 (Proc.devRef .tc main_arg1))) (line (V0 (Proc.devRef .tc main_arg2)) r) k := by
  pointwise [res_main_v16, res_main_v12, res_main_v13, res_main_v7]
  simp only [v6_apply, ← scale_eq]
  rfl
theorem v30_apply (r : Fin 8192) (k : Fin 1024) : res_main_v30 V0 (ix2 r k) = pull (line (V0 (Proc.devRef .tc main_arg0)) r) (ends (V0 (Proc.devRef .tc main_arg1))) (line (V0 (Proc.devRef .tc main_arg2)) r) k := by
  pointwise [res_main_v30]
  rw [v16_apply]
  have e := pull_eq (line (V0 (Proc.devRef .tc main_arg0)) r) (ends (V0 (Proc.devRef .tc main_arg1))) (line (V0 (Proc.devRef .tc main_arg2)) r) k
  rw [mul_one] at e
  exact e
theorem v35_apply (r : Fin 8192) (k : Fin 1024) : res_main_v35 V0 (ix2 r k) =
    pull (line (V0 (Proc.devRef .tc main_arg0)) r) (ends (V0 (Proc.devRef .tc main_arg1))) (line (V0 (Proc.devRef .tc main_arg2)) r) k * ends (V0 (Proc.devRef .tc main_arg1)) k := by
  pointwise [res_main_v35, res_main_v13]
  rw [v30_apply]
theorem v50_eq : res_main_v50 V0 = addf (addf
    (mulf (res_main_v35 V0) (broadcastInDim S8192x1024 ![0, 1] bcast_S8192x1_S8192x1024_0_1 (Host.rsqrt (squares' (V0 (Proc.devRef .tc main_arg0))))))
    (mulf (V0 (Proc.devRef .tc main_arg0)) (slopes' (V0 (Proc.devRef .tc main_arg0)) (res_main_v35 V0) (squares' (V0 (Proc.devRef .tc main_arg0))))))
    (mulf (slopes' (V0 (Proc.devRef .tc main_arg0)) (res_main_v35 V0) (squares' (V0 (Proc.devRef .tc main_arg0)))) (V0 (Proc.devRef .tc main_arg0))) := rfl
theorem v50_apply (r : Fin 8192) (k : Fin 1024) : res_main_v50 V0 (ix2 r k) = rTop (V0 (Proc.devRef .tc main_arg0)) (V0 (Proc.devRef .tc main_arg2)) (V0 (Proc.devRef .tc main_arg1)) r k := by
  rw [v50_eq]
  unfold rTop
  rw [top_eq]
  pointwise []
  simp only [slopes_apply, squares_apply, ← scale_eq, v35_apply]
theorem v71_apply (r : Fin 8192) (a : Fin 5632) : res_main_v71 V0 (ix2 r a) = halves (V0 (Proc.devRef .tc main_arg3)) (V0 (Proc.devRef .tc main_arg4)) (V0 (Proc.devRef .tc main_arg5)) r a := by
  pointwise [res_main_v71, res_main_v66, res_main_v67, res_main_v61]
  simp only [v60_apply, ← scale_eq, add_zero]
  rfl
theorem v78_apply (r : Fin 8192) (b : Fin 2816) : res_main_v78 V0 (ix2 r b) =
    ∑ k, top (line (V0 (Proc.devRef .tc main_arg0)) r) (ends (V0 (Proc.devRef .tc main_arg1))) (line (V0 (Proc.devRef .tc main_arg2)) r) k * second (V0 (Proc.devRef .tc main_arg6)) b k := by
  pointwise [res_main_v78]
  simp only [v50_apply]
  rfl

section real
variable (hf : ∀ k, IsReal (ends (V0 (Proc.devRef .tc main_arg1)) k)) (hg : ∀ k, IsReal (gains (V0 (Proc.devRef .tc main_arg4)) k)) (ht : ∀ r k, IsReal (line (V0 (Proc.devRef .tc main_arg2)) r k))
  (hw : ∀ a k, IsReal (first (V0 (Proc.devRef .tc main_arg5)) a k)) (hv : ∀ a k, IsReal (second (V0 (Proc.devRef .tc main_arg6)) a k))
include hf hg ht hw hv

theorem v82_apply (r : Fin 8192) (a : Fin 5632) : res_main_v82 V0 (ix2 r a) = rHid (V0 (Proc.devRef .tc main_arg0)) (V0 (Proc.devRef .tc main_arg2)) (V0 (Proc.devRef .tc main_arg3)) (V0 (Proc.devRef .tc main_arg1)) (V0 (Proc.devRef .tc main_arg4)) (V0 (Proc.devRef .tc main_arg5)) (V0 (Proc.devRef .tc main_arg6)) r a := by
  pointwise [res_main_v82, res_main_v80, res_main_v74_0, res_main_v74_2, res_main_v72, res_main_v73]
  simp only [v71_apply, v78_apply]
  unfold rHid hid glu
  have hz : ∀ a, IsReal (halves (V0 (Proc.devRef .tc main_arg3)) (V0 (Proc.devRef .tc main_arg4)) (V0 (Proc.devRef .tc main_arg5)) r a) := IsReal.proj (line (V0 (Proc.devRef .tc main_arg3)) r) hg hw
  split_ifs with h
  · have e := dgate_eq (hz ⟨a.val, by omega⟩) (hz ⟨2816 + a.val, by omega⟩)
      (.sum fun k => .mul (IsReal.top (line (V0 (Proc.devRef .tc main_arg0)) r) hf (ht r) k) (hv ⟨a.val, h⟩ k))
    unfold sig at e
    exact e
  all_goals
    unfold dup sig
    exact mul_comm (G := EReal) _ _
theorem v83_apply (r : Fin 8192) (k : Fin 1024) : res_main_v83 V0 (ix2 r k) =
    down (line (V0 (Proc.devRef .tc main_arg0)) r) (ends (V0 (Proc.devRef .tc main_arg1))) (line (V0 (Proc.devRef .tc main_arg2)) r) (halves (V0 (Proc.devRef .tc main_arg3)) (V0 (Proc.devRef .tc main_arg4)) (V0 (Proc.devRef .tc main_arg5)) r) (first (V0 (Proc.devRef .tc main_arg5))) (second (V0 (Proc.devRef .tc main_arg6))) k := by
  pointwise [res_main_v83]
  simp only [v82_apply V0 hf hg ht hw hv]
  rfl

theorem fun0 : truncf .bf16 (transpose S5632x8192 [1, 0] (res_main_v82 V0) transposes_S8192x5632_S5632x8192_1_0) bitsLt_bf16_f32 =
    fun i => rHid (V0 (Proc.devRef .tc main_arg0)) (V0 (Proc.devRef .tc main_arg2)) (V0 (Proc.devRef .tc main_arg3)) (V0 (Proc.devRef .tc main_arg1)) (V0 (Proc.devRef .tc main_arg4)) (V0 (Proc.devRef .tc main_arg5)) (V0 (Proc.devRef .tc main_arg6)) (i 1) (i 0) := by
  funext i
  obtain ⟨a, r, rfl⟩ : ∃ (a : Fin 5632) (r : Fin 8192), i = ix2 a r := ⟨i 0, i 1, eq_ix2 i⟩
  pointwise []
  exact v82_apply V0 hf hg ht hw hv r a

theorem v88_eq : res_main_v88 V0 = gained' (res_main_v83 V0) (V0 (Proc.devRef .tc main_arg4)) := rfl
theorem fun1 : addf (addf (addf (res_main_v50 V0) (mulf (res_main_v88 V0)
      (broadcastInDim S8192x1024 ![0, 1] bcast_S8192x1_S8192x1024_0_1 (res_main_v61 V0)))) (mulf (V0 (Proc.devRef .tc main_arg3)) (res_main_v100 V0)))
      (mulf (res_main_v100 V0) (V0 (Proc.devRef .tc main_arg3))) = fun i => rAlong (V0 (Proc.devRef .tc main_arg0)) (V0 (Proc.devRef .tc main_arg2)) (V0 (Proc.devRef .tc main_arg3)) (V0 (Proc.devRef .tc main_arg1)) (V0 (Proc.devRef .tc main_arg4)) (V0 (Proc.devRef .tc main_arg5)) (V0 (Proc.devRef .tc main_arg6)) (i 0) (i 1) := by
  have e : addf (addf (addf (res_main_v50 V0) (mulf (res_main_v88 V0)
      (broadcastInDim S8192x1024 ![0, 1] bcast_S8192x1_S8192x1024_0_1 (res_main_v61 V0)))) (mulf (V0 (Proc.devRef .tc main_arg3)) (res_main_v100 V0)))
      (mulf (res_main_v100 V0) (V0 (Proc.devRef .tc main_arg3))) = addf (addf (addf (res_main_v50 V0) (mulf (gained' (res_main_v83 V0) (V0 (Proc.devRef .tc main_arg4)))
      (broadcastInDim S8192x1024 ![0, 1] bcast_S8192x1_S8192x1024_0_1 (Host.rsqrt (squares' (V0 (Proc.devRef .tc main_arg3)))))))
      (mulf (V0 (Proc.devRef .tc main_arg3)) (slopes' (V0 (Proc.devRef .tc main_arg3)) (gained' (res_main_v83 V0) (V0 (Proc.devRef .tc main_arg4))) (squares' (V0 (Proc.devRef .tc main_arg3))))))
      (mulf (slopes' (V0 (Proc.devRef .tc main_arg3)) (gained' (res_main_v83 V0) (V0 (Proc.devRef .tc main_arg4))) (squares' (V0 (Proc.devRef .tc main_arg3)))) (V0 (Proc.devRef .tc main_arg3))) := rfl
  rw [e]
  funext i
  obtain ⟨r, k, rfl⟩ : ∃ (r : Fin 8192) (k : Fin 1024), i = ix2 r k := ⟨i 0, i 1, eq_ix2 i⟩
  show _ = rAlong (V0 (Proc.devRef .tc main_arg0)) (V0 (Proc.devRef .tc main_arg2)) (V0 (Proc.devRef .tc main_arg3)) (V0 (Proc.devRef .tc main_arg1)) (V0 (Proc.devRef .tc main_arg4)) (V0 (Proc.devRef .tc main_arg5)) (V0 (Proc.devRef .tc main_arg6)) r k
  unfold rAlong along
  rw [back_eq]
  pointwise []
  simp only [slopes_apply, squares_apply, ← scale_eq, gained_apply, v50_apply, v83_apply V0 hf hg ht hw hv, mul_comm (line (V0 (Proc.devRef .tc main_arg3)) r _)]
  rfl
theorem fun3 : gains' (V0 (Proc.devRef .tc main_arg3)) (res_main_v83 V0) = fun i => ∑ r : Fin 8192, rGained (V0 (Proc.devRef .tc main_arg0)) (V0 (Proc.devRef .tc main_arg2)) (V0 (Proc.devRef .tc main_arg3)) (V0 (Proc.devRef .tc main_arg1)) (V0 (Proc.devRef .tc main_arg4)) (V0 (Proc.devRef .tc main_arg5)) (V0 (Proc.devRef .tc main_arg6)) (i 1) r := by
  funext i
  obtain ⟨o, k, rfl⟩ : ∃ (o : Fin 1) (k : Fin 1024), i = ix2 o k := ⟨i 0, i 1, eq_ix2 i⟩
  rw [gains_apply]
  simp only [v83_apply V0 hf hg ht hw hv]
  rfl
end real

theorem fun2 : truncf .bf16 (res_main_v50 V0) bitsLt_bf16_f32 = fun i => rTop (V0 (Proc.devRef .tc main_arg0)) (V0 (Proc.devRef .tc main_arg2)) (V0 (Proc.devRef .tc main_arg1)) (i 0) (i 1) := by
  funext i
  obtain ⟨r, k, rfl⟩ : ∃ (r : Fin 8192) (k : Fin 1024), i = ix2 r k := ⟨i 0, i 1, eq_ix2 i⟩
  pointwise []
  exact v50_apply V0 r k
theorem fun4 : shapeCast S1x1 (mulf (constant S_ .f32 0x3F000000#32) (Host.reduceAdd (Host.divf (Host.reduceAdd (mulf (res_main_v16 V0)
      (res_main_v16 V0)) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))
      shapeCasts_S_S1x1 = fun _ => ∑ r : Fin 8192, rPart (V0 (Proc.devRef .tc main_arg0)) (V0 (Proc.devRef .tc main_arg2)) (V0 (Proc.devRef .tc main_arg1)) r := by
  funext i
  obtain ⟨o, k, rfl⟩ : ∃ (o : Fin 1) (k : Fin 1), i = ix2 o k := ⟨i 0, i 1, eq_ix2 i⟩
  pointwise []
  simp only [v16_apply]
  exact half_sum _
theorem fun5 : gains' (V0 (Proc.devRef .tc main_arg0)) (res_main_v30 V0) = fun i => ∑ r : Fin 8192, rLast (V0 (Proc.devRef .tc main_arg0)) (V0 (Proc.devRef .tc main_arg2)) (V0 (Proc.devRef .tc main_arg1)) (i 1) r := by
  funext i
  obtain ⟨o, k, rfl⟩ : ∃ (o : Fin 1) (k : Fin 1024), i = ix2 o k := ⟨i 0, i 1, eq_ix2 i⟩
  rw [gains_apply]
  simp only [v30_apply]
  exact Finset.sum_congr rfl fun r _ => mul_assoc _ _ _

end Cert.ReferenceFfnBwdIdeal.Leaf

end
-- ==== Proof.FfnBwd.lean ====
module

public import proofs.«01_k».proof.Defs
public import proofs.«01_k».proof.Proof.FfnBwdArrays
public import proofs.«01_k».proof.Proof.FfnBwdRef

@[expose] public section

set_option maxRecDepth 16384

noncomputable section

/-! The backward of the loss and of the feed-forward: the claim. -/

namespace Cert.Proof.FfnBwd

open Cert.Rows Idealize.ShloMosaic Idealize.ShloMosaic.TcCoe Idealize.SL.Sem Idealize.ShloMosaic.StableHlo
  Cert.KernelFfnBwdIdeal.Leaf

theorem frame_reference : Cert.quiescent_ReferenceFfnBwdIdeal := fun m ρ _ =>
  (θ_run Cert.ReferenceFfnBwdIdeal.defs _ _).mono
    (fun r h => ⟨fun c => (h c).2.2.2.2.2.2, sem_eq_zero_of_no_sems (by decide) r.2⟩)
    (Cert.ReferenceFfnBwdIdeal.Value.run (F := Ideal) m ρ)

theorem algebraic : Cert.algebraic_KernelFfnBwdIdeal_ReferenceFfnBwdIdeal_pre_finite := by
  intro m ρ m' ρ' hpre hagree
  refine ⟨fun c => fun i => hidM m c (i 1) (i 0), fun c => fun i => alongM m c (i 0) (i 1), fun c => fun i => topM m c (i 0) (i 1),
    fun c => fun i => (∑ r : Fin 8192, gainedM m c (i 1) r : EReal), fun c => fun _ => (∑ r : Fin 8192, partM m c r : EReal),
    fun c => fun i => (∑ r : Fin 8192, lastM m c (i 1) r : EReal), ?_, ?_⟩
  · exact (θ_run Cert.KernelFfnBwdIdeal.defs _ _).mono (fun r h c => ⟨(h c).1.trans (final8 m c), (h c).2.1.trans (final9 m c),
      (h c).2.2.1.trans (final10 m c), (h c).2.2.2.1.trans (final11 m c), (h c).2.2.2.2.1.trans (final12 m c),
      (h c).2.2.2.2.2.1.trans (final13 m c), (h c).2.2.2.2.2.2⟩)
      (Cert.KernelFfnBwdIdeal.Value.run_blocks (F := Ideal) m ρ)
  · have hr : ∀ c, _ := fun c => reals (hpre c)
    refine (θ_run Cert.ReferenceFfnBwdIdeal.defs _ _).mono (fun r h c => ?_) (Cert.ReferenceFfnBwdIdeal.Value.run (F := Ideal) m' ρ')
    obtain ⟨a0, a1, a2, a3, a4, a5, a6⟩ := hagree c
    obtain ⟨hf, hg, ht, hw, hv⟩ := hr c
    rw [← a1] at hf
    rw [← a4] at hg
    rw [← a2] at ht
    rw [← a5] at hw
    rw [← a6] at hv
    have b0 : launchContents m' c (Proc.devRef .tc Cert.ReferenceFfnBwdIdeal.main_arg0) =
      m ((c.tc : Thread Cert.KernelFfnBwdIdeal.nD Cert.KernelFfnBwdIdeal.τ).loc Cert.KernelFfnBwdIdeal.main_arg0) := a0
    have b1 : launchContents m' c (Proc.devRef .tc Cert.ReferenceFfnBwdIdeal.main_arg1) =
      m ((c.tc : Thread Cert.KernelFfnBwdIdeal.nD Cert.KernelFfnBwdIdeal.τ).loc Cert.KernelFfnBwdIdeal.main_arg1) := a1
    have b2 : launchContents m' c (Proc.devRef .tc Cert.ReferenceFfnBwdIdeal.main_arg2) =
      m ((c.tc : Thread Cert.KernelFfnBwdIdeal.nD Cert.KernelFfnBwdIdeal.τ).loc Cert.KernelFfnBwdIdeal.main_arg2) := a2
    have b3 : launchContents m' c (Proc.devRef .tc Cert.ReferenceFfnBwdIdeal.main_arg3) =
      m ((c.tc : Thread Cert.KernelFfnBwdIdeal.nD Cert.KernelFfnBwdIdeal.τ).loc Cert.KernelFfnBwdIdeal.main_arg3) := a3
    have b4 : launchContents m' c (Proc.devRef .tc Cert.ReferenceFfnBwdIdeal.main_arg4) =
      m ((c.tc : Thread Cert.KernelFfnBwdIdeal.nD Cert.KernelFfnBwdIdeal.τ).loc Cert.KernelFfnBwdIdeal.main_arg4) := a4
    have b5 : launchContents m' c (Proc.devRef .tc Cert.ReferenceFfnBwdIdeal.main_arg5) =
      m ((c.tc : Thread Cert.KernelFfnBwdIdeal.nD Cert.KernelFfnBwdIdeal.τ).loc Cert.KernelFfnBwdIdeal.main_arg5) := a5
    have b6 : launchContents m' c (Proc.devRef .tc Cert.ReferenceFfnBwdIdeal.main_arg6) =
      m ((c.tc : Thread Cert.KernelFfnBwdIdeal.nD Cert.KernelFfnBwdIdeal.τ).loc Cert.KernelFfnBwdIdeal.main_arg6) := a6
    obtain ⟨e0, e1, e2, e3, e4, e5, e6⟩ := h c
    refine ⟨e0.trans ?_, e1.trans ?_, e2.trans ?_, e3.trans ?_, e4.trans ?_, e5.trans ?_, e6⟩
    · refine (Cert.ReferenceFfnBwdIdeal.Leaf.fun0 (launchContents m' c) hf hg ht hw hv).trans ?_
      simp only [b0, b1, b2, b3, b4, b5, b6]
      rfl
    · refine (Cert.ReferenceFfnBwdIdeal.Leaf.fun1 (launchContents m' c) hf hg ht hw hv).trans ?_
      simp only [b0, b1, b2, b3, b4, b5, b6]
      rfl
    · refine (Cert.ReferenceFfnBwdIdeal.Leaf.fun2 (launchContents m' c)).trans ?_
      simp only [b0, b1, b2, b3, b4, b5, b6]
      rfl
    · refine (Cert.ReferenceFfnBwdIdeal.Leaf.fun3 (launchContents m' c) hf hg ht hw hv).trans ?_
      simp only [b0, b1, b2, b3, b4, b5, b6]
      rfl
    · refine (Cert.ReferenceFfnBwdIdeal.Leaf.fun4 (launchContents m' c)).trans ?_
      simp only [b0, b1, b2, b3, b4, b5, b6]
      rfl
    · refine (Cert.ReferenceFfnBwdIdeal.Leaf.fun5 (launchContents m' c)).trans ?_
      simp only [b0, b1, b2, b3, b4, b5, b6]
      rfl

end Cert.Proof.FfnBwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RetGrad
public import proofs.«01_k».proof.Proof.Gen.KernelInIdeal.Value
public import proofs.«01_k».proof.Proof.Gen.ReferenceInIdeal.Run
public import proofs.«01_k».proof.Proof.Gen.KernelOutIdeal.Value
public import proofs.«01_k».proof.Proof.Gen.ReferenceOutIdeal.Run
public import proofs.«01_k».proof.Proof.Gen.KernelFfnInIdeal.Value
public import proofs.«01_k».proof.Proof.Gen.ReferenceFfnInIdeal.Run
public import proofs.«01_k».proof.Proof.Gen.KernelFfnOutIdeal.Value
public import proofs.«01_k».proof.Proof.Gen.ReferenceFfnOutIdeal.Run
public import proofs.«01_k».proof.Proof.Gen.KernelIn.Frame
public import proofs.«01_k».proof.Proof.Gen.KernelOut.Frame
public import proofs.«01_k».proof.Proof.Gen.KernelFfnIn.Frame
public import proofs.«01_k».proof.Proof.Gen.KernelFfnOut.Frame
public import proofs.«01_k».proof.Proof.In
public import proofs.«01_k».proof.Proof.Out
public import proofs.«01_k».proof.Proof.FfnIn
public import proofs.«01_k».proof.Proof.FfnOut
public import proofs.«01_k».proof.Proof.InprojBwd
public import proofs.«01_k».proof.Proof.Ffn
public import proofs.«01_k».proof.Proof.Gen.KernelInprojBwd.Frame
public import proofs.«01_k».proof.Proof.Gen.KernelInprojBwdIdeal.Value
public import proofs.«01_k».proof.Proof.Gen.ReferenceInprojBwdIdeal.Run
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Gen.KernelFfnBwd.Frame
public import proofs.«01_k».proof.Proof.Gen.KernelFfnBwdIdeal.Value
public import proofs.«01_k».proof.Proof.Gen.ReferenceFfnBwdIdeal.Run
public import proofs.«01_k».proof.Proof.FfnBwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelFfnIn.Gen.facts, Cert.KernelFfnInIdeal.Gen.facts, Cert.ReferenceFfnInIdeal.Gen.facts,
  Cert.KernelFfnOut.Gen.facts, Cert.KernelFfnOutIdeal.Gen.facts, Cert.ReferenceFfnOutIdeal.Gen.facts,
  Cert.KernelInprojBwd.Gen.facts, Cert.KernelInprojBwdIdeal.Gen.facts, Cert.ReferenceInprojBwdIdeal.Gen.facts,
  Cert.KernelFfn.Gen.facts, Cert.KernelFfnIdeal.Gen.facts, Cert.ReferenceFfnIdeal.Gen.facts,
  Cert.KernelFfnBwd.Gen.facts, Cert.KernelFfnBwdIdeal.Gen.facts, Cert.ReferenceFfnBwdIdeal.Gen.facts, Cert.Rows.facts,
  fun m ρ _ => Cert.Kernel.Gen.frame m ρ, fun m ρ _ => Cert.KernelIdeal.Gen.frame m ρ, RetGrad.frame_reference,
  fun m ρ _ => Cert.KernelIn.Gen.frame m ρ, fun m ρ _ => Cert.KernelInIdeal.Gen.frame m ρ, In.frame_reference,
  fun m ρ _ => Cert.KernelOut.Gen.frame m ρ, fun m ρ _ => Cert.KernelOutIdeal.Gen.frame m ρ, Out.frame_reference,
  fun m ρ _ => Cert.KernelFfnIn.Gen.frame m ρ, fun m ρ _ => Cert.KernelFfnInIdeal.Gen.frame m ρ, FfnIn.frame_reference,
  fun m ρ _ => Cert.KernelFfnOut.Gen.frame m ρ, fun m ρ _ => Cert.KernelFfnOutIdeal.Gen.frame m ρ, FfnOut.frame_reference,
  fun m ρ _ => Cert.KernelInprojBwd.Gen.frame m ρ, fun m ρ _ => Cert.KernelInprojBwdIdeal.Gen.frame m ρ, InprojBwd.frame_reference,
  fun m ρ _ => Cert.KernelFfn.Gen.frame m ρ, fun m ρ _ => Cert.KernelFfnIdeal.Gen.frame m ρ, Ffn.frame_reference,
  fun m ρ _ => Cert.KernelFfnBwd.Gen.frame m ρ, fun m ρ _ => Cert.KernelFfnBwdIdeal.Gen.frame m ρ,
  fun m ρ _ => Cert.KernelFfnBwdIdeal.Gen.frame m ρ, FfnBwd.frame_reference, fun m ρ _ => FfnBwd.frame_reference m ρ trivial,
  trivial, RetGrad.algebraic,
  trivial, In.algebraic, trivial, Out.algebraic, trivial, FfnIn.algebraic, trivial, FfnOut.algebraic,
  trivial, InprojBwd.algebraic, trivial, Ffn.algebraic, trivial, FfnBwd.algebraic⟩

end Cert.Proof

end
